-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S1024x384 : Shape := ⟨2, ![1024, 384]⟩
abbrev S1024x256 : Shape := ⟨2, ![1024, 256]⟩
abbrev S512x384 : Shape := ⟨2, ![512, 384]⟩
abbrev S256x384 : Shape := ⟨2, ![256, 384]⟩
abbrev S128x384 : Shape := ⟨2, ![128, 384]⟩
abbrev S512x256 : Shape := ⟨2, ![512, 256]⟩
abbrev S256x256 : Shape := ⟨2, ![256, 256]⟩
abbrev S128x256 : Shape := ⟨2, ![128, 256]⟩
abbrev S3x6 : Shape := ⟨2, ![3, 6]⟩
abbrev S6 : Shape := ⟨1, ![6]⟩
abbrev S3x4 : Shape := ⟨2, ![3, 4]⟩
abbrev S1 : Shape := ⟨1, ![1]⟩
abbrev S_ : Shape := ⟨0, ![]⟩
abbrev S1024x512 : Shape := ⟨2, ![1024, 512]⟩
abbrev S512x2048 : Shape := ⟨2, ![512, 2048]⟩
abbrev S2048x384 : Shape := ⟨2, ![2048, 384]⟩
abbrev S1x1 : Shape := ⟨2, ![1, 1]⟩
abbrev S2048x256 : Shape := ⟨2, ![2048, 256]⟩

abbrev nBuf : Space → Nat
  | .hbm => 4
  | .vmem => 29
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S2048x1024, .f32⟩
  | .hbm, ⟨3, _⟩ => ⟨S1024x1024, .f32⟩
  | .local _ .vmem, ⟨0, _⟩ => ⟨S1024x1024, .f32⟩
  | .local _ .vmem, ⟨1, _⟩ => ⟨S1024x1024, .bf16⟩
  | .local _ .vmem, ⟨2, _⟩ => ⟨S1024x2048, .f32⟩
  | .local _ .vmem, ⟨3, _⟩ => ⟨S2048x1024, .f32⟩
  | .local _ .vmem, ⟨4, _⟩ => ⟨S1024x2048, .bf16⟩
  | .local _ .vmem, ⟨5, _⟩ => ⟨S1024x384, .f32⟩
  | .local _ .vmem, ⟨6, _⟩ => ⟨S1024x384, .f32⟩
  | .local _ .vmem, ⟨7, _⟩ => ⟨S1024x256, .f32⟩
  | .local _ .vmem, ⟨8, _⟩ => ⟨S1024x384, .bf16⟩
  | .local _ .vmem, ⟨9, _⟩ => ⟨S1024x384, .bf16⟩
  | .local _ .vmem, ⟨10, _⟩ => ⟨S1024x256, .bf16⟩
  | .local _ .vmem, ⟨11, _⟩ => ⟨S512x384, .bf16⟩
  | .local _ .vmem, ⟨12, _⟩ => ⟨S256x384, .bf16⟩
  | .local _ .vmem, ⟨13, _⟩ => ⟨S128x384, .bf16⟩
  | .local _ .vmem, ⟨14, _⟩ => ⟨S512x384, .bf16⟩
  | .local _ .vmem, ⟨15, _⟩ => ⟨S256x384, .bf16⟩
  | .local _ .vmem, ⟨16, _⟩ => ⟨S128x384, .bf16⟩
  | .local _ .vmem, ⟨17, _⟩ => ⟨S512x256, .bf16⟩
  | .local _ .vmem, ⟨18, _⟩ => ⟨S256x256, .bf16⟩
  | .local _ .vmem, ⟨19, _⟩ => ⟨S128x256, .bf16⟩
  | .local _ .vmem, ⟨20, _⟩ => ⟨S512x384, .bf16⟩
  | .local _ .vmem, ⟨21, _⟩ => ⟨S256x384, .bf16⟩
  | .local _ .vmem, ⟨22, _⟩ => ⟨S128x384, .bf16⟩
  | .local _ .vmem, ⟨23, _⟩ => ⟨S512x384, .bf16⟩
  | .local _ .vmem, ⟨24, _⟩ => ⟨S256x384, .bf16⟩
  | .local _ .vmem, ⟨25, _⟩ => ⟨S128x384, .bf16⟩
  | .local _ .vmem, ⟨26, _⟩ => ⟨S512x256, .bf16⟩
  | .local _ .vmem, ⟨27, _⟩ => ⟨S256x256, .bf16⟩
  | .local _ .vmem, ⟨28, _⟩ => ⟨S128x256, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩
abbrev cc0_scratch25 : Ref sig .tc := ⟨.vmem, 25, rfl⟩
abbrev cc0_scratch26 : Ref sig .tc := ⟨.vmem, 26, rfl⟩
abbrev cc0_scratch27 : Ref sig .tc := ⟨.vmem, 27, rfl⟩
abbrev cc0_scratch28 : Ref sig .tc := ⟨.vmem, 28, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_23 : BitVec 32 := 1#32
  let v33 : BitVec 32 := Scalar.muli v9 c1_i32_23
  let v34 : BitVec 32 := Scalar.addi c0_i32_24 v33
  v34.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_26 : BitVec 32 := 1#32
  let v35 : BitVec 32 := Scalar.muli v10 c1_i32_26
  let v36 : BitVec 32 := Scalar.addi c0_i32_27 v35
  v36.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_29 : BitVec 32 := 1#32
  let v37 : BitVec 32 := Scalar.muli v11 c1_i32_29
  let v38 : BitVec 32 := Scalar.addi c0_i32_30 v37
  v38.toNat
def k0_off1 (d0 : Dev nD) : Fin 2 → Nat :=
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v102 : BitVec 32 := Scalar.subi c1_i32_84 v8
  let c512_i32_85 : BitVec 32 := 512#32
  let v103 : BitVec 32 := Scalar.muli v102 c512_i32_85
  let v113 : Index := Scalar.indexCast v103
  let c0_94 : Index := 0#32
  ![v113.toNat, 0]
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_104 : BitVec 32 := 1#32
  let v122 : BitVec 32 := Scalar.muli v9 c1_i32_104
  let v123 : BitVec 32 := Scalar.addi c0_i32_105 v122
  v123.toNat
def k0_off2 (d0 : Dev nD) (c1_i32_1 : BitVec 32) : Fin 2 → Nat :=
  let c1_i32_86 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.shrsi v2 c1_i32_1
  let c1_i32_2 : BitVec 32 := 1#32
  let v6 : BitVec 32 := Scalar.andi v5 c1_i32_2
  let v104 : BitVec 32 := Scalar.subi c1_i32_86 v6
  let c512_i32_87 : BitVec 32 := 512#32
  let v105 : BitVec 32 := Scalar.muli v104 c512_i32_87
  let v128 : Index := Scalar.indexCast v105
  let c0_106 : Index := 0#32
  ![v128.toNat, 0]
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_115 : BitVec 32 := 1#32
  let v137 : BitVec 32 := Scalar.muli v10 c1_i32_115
  let v138 : BitVec 32 := Scalar.addi c0_i32_116 v137
  v138.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_126 : BitVec 32 := 1#32
  let v152 : BitVec 32 := Scalar.muli v11 c1_i32_126
  let v153 : BitVec 32 := Scalar.addi c0_i32_127 v152
  v153.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let v158 : Index := Scalar.indexCast v108
  let c0_128 : Index := 0#32
  ![v158.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let v163 : Index := Scalar.indexCast v108
  let c0_132 : Index := 0#32
  ![v163.toNat, 0]
def k0_off5 (d0 : Dev nD) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let v167 : Index := Scalar.indexCast v109
  let c0_133 : Index := 0#32
  ![v167.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let v172 : Index := Scalar.indexCast v109
  let c0_137 : Index := 0#32
  ![v172.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let v181 : Index := Scalar.indexCast v110
  let c0_142 : Index := 0#32
  ![v181.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c1_i32_176 : BitVec 32 := 1#32
  let v203 : BitVec 32 := Scalar.subi c1_i32_176 v6
  let c256_i32 : BitVec 32 := 256#32
  let v204 : BitVec 32 := Scalar.muli v203 c256_i32
  let v205 : BitVec 32 := Scalar.addi v108 v204
  let v219 : Index := Scalar.indexCast v205
  let c0_184 : Index := 0#32
  ![v219.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c1_i32_176 : BitVec 32 := 1#32
  let v203 : BitVec 32 := Scalar.subi c1_i32_176 v6
  let c256_i32 : BitVec 32 := 256#32
  let v204 : BitVec 32 := Scalar.muli v203 c256_i32
  let v205 : BitVec 32 := Scalar.addi v108 v204
  let v218 : BitVec 32 := Scalar.subi v205 v108
  let v221 : Index := Scalar.indexCast v218
  let c0_185 : Index := 0#32
  ![v221.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c1_i32_177 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v206 : BitVec 32 := Scalar.subi c1_i32_177 v4
  let c256_i32_178 : BitVec 32 := 256#32
  let v207 : BitVec 32 := Scalar.muli v206 c256_i32_178
  let v208 : BitVec 32 := Scalar.addi v109 v207
  let v230 : Index := Scalar.indexCast v208
  let c0_188 : Index := 0#32
  ![v230.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c1_i32_177 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v206 : BitVec 32 := Scalar.subi c1_i32_177 v4
  let c256_i32_178 : BitVec 32 := 256#32
  let v207 : BitVec 32 := Scalar.muli v206 c256_i32_178
  let v208 : BitVec 32 := Scalar.addi v109 v207
  let v229 : BitVec 32 := Scalar.subi v208 v109
  let v232 : Index := Scalar.indexCast v229
  let c0_189 : Index := 0#32
  ![v232.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_179 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v209 : BitVec 32 := Scalar.subi c1_i32_179 v8
  let c256_i32_180 : BitVec 32 := 256#32
  let v210 : BitVec 32 := Scalar.muli v209 c256_i32_180
  let v211 : BitVec 32 := Scalar.addi v110 v210
  let v241 : Index := Scalar.indexCast v211
  let c0_192 : Index := 0#32
  ![v241.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_179 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v209 : BitVec 32 := Scalar.subi c1_i32_179 v8
  let c256_i32_180 : BitVec 32 := 256#32
  let v210 : BitVec 32 := Scalar.muli v209 c256_i32_180
  let v211 : BitVec 32 := Scalar.addi v110 v210
  let v240 : BitVec 32 := Scalar.subi v211 v110
  let v243 : Index := Scalar.indexCast v240
  let c0_193 : Index := 0#32
  ![v243.toNat, 0]
def k0_dev7 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_200 : BitVec 32 := 1#32
  let v251 : BitVec 32 := Scalar.muli v10 c1_i32_200
  let v252 : BitVec 32 := Scalar.addi c0_i32_201 v251
  v252.toNat
def k0_dev8 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_206 : BitVec 32 := 1#32
  let v257 : BitVec 32 := Scalar.muli v11 c1_i32_206
  let v258 : BitVec 32 := Scalar.addi c0_i32_207 v257
  v258.toNat
def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_212 : BitVec 32 := 1#32
  let v263 : BitVec 32 := Scalar.muli v9 c1_i32_212
  let v264 : BitVec 32 := Scalar.addi c0_i32_213 v263
  v264.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let v270 : Index := Scalar.indexCast v213
  let c0_214 : Index := 0#32
  ![v270.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let v269 : BitVec 32 := Scalar.subi v213 v108
  let v272 : Index := Scalar.indexCast v269
  let c0_215 : Index := 0#32
  ![v272.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let v281 : Index := Scalar.indexCast v215
  let c0_217 : Index := 0#32
  ![v281.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let v280 : BitVec 32 := Scalar.subi v215 v109
  let v283 : Index := Scalar.indexCast v280
  let c0_218 : Index := 0#32
  ![v283.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let v292 : Index := Scalar.indexCast v217
  let c0_220 : Index := 0#32
  ![v292.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let v291 : BitVec 32 := Scalar.subi v217 v110
  let v294 : Index := Scalar.indexCast v291
  let c0_221 : Index := 0#32
  ![v294.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c1_i32_256 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v320 : BitVec 32 := Scalar.subi c1_i32_256 v4
  let c128_i32 : BitVec 32 := 128#32
  let v321 : BitVec 32 := Scalar.muli v320 c128_i32
  let v322 : BitVec 32 := Scalar.addi v213 v321
  let v336 : Index := Scalar.indexCast v322
  let c0_264 : Index := 0#32
  ![v336.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c1_i32_256 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v320 : BitVec 32 := Scalar.subi c1_i32_256 v4
  let c128_i32 : BitVec 32 := 128#32
  let v321 : BitVec 32 := Scalar.muli v320 c128_i32
  let v322 : BitVec 32 := Scalar.addi v213 v321
  let v335 : BitVec 32 := Scalar.subi v322 v213
  let v338 : Index := Scalar.indexCast v335
  let c0_265 : Index := 0#32
  ![v338.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_257 : BitVec 32 := 1#32
  let c1_i32_3 : BitVec 32 := 1#32
  let v7 : BitVec 32 := Scalar.andi v2 c1_i32_3
  let v8 : BitVec 32 := Scalar.xori v7 v6
  let v323 : BitVec 32 := Scalar.subi c1_i32_257 v8
  let c128_i32_258 : BitVec 32 := 128#32
  let v324 : BitVec 32 := Scalar.muli v323 c128_i32_258
  let v325 : BitVec 32 := Scalar.addi v215 v324
  let v347 : Index := Scalar.indexCast v325
  let c0_268 : Index := 0#32
  ![v347.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_257 : BitVec 32 := 1#32
  let c1_i32_3 : BitVec 32 := 1#32
  let v7 : BitVec 32 := Scalar.andi v2 c1_i32_3
  let v8 : BitVec 32 := Scalar.xori v7 v6
  let v323 : BitVec 32 := Scalar.subi c1_i32_257 v8
  let c128_i32_258 : BitVec 32 := 128#32
  let v324 : BitVec 32 := Scalar.muli v323 c128_i32_258
  let v325 : BitVec 32 := Scalar.addi v215 v324
  let v346 : BitVec 32 := Scalar.subi v325 v215
  let v349 : Index := Scalar.indexCast v346
  let c0_269 : Index := 0#32
  ![v349.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c1_i32_259 : BitVec 32 := 1#32
  let v326 : BitVec 32 := Scalar.subi c1_i32_259 v6
  let c128_i32_260 : BitVec 32 := 128#32
  let v327 : BitVec 32 := Scalar.muli v326 c128_i32_260
  let v328 : BitVec 32 := Scalar.addi v217 v327
  let v358 : Index := Scalar.indexCast v328
  let c0_272 : Index := 0#32
  ![v358.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c1_i32_259 : BitVec 32 := 1#32
  let v326 : BitVec 32 := Scalar.subi c1_i32_259 v6
  let c128_i32_260 : BitVec 32 := 128#32
  let v327 : BitVec 32 := Scalar.muli v326 c128_i32_260
  let v328 : BitVec 32 := Scalar.addi v217 v327
  let v357 : BitVec 32 := Scalar.subi v328 v217
  let v360 : Index := Scalar.indexCast v357
  let c0_273 : Index := 0#32
  ![v360.toNat, 0]
def k0_dev10 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_280 : BitVec 32 := 1#32
  let v368 : BitVec 32 := Scalar.muli v11 c1_i32_280
  let v369 : BitVec 32 := Scalar.addi c0_i32_281 v368
  v369.toNat
def k0_dev11 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_286 : BitVec 32 := 1#32
  let v374 : BitVec 32 := Scalar.muli v9 c1_i32_286
  let v375 : BitVec 32 := Scalar.addi c0_i32_287 v374
  v375.toNat
def k0_dev12 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_292 : BitVec 32 := 1#32
  let v380 : BitVec 32 := Scalar.muli v10 c1_i32_292
  let v381 : BitVec 32 := Scalar.addi c0_i32_293 v380
  v381.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let v387 : Index := Scalar.indexCast v330
  let c0_294 : Index := 0#32
  ![v387.toNat, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let v386 : BitVec 32 := Scalar.subi v330 v213
  let v389 : Index := Scalar.indexCast v386
  let c0_295 : Index := 0#32
  ![v389.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let v398 : Index := Scalar.indexCast v332
  let c0_297 : Index := 0#32
  ![v398.toNat, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let v397 : BitVec 32 := Scalar.subi v332 v215
  let v400 : Index := Scalar.indexCast v397
  let c0_298 : Index := 0#32
  ![v400.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let v409 : Index := Scalar.indexCast v334
  let c0_300 : Index := 0#32
  ![v409.toNat, 0]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let v408 : BitVec 32 := Scalar.subi v334 v217
  let v411 : Index := Scalar.indexCast v408
  let c0_301 : Index := 0#32
  ![v411.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c0_i32_343 : BitVec 32 := 0#32
  ![v330.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c0_i32_344 : BitVec 32 := 0#32
  ![v330.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c384_i32 : BitVec 32 := 384#32
  ![v332.toNat, 384]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c0_i32_352 : BitVec 32 := 0#32
  ![v332.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c768_i32 : BitVec 32 := 768#32
  ![v334.toNat, 768]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c0_i32_360 : BitVec 32 := 0#32
  ![v334.toNat, 0]
def k0_dev13 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_365 : BitVec 32 := 1#32
  let v491 : BitVec 32 := Scalar.muli v11 c1_i32_365
  let v492 : BitVec 32 := Scalar.addi c0_i32_366 v491
  v492.toNat
def k0_dev14 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_376 : BitVec 32 := 1#32
  let v504 : BitVec 32 := Scalar.muli v9 c1_i32_376
  let v505 : BitVec 32 := Scalar.addi c0_i32_377 v504
  v505.toNat
def k0_dev15 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_387 : BitVec 32 := 1#32
  let v517 : BitVec 32 := Scalar.muli v10 c1_i32_387
  let v518 : BitVec 32 := Scalar.addi c0_i32_388 v517
  v518.toNat
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c0_i32_445 : BitVec 32 := 0#32
  ![v500.toNat, 0]
def k0_dev16 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_443 : BitVec 32 := 1#32
  let v560 : BitVec 32 := Scalar.muli v10 c1_i32_443
  let v561 : BitVec 32 := Scalar.addi c0_i32_444 v560
  v561.toNat
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c0_i32_456 : BitVec 32 := 0#32
  ![v513.toNat, 0]
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_454 : BitVec 32 := 1#32
  let v573 : BitVec 32 := Scalar.muli v11 c1_i32_454
  let v574 : BitVec 32 := Scalar.addi c0_i32_455 v573
  v574.toNat
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c0_i32_467 : BitVec 32 := 0#32
  ![v526.toNat, 0]
def k0_dev18 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_465 : BitVec 32 := 1#32
  let v586 : BitVec 32 := Scalar.muli v9 c1_i32_465
  let v587 : BitVec 32 := Scalar.addi c0_i32_466 v586
  v587.toNat
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c1_i32_370 : BitVec 32 := 1#32
  let v501 : BitVec 32 := Scalar.subi c1_i32_370 v4
  let c128_i32_371 : BitVec 32 := 128#32
  let v502 : BitVec 32 := Scalar.muli v501 c128_i32_371
  let v503 : BitVec 32 := Scalar.addi v500 v502
  let v599 : Index := Scalar.indexCast v503
  let c0_472 : Index := 0#32
  ![v599.toNat, 0]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c1_i32_370 : BitVec 32 := 1#32
  let v501 : BitVec 32 := Scalar.subi c1_i32_370 v4
  let c128_i32_371 : BitVec 32 := 128#32
  let v502 : BitVec 32 := Scalar.muli v501 c128_i32_371
  let v503 : BitVec 32 := Scalar.addi v500 v502
  let c0_i32_476 : BitVec 32 := 0#32
  ![v503.toNat, 0]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c1_i32_370 : BitVec 32 := 1#32
  let v501 : BitVec 32 := Scalar.subi c1_i32_370 v4
  let c128_i32_371 : BitVec 32 := 128#32
  let v502 : BitVec 32 := Scalar.muli v501 c128_i32_371
  let v503 : BitVec 32 := Scalar.addi v500 v502
  let c0_i32_477 : BitVec 32 := 0#32
  ![v503.toNat, 0]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c1_i32_381 : BitVec 32 := 1#32
  let v514 : BitVec 32 := Scalar.subi c1_i32_381 v8
  let c128_i32_382 : BitVec 32 := 128#32
  let v515 : BitVec 32 := Scalar.muli v514 c128_i32_382
  let v516 : BitVec 32 := Scalar.addi v513 v515
  let v610 : Index := Scalar.indexCast v516
  let c0_478 : Index := 0#32
  ![v610.toNat, 0]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c1_i32_381 : BitVec 32 := 1#32
  let v514 : BitVec 32 := Scalar.subi c1_i32_381 v8
  let c128_i32_382 : BitVec 32 := 128#32
  let v515 : BitVec 32 := Scalar.muli v514 c128_i32_382
  let v516 : BitVec 32 := Scalar.addi v513 v515
  let c384_i32_482 : BitVec 32 := 384#32
  ![v516.toNat, 384]
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c1_i32_381 : BitVec 32 := 1#32
  let v514 : BitVec 32 := Scalar.subi c1_i32_381 v8
  let c128_i32_382 : BitVec 32 := 128#32
  let v515 : BitVec 32 := Scalar.muli v514 c128_i32_382
  let v516 : BitVec 32 := Scalar.addi v513 v515
  let c0_i32_483 : BitVec 32 := 0#32
  ![v516.toNat, 0]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c1_i32_392 : BitVec 32 := 1#32
  let v527 : BitVec 32 := Scalar.subi c1_i32_392 v6
  let c128_i32_393 : BitVec 32 := 128#32
  let v528 : BitVec 32 := Scalar.muli v527 c128_i32_393
  let v529 : BitVec 32 := Scalar.addi v526 v528
  let v621 : Index := Scalar.indexCast v529
  let c0_484 : Index := 0#32
  ![v621.toNat, 0]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c1_i32_392 : BitVec 32 := 1#32
  let v527 : BitVec 32 := Scalar.subi c1_i32_392 v6
  let c128_i32_393 : BitVec 32 := 128#32
  let v528 : BitVec 32 := Scalar.muli v527 c128_i32_393
  let v529 : BitVec 32 := Scalar.addi v526 v528
  let c768_i32_488 : BitVec 32 := 768#32
  ![v529.toNat, 768]
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c1_i32_392 : BitVec 32 := 1#32
  let v527 : BitVec 32 := Scalar.subi c1_i32_392 v6
  let c128_i32_393 : BitVec 32 := 128#32
  let v528 : BitVec 32 := Scalar.muli v527 c128_i32_393
  let v529 : BitVec 32 := Scalar.addi v526 v528
  let c0_i32_489 : BitVec 32 := 0#32
  ![v529.toNat, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c0_i32_541 : BitVec 32 := 0#32
  ![v569.toNat, 0]
def k0_dev19 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_539 : BitVec 32 := 1#32
  let v662 : BitVec 32 := Scalar.muli v9 c1_i32_539
  let v663 : BitVec 32 := Scalar.addi c0_i32_540 v662
  v663.toNat
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c0_i32_552 : BitVec 32 := 0#32
  ![v582.toNat, 0]
def k0_dev20 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_550 : BitVec 32 := 1#32
  let v675 : BitVec 32 := Scalar.muli v10 c1_i32_550
  let v676 : BitVec 32 := Scalar.addi c0_i32_551 v675
  v676.toNat
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c0_i32_563 : BitVec 32 := 0#32
  ![v595.toNat, 0]
def k0_dev21 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v11 : BitVec 32 := Scalar.xori v2 c4_i32
  let c1_i32_561 : BitVec 32 := 1#32
  let v688 : BitVec 32 := Scalar.muli v11 c1_i32_561
  let v689 : BitVec 32 := Scalar.addi c0_i32_562 v688
  v689.toNat
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c1_i32_448 : BitVec 32 := 1#32
  let v570 : BitVec 32 := Scalar.subi c1_i32_448 v6
  let c256_i32_449 : BitVec 32 := 256#32
  let v571 : BitVec 32 := Scalar.muli v570 c256_i32_449
  let v572 : BitVec 32 := Scalar.addi v569 v571
  let v701 : Index := Scalar.indexCast v572
  let c0_568 : Index := 0#32
  ![v701.toNat, 0]
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c1_i32_448 : BitVec 32 := 1#32
  let v570 : BitVec 32 := Scalar.subi c1_i32_448 v6
  let c256_i32_449 : BitVec 32 := 256#32
  let v571 : BitVec 32 := Scalar.muli v570 c256_i32_449
  let v572 : BitVec 32 := Scalar.addi v569 v571
  let c0_i32_572 : BitVec 32 := 0#32
  ![v572.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c1_i32_448 : BitVec 32 := 1#32
  let v570 : BitVec 32 := Scalar.subi c1_i32_448 v6
  let c256_i32_449 : BitVec 32 := 256#32
  let v571 : BitVec 32 := Scalar.muli v570 c256_i32_449
  let v572 : BitVec 32 := Scalar.addi v569 v571
  let c0_i32_573 : BitVec 32 := 0#32
  ![v572.toNat, 0]
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c1_i32_459 : BitVec 32 := 1#32
  let v583 : BitVec 32 := Scalar.subi c1_i32_459 v4
  let c256_i32_460 : BitVec 32 := 256#32
  let v584 : BitVec 32 := Scalar.muli v583 c256_i32_460
  let v585 : BitVec 32 := Scalar.addi v582 v584
  let v712 : Index := Scalar.indexCast v585
  let c0_574 : Index := 0#32
  ![v712.toNat, 0]
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c1_i32_459 : BitVec 32 := 1#32
  let v583 : BitVec 32 := Scalar.subi c1_i32_459 v4
  let c256_i32_460 : BitVec 32 := 256#32
  let v584 : BitVec 32 := Scalar.muli v583 c256_i32_460
  let v585 : BitVec 32 := Scalar.addi v582 v584
  let c384_i32_578 : BitVec 32 := 384#32
  ![v585.toNat, 384]
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c1_i32_459 : BitVec 32 := 1#32
  let v583 : BitVec 32 := Scalar.subi c1_i32_459 v4
  let c256_i32_460 : BitVec 32 := 256#32
  let v584 : BitVec 32 := Scalar.muli v583 c256_i32_460
  let v585 : BitVec 32 := Scalar.addi v582 v584
  let c0_i32_579 : BitVec 32 := 0#32
  ![v585.toNat, 0]
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c1_i32_470 : BitVec 32 := 1#32
  let v596 : BitVec 32 := Scalar.subi c1_i32_470 v8
  let c256_i32_471 : BitVec 32 := 256#32
  let v597 : BitVec 32 := Scalar.muli v596 c256_i32_471
  let v598 : BitVec 32 := Scalar.addi v595 v597
  let v723 : Index := Scalar.indexCast v598
  let c0_580 : Index := 0#32
  ![v723.toNat, 0]
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c1_i32_470 : BitVec 32 := 1#32
  let v596 : BitVec 32 := Scalar.subi c1_i32_470 v8
  let c256_i32_471 : BitVec 32 := 256#32
  let v597 : BitVec 32 := Scalar.muli v596 c256_i32_471
  let v598 : BitVec 32 := Scalar.addi v595 v597
  let c768_i32_584 : BitVec 32 := 768#32
  ![v598.toNat, 768]
def k0_off61 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c1_i32_470 : BitVec 32 := 1#32
  let v596 : BitVec 32 := Scalar.subi c1_i32_470 v8
  let c256_i32_471 : BitVec 32 := 256#32
  let v597 : BitVec 32 := Scalar.muli v596 c256_i32_471
  let v598 : BitVec 32 := Scalar.addi v595 v597
  let c0_i32_585 : BitVec 32 := 0#32
  ![v598.toNat, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c512_i32_543 : BitVec 32 := 512#32
  let v670 : BitVec 32 := Scalar.muli v8 c512_i32_543
  let v671 : BitVec 32 := Scalar.subi v569 v670
  let c1_i32_544 : BitVec 32 := 1#32
  let v672 : BitVec 32 := Scalar.subi c1_i32_544 v8
  let c512_i32_545 : BitVec 32 := 512#32
  let v673 : BitVec 32 := Scalar.muli v672 c512_i32_545
  let v674 : BitVec 32 := Scalar.addi v671 v673
  let v764 : Index := Scalar.indexCast v674
  let c0_631 : Index := 0#32
  ![v764.toNat, 0]
def k0_off63 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c512_i32_543 : BitVec 32 := 512#32
  let v670 : BitVec 32 := Scalar.muli v8 c512_i32_543
  let v671 : BitVec 32 := Scalar.subi v569 v670
  let c1_i32_544 : BitVec 32 := 1#32
  let v672 : BitVec 32 := Scalar.subi c1_i32_544 v8
  let c512_i32_545 : BitVec 32 := 512#32
  let v673 : BitVec 32 := Scalar.muli v672 c512_i32_545
  let v674 : BitVec 32 := Scalar.addi v671 v673
  let c0_i32_635 : BitVec 32 := 0#32
  ![v674.toNat, 0]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c512_i32_90 : BitVec 32 := 512#32
  let v108 : BitVec 32 := Scalar.muli v8 c512_i32_90
  let c256_i32_181 : BitVec 32 := 256#32
  let v212 : BitVec 32 := Scalar.muli v6 c256_i32_181
  let v213 : BitVec 32 := Scalar.addi v108 v212
  let c2_i32 : BitVec 32 := 2#32
  let v3 : BitVec 32 := Scalar.shrsi v2 c2_i32
  let c1_i32_0 : BitVec 32 := 1#32
  let v4 : BitVec 32 := Scalar.andi v3 c1_i32_0
  let c128_i32_261 : BitVec 32 := 128#32
  let v329 : BitVec 32 := Scalar.muli v4 c128_i32_261
  let v330 : BitVec 32 := Scalar.addi v213 v329
  let c128_i32_369 : BitVec 32 := 128#32
  let v499 : BitVec 32 := Scalar.muli v4 c128_i32_369
  let v500 : BitVec 32 := Scalar.subi v330 v499
  let c256_i32_447 : BitVec 32 := 256#32
  let v568 : BitVec 32 := Scalar.muli v6 c256_i32_447
  let v569 : BitVec 32 := Scalar.subi v500 v568
  let c512_i32_543 : BitVec 32 := 512#32
  let v670 : BitVec 32 := Scalar.muli v8 c512_i32_543
  let v671 : BitVec 32 := Scalar.subi v569 v670
  let c1_i32_544 : BitVec 32 := 1#32
  let v672 : BitVec 32 := Scalar.subi c1_i32_544 v8
  let c512_i32_545 : BitVec 32 := 512#32
  let v673 : BitVec 32 := Scalar.muli v672 c512_i32_545
  let v674 : BitVec 32 := Scalar.addi v671 v673
  let c0_i32_636 : BitVec 32 := 0#32
  ![v674.toNat, 0]
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c512_i32_554 : BitVec 32 := 512#32
  let v683 : BitVec 32 := Scalar.muli v6 c512_i32_554
  let v684 : BitVec 32 := Scalar.subi v582 v683
  let c1_i32_555 : BitVec 32 := 1#32
  let v685 : BitVec 32 := Scalar.subi c1_i32_555 v6
  let c512_i32_556 : BitVec 32 := 512#32
  let v686 : BitVec 32 := Scalar.muli v685 c512_i32_556
  let v687 : BitVec 32 := Scalar.addi v684 v686
  let v775 : Index := Scalar.indexCast v687
  let c0_637 : Index := 0#32
  ![v775.toNat, 0]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c512_i32_554 : BitVec 32 := 512#32
  let v683 : BitVec 32 := Scalar.muli v6 c512_i32_554
  let v684 : BitVec 32 := Scalar.subi v582 v683
  let c1_i32_555 : BitVec 32 := 1#32
  let v685 : BitVec 32 := Scalar.subi c1_i32_555 v6
  let c512_i32_556 : BitVec 32 := 512#32
  let v686 : BitVec 32 := Scalar.muli v685 c512_i32_556
  let v687 : BitVec 32 := Scalar.addi v684 v686
  let c384_i32_641 : BitVec 32 := 384#32
  ![v687.toNat, 384]
def k0_off67 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c512_i32_91 : BitVec 32 := 512#32
  let v109 : BitVec 32 := Scalar.muli v6 c512_i32_91
  let c2_i32 : BitVec 32 := 2#32
  let v3 : BitVec 32 := Scalar.shrsi v2 c2_i32
  let c1_i32_0 : BitVec 32 := 1#32
  let v4 : BitVec 32 := Scalar.andi v3 c1_i32_0
  let c256_i32_182 : BitVec 32 := 256#32
  let v214 : BitVec 32 := Scalar.muli v4 c256_i32_182
  let v215 : BitVec 32 := Scalar.addi v109 v214
  let c1_i32_3 : BitVec 32 := 1#32
  let v7 : BitVec 32 := Scalar.andi v2 c1_i32_3
  let v8 : BitVec 32 := Scalar.xori v7 v6
  let c128_i32_262 : BitVec 32 := 128#32
  let v331 : BitVec 32 := Scalar.muli v8 c128_i32_262
  let v332 : BitVec 32 := Scalar.addi v215 v331
  let c128_i32_380 : BitVec 32 := 128#32
  let v512 : BitVec 32 := Scalar.muli v8 c128_i32_380
  let v513 : BitVec 32 := Scalar.subi v332 v512
  let c256_i32_458 : BitVec 32 := 256#32
  let v581 : BitVec 32 := Scalar.muli v4 c256_i32_458
  let v582 : BitVec 32 := Scalar.subi v513 v581
  let c512_i32_554 : BitVec 32 := 512#32
  let v683 : BitVec 32 := Scalar.muli v6 c512_i32_554
  let v684 : BitVec 32 := Scalar.subi v582 v683
  let c1_i32_555 : BitVec 32 := 1#32
  let v685 : BitVec 32 := Scalar.subi c1_i32_555 v6
  let c512_i32_556 : BitVec 32 := 512#32
  let v686 : BitVec 32 := Scalar.muli v685 c512_i32_556
  let v687 : BitVec 32 := Scalar.addi v684 v686
  let c0_i32_642 : BitVec 32 := 0#32
  ![v687.toNat, 0]
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c512_i32_565 : BitVec 32 := 512#32
  let v696 : BitVec 32 := Scalar.muli v4 c512_i32_565
  let v697 : BitVec 32 := Scalar.subi v595 v696
  let c1_i32_566 : BitVec 32 := 1#32
  let v698 : BitVec 32 := Scalar.subi c1_i32_566 v4
  let c512_i32_567 : BitVec 32 := 512#32
  let v699 : BitVec 32 := Scalar.muli v698 c512_i32_567
  let v700 : BitVec 32 := Scalar.addi v697 v699
  let v786 : Index := Scalar.indexCast v700
  let c0_643 : Index := 0#32
  ![v786.toNat, 0]
def k0_off69 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c512_i32_565 : BitVec 32 := 512#32
  let v696 : BitVec 32 := Scalar.muli v4 c512_i32_565
  let v697 : BitVec 32 := Scalar.subi v595 v696
  let c1_i32_566 : BitVec 32 := 1#32
  let v698 : BitVec 32 := Scalar.subi c1_i32_566 v4
  let c512_i32_567 : BitVec 32 := 512#32
  let v699 : BitVec 32 := Scalar.muli v698 c512_i32_567
  let v700 : BitVec 32 := Scalar.addi v697 v699
  let c768_i32_647 : BitVec 32 := 768#32
  ![v700.toNat, 768]
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c512_i32_92 : BitVec 32 := 512#32
  let v110 : BitVec 32 := Scalar.muli v4 c512_i32_92
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c256_i32_183 : BitVec 32 := 256#32
  let v216 : BitVec 32 := Scalar.muli v8 c256_i32_183
  let v217 : BitVec 32 := Scalar.addi v110 v216
  let c128_i32_263 : BitVec 32 := 128#32
  let v333 : BitVec 32 := Scalar.muli v6 c128_i32_263
  let v334 : BitVec 32 := Scalar.addi v217 v333
  let c128_i32_391 : BitVec 32 := 128#32
  let v525 : BitVec 32 := Scalar.muli v6 c128_i32_391
  let v526 : BitVec 32 := Scalar.subi v334 v525
  let c256_i32_469 : BitVec 32 := 256#32
  let v594 : BitVec 32 := Scalar.muli v8 c256_i32_469
  let v595 : BitVec 32 := Scalar.subi v526 v594
  let c512_i32_565 : BitVec 32 := 512#32
  let v696 : BitVec 32 := Scalar.muli v4 c512_i32_565
  let v697 : BitVec 32 := Scalar.subi v595 v696
  let c1_i32_566 : BitVec 32 := 1#32
  let v698 : BitVec 32 := Scalar.subi c1_i32_566 v4
  let c512_i32_567 : BitVec 32 := 512#32
  let v699 : BitVec 32 := Scalar.muli v698 c512_i32_567
  let v700 : BitVec 32 := Scalar.addi v697 v699
  let c0_i32_648 : BitVec 32 := 0#32
  ![v700.toNat, 0]
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S16384x1024, .f32⟩
  | .hbm, ⟨3, _⟩ => ⟨S1024x16384, .f32⟩
  | .hbm, ⟨4, _⟩ => ⟨S_, .f32⟩
  | .hbm, ⟨5, _⟩ => ⟨S1024x16384, .f32⟩
  | .hbm, ⟨6, _⟩ => ⟨S1024x16384, .f32⟩
  | .hbm, ⟨7, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Held.lean ====
/-
  Ownership of part of a memref, with the values it reads there, and the effects of a core's program
  stated over it: loads, stores, and transfers inside one device.
-/
module

public import Idealize.ShloMosaic.Lib.Memref
public import Idealize.ShloMosaic.Lib.Transfers
public import Idealize.ShloMosaic.Lib.Tactic

@[expose] public section

noncomputable section

namespace Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight wp_dmaLocal wp_waitLocalO Flight_mono)

/-! ## Boxes of a matrix and functions of a row and a column -/

/-- The matrix shape of `R` rows and `C` columns. -/
abbrev Mat (R C : ℕ) : Shape := ⟨2, ![R, C]⟩

/-- The elements in rows `o … o + n - 1` and columns `p … p + q - 1`. -/
def box {R C : ℕ} (o n p q : ℕ) : Finset (Mat R C).Idx :=
  Finset.univ.filter fun i => (o ≤ (i 0 : ℕ) ∧ (i 0 : ℕ) < o + n) ∧ (p ≤ (i 1 : ℕ) ∧ (i 1 : ℕ) < p + q)

theorem mem_box {R C o n p q : ℕ} {i : (Mat R C).Idx} :
    i ∈ box o n p q ↔ (o ≤ (i 0 : ℕ) ∧ (i 0 : ℕ) < o + n) ∧ (p ≤ (i 1 : ℕ) ∧ (i 1 : ℕ) < p + q) := by
  unfold box; rw [Finset.mem_filter]; exact and_iff_right (Finset.mem_univ i)

/-- A matrix read off a function of a row number and a column number. -/
def fn {R C : ℕ} {α : Type} (X : ℕ → ℕ → α) : (Mat R C).Idx → α := fun i => X (i 0 : ℕ) (i 1 : ℕ)

theorem fn_apply {R C : ℕ} {α : Type} (X : ℕ → ℕ → α) (i : (Mat R C).Idx) : fn X i = X (i 0 : ℕ) (i 1 : ℕ) := rfl

/-- The function moved so that row `o` becomes row 0 and column `p` column 0. -/
def win {α : Type} (o p : ℕ) (X : ℕ → ℕ → α) : ℕ → ℕ → α := fun a b => X (o + a) (p + b)

/-- The inverse of `fn`: a matrix as a function of a row and a column, the numbers taken modulo the sizes. -/
def nat {R C : ℕ} {α : Type} (hR : 0 < R) (hC : 0 < C) (x : (Mat R C).Idx → α) : ℕ → ℕ → α := fun a b =>
  x (fun j => match j with
    | ⟨0, _⟩ => ⟨a % R, Nat.mod_lt _ hR⟩
    | ⟨1, _⟩ => ⟨b % C, Nat.mod_lt _ hC⟩)

theorem fn_nat {R C : ℕ} {α : Type} (hR : 0 < R) (hC : 0 < C) (x : (Mat R C).Idx → α) : fn (nat hR hC x) = x := by
  funext i
  unfold fn nat
  refine congrArg x (funext fun j => ?_)
  match j with
  | ⟨0, _⟩ => exact Fin.ext (Nat.mod_eq_of_lt (i 0).isLt)
  | ⟨1, _⟩ => exact Fin.ext (Nat.mod_eq_of_lt (i 1).isLt)

theorem nat_fn {R C : ℕ} {α : Type} (hR : 0 < R) (hC : 0 < C) (X : ℕ → ℕ → α) (a b : ℕ) (ha : a < R) (hb : b < C) :
    nat hR hC (fn X : (Mat R C).Idx → α) a b = X a b := by
  unfold fn nat
  show X (a % R) (b % C) = _
  rw [Nat.mod_eq_of_lt ha, Nat.mod_eq_of_lt hb]

/-- The rectangle of `n` rows from `o` and `q` columns from `p`. -/
abbrev rect {R C : ℕ} (off : Fin 2 → ℕ) (n q : ℕ) (h : ∀ a : Fin 2, off a + (![n, q] : Fin 2 → ℕ) a ≤ (Mat R C).size a) : Rect (Mat R C) :=
  Rect.unit (s := Mat R C) off ![n, q] h

theorem rect_emb0 {R C n q : ℕ} {off : Fin 2 → ℕ} (h) (j : (Mat n q).Idx) :
    ((rect (R := R) (C := C) off n q h).emb j 0 : ℕ) = off 0 + (j 0 : ℕ) := by
  rw [Rect.emb_apply]; show off 0 + 1 * (j 0 : ℕ) = _; rw [Nat.one_mul]
theorem rect_emb1 {R C n q : ℕ} {off : Fin 2 → ℕ} (h) (j : (Mat n q).Idx) :
    ((rect (R := R) (C := C) off n q h).emb j 1 : ℕ) = off 1 + (j 1 : ℕ) := by
  rw [Rect.emb_apply]; show off 1 + 1 * (j 1 : ℕ) = _; rw [Nat.one_mul]

theorem rect_set {R C n q : ℕ} {off : Fin 2 → ℕ} (h) : (rect (R := R) (C := C) off n q h).set = box (off 0) n (off 1) q := by
  ext i
  rw [mem_box]
  rw [Rect.mem_set_unit, Fin.forall_fin_two]
  rfl

theorem fn_emb {R C n q : ℕ} {α : Type} {off : Fin 2 → ℕ} (h) (X : ℕ → ℕ → α) (j : (Mat n q).Idx) :
    fn X ((rect (R := R) (C := C) off n q h).emb j) = fn (win (off 0) (off 1) X) j := by
  rw [fn_apply, rect_emb0, rect_emb1]; rfl

/-! ## Holding part of a memref -/

variable {nD : ℕ} {τ : Topo} {sig : RefSig} {Val : EltTy → Type} {U : Type} [URA U]

local notation "𝕄" => MT nD τ sig Unit Val ℕ U ℕ

/-- Thread `c` holds, at share `q`, the elements `S` of memref `m`, which read `X` there. -/
def held (c : Thread nD τ) {sp : Space} {s : Shape} {e : EltTy} (m : Memref sig c.2.kind sp s e) (S : Finset s.Idx) (q : PosShare TreeShare)
    (X : s.Idx → Val e) : sProp 𝕄 :=
  iprop(∃ f : Buf Val (m.view.loc c), ⌜∀ i ∈ S, m.view.read Val f i = X i⌝ ∗ (m.view.loc c ↦[m.view.setOn S]{q} f))

section Laws

variable {c : Thread nD τ} {sp : Space} {s : Shape} {e : EltTy} {m : Memref sig c.2.kind sp s e} {S T : Finset s.Idx} {q : PosShare TreeShare}
  {X Y : s.Idx → Val e}

instance held_storable : BI.Storable (upEmb : UEmb _ 𝕄) (held (U := U) c m S q X) := by unfold held; infer_instance

theorem held_congr (h : ∀ i ∈ S, X i = Y i) : (held c m S q X : sProp 𝕄) ⊢ held c m S q Y := by
  unfold held
  iintro ⟨%f, %hf, H⟩
  iexists f
  isplitr
  · ipureintro; exact fun i hi => (hf i hi).trans (h i hi)
  · iexact H

/-- Held at nothing known is held at anything. -/
theorem held_intro (f : Buf Val (m.view.loc c)) : (m.view.loc c ↦[m.view.setOn S]{q} f : sProp 𝕄) ⊢ held c m S q (m.view.read Val f) := by
  unfold held
  iintro H
  iexists f
  isplitr
  · ipureintro; exact fun i _ => rfl
  · iexact H

theorem setOn_disjoint (h : Disjoint S T) : Disjoint (m.view.setOn S) (m.view.setOn T) :=
  (Finset.disjoint_map m.view.emb).mpr h

theorem setOn_union [DecidableEq s.Idx] : m.view.setOn (S ∪ T) = m.view.setOn S ∪ m.view.setOn T := Finset.map_union _ _

theorem held_split [DecidableEq s.Idx] {ST : Finset s.Idx} (h : Disjoint S T) (hu : ST = S ∪ T) :
    (held c m ST q X : sProp 𝕄) ⊢ iprop(held c m S q X ∗ held c m T q X) := by
  subst hu
  unfold held
  iintro ⟨%f, %hf, H⟩
  rw [setOn_union]
  ihave H2 := (pointsTo_union (setOn_disjoint (m := m) h)).1 $$ H
  icases H2 with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

theorem held_join [DecidableEq s.Idx] {ST : Finset s.Idx} (h : Disjoint S T) (hu : ST = S ∪ T) :
    iprop(held c m S q X ∗ held c m T q X) ⊢ (held c m ST q X : sProp 𝕄) := by
  subst hu
  unfold held
  iintro ⟨⟨%f, %hf, H1⟩, ⟨%g, %hg, H2⟩⟩
  iexists (m.view.setOn T).piecewise g f
  isplitr
  · ipureintro
    intro i hi
    rcases Finset.mem_union.mp hi with h1 | h2
    · rw [← hf i h1, View.read_apply, View.read_apply, Finset.piecewise_eq_of_notMem]
      exact fun hn => Finset.disjoint_left.mp h h1 (m.view.mem_setOn.mp hn)
    · rw [← hg i h2, View.read_apply, View.read_apply, Finset.piecewise_eq_of_mem]
      exact m.view.mem_setOn.mpr h2
  · rw [setOn_union]
    iapply (pointsTo_join (setOn_disjoint (m := m) h))
    isplitl [H1]; · iexact H1
    iexact H2

/-- Half of a share held, and the other half. -/
theorem held_share : (held c m S q X : sProp 𝕄) ⊢ iprop(held c m S q.left X ∗ held c m S q.right X) := by
  unfold held
  iintro ⟨%f, %hf, H⟩
  ihave H2 := (pointsTo_share (PosShare.mem_left_op_right q)).1 $$ H
  icases H2 with ⟨H1, H2⟩
  isplitl [H1]
  · iexists f
    isplitr
    · ipureintro; exact hf
    · iexact H1
  · iexists f
    isplitr
    · ipureintro; exact hf
    · iexact H2

theorem halves_join {ℓ : Loc nD τ sig} {I : Finset (Idx ℓ)} {f : Buf Val ℓ} :
    iprop((ℓ ↦[I]{q.left} f) ∗ ℓ ↦[I]{q.right} f) ⊢ (ℓ ↦[I]{q} f : sProp 𝕄) :=
  (pointsTo_share (PosShare.mem_left_op_right q)).2

theorem held_unshare : iprop(held c m S q.left X ∗ held c m S q.right X) ⊢ (held c m S q X : sProp 𝕄) := by
  unfold held
  iintro ⟨⟨%f, %hf, H1⟩, ⟨%g, %hg, H2⟩⟩
  have hfg : ∀ j ∈ m.view.setOn S, g j = f j := by
    intro j hj
    obtain ⟨i, hi, rfl⟩ := Finset.mem_map.mp hj
    have := (hg i hi).trans (hf i hi).symm
    rw [View.read_apply, View.read_apply] at this
    exact (cast_inj (congrArg Val m.view.elt_eq)).mp this
  iexists f
  isplitr
  · ipureintro; exact hf
  · ihave H2 := (Entails.of_eq (pointsTo_congr (ℓ := m.view.loc c) (q := q.right) hfg)) $$ H2
    iapply (halves_join (ℓ := m.view.loc c) (q := q)) $$ [H1 H2]
    isplitl [H1]; · iexact H1
    iexact H2

theorem setOn_univ : m.view.setOn Finset.univ = m.view.set := rfl

theorem setOn_slice {r : Rect s} {hr : ∀ a, r.stride a = 1} : (m.slice r hr).view.setOn Finset.univ = m.view.setOn r.set :=
  View.set_slice m.view r

/-- Holding a slice is holding the slice's elements of the memref. -/
theorem held_slice (r : Rect s) (hr : ∀ a, r.stride a = 1) {Z : r.shape.Idx → Val e} (h : ∀ j, Z j = X (r.emb j)) :
    (held c (m.slice r hr) Finset.univ q Z : sProp 𝕄) = held c m r.set q X := by
  have h1 : (held c (m.slice r hr) Finset.univ q Z : sProp 𝕄) ⊢ held c m r.set q X := by
    unfold held
    iintro ⟨%f, %hf, H⟩
    iexists f
    isplitr
    · ipureintro
      intro i hi
      obtain ⟨j, rfl⟩ := r.exists_idx_of_mem hi
      exact (hf j (Finset.mem_univ j)).trans (h j)
    · rw [setOn_slice]; iexact H
  have h2 : (held c m r.set q X : sProp 𝕄) ⊢ held c (m.slice r hr) Finset.univ q Z := by
    unfold held
    iintro ⟨%f, %hf, H⟩
    iexists f
    isplitr
    · ipureintro
      intro j _
      exact (hf _ (r.idx_mem j)).trans (h j).symm
    · rw [setOn_slice]; iexact H
  exact BI.equiv_iff.mp ⟨h1, h2⟩

end Laws

/-! ## Loads and stores -/

section Effects

variable {Λ : Labels} {defs : Defs nD τ sig Val Λ} (𝒱 : Variants) (c : Thread nD τ)
  {sp sp' : Space} {s : Shape} {e : EltTy} {α : Type} {Q : α → sProp (MT nD τ sig Unit Val ℕ U ℕ)}

/-- A load of held elements goes on at what they read. -/
theorem wp_load_held {cs : CoreSpace} {m : Memref sig c.2.kind cs s e} {r : Rect s} {hl : m.view.LoadsAt r}
    {k : (r.shape.Idx → Val e) → Prog (TpuEff nD τ sig Val Λ c.2) α} {S : Finset s.Idx} {q : PosShare TreeShare} {X : s.Idx → Val e}
    (hS : r.set ⊆ S) (w : r.shape.Idx → Val e) (hw : ∀ j, X (r.emb j) = w j) :
    (held c m S q X : sProp 𝕄)
      ⊢ iprop((held c m S q X -∗ wp frame (wpE defs 𝒱 c none) Set.univ (k w) Q)
        -∗ wp frame (wpE defs 𝒱 c none) Set.univ (.op (.load m r hl) k) Q) := by
  unfold held
  iintro ⟨%f, %hf, H⟩ Hk
  iapply (wp_load 𝒱 c none Set.univ (m := m) (r := r.toLoadRect) (S := m.view.setOn S) (f := f) (q := q) (Finset.map_subset_map.mpr hS)) $$ H
  iintro H
  have hw' : m.view.readAt Val r.toLoadRect f = w := by
    funext j
    exact (hf _ (hS (r.idx_mem j))).trans (hw j)
  rw [hw']
  iapply Hk
  iexists f
  isplitr
  · ipureintro; exact hf
  · iexact H

/-- A load whose result the program does not use. -/
theorem wp_load_unused {cs : CoreSpace} {m : Memref sig c.2.kind cs s e} {r : Rect s} {hl : m.view.LoadsAt r}
    {p : Prog (TpuEff nD τ sig Val Λ c.2) α} {S : Finset s.Idx} {q : PosShare TreeShare} {X : s.Idx → Val e}
    (hS : r.set ⊆ S) :
    (held c m S q X : sProp 𝕄)
      ⊢ iprop((held c m S q X -∗ wp frame (wpE defs 𝒱 c none) Set.univ p Q)
        -∗ wp frame (wpE defs 𝒱 c none) Set.univ (.op (.load m r hl) (fun _ => p)) Q) :=
  wp_load_held (m := m) (hl := hl) (Q := Q) 𝒱 c (k := fun _ => p) hS (fun j => X (r.emb j)) fun _ => rfl

/-- A store over held elements of a memref, all of them covered by the store's rectangle. -/
theorem wp_store_held {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {S : Finset s.Idx} {X : s.Idx → Val e}
    (hS : S = r.set) (Y : s.Idx → Val e) (hY : ∀ j, Y (r.emb j) = w j) :
    (held c m S fullShare X : sProp 𝕄)
      ⊢ iprop((held c m S fullShare Y -∗ wp frame (wpE defs 𝒱 c none) Set.univ (k ⟨⟩) Q)
        -∗ wp frame (wpE defs 𝒱 c none) Set.univ (.op (.store m r w Finset.univ hx hm) k) Q) := by
  subst hS
  unfold held
  iintro ⟨%f, %hf, H⟩ Hk
  have hset : (m.access r).setOn Finset.univ = m.view.setOn r.set := View.set_slice m.view r
  iapply (wp_store 𝒱 c none Set.univ (m := m) (r := r) (w := w) (Mk := Finset.univ) (S := m.view.setOn r.set) (Finset.subset_of_eq hset)) $$ H
  iintro H
  iapply Hk
  iexists _
  isplitr
  on_goal 2 => iexact H
  ipureintro
  intro i hi
  obtain ⟨j, rfl⟩ := r.exists_idx_of_mem hi
  refine Eq.trans ?_ (hY j).symm
  exact congrFun (View.read_write_univ (v := m.access r) (Val := Val) f w) j

/-! ## Transfers inside the device -/

variable (EC : UEmb Counters (MT nD τ sig Unit Val ℕ U ℕ)) [EC.LandsIn (upEmb : UEmb _ (MT nD τ sig Unit Val ℕ U ℕ))]

/-- A transfer started between two memrefs of the device, the counter at zero: in flight, it is to deliver the target reading what the source reads. -/
theorem wp_start_held {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (N : ℕ) (hN : dst.view.amount sm = N) (hN0 : 0 < N) :
    iprop(held c src Finset.univ q X ∗ held c dst Finset.univ fullShare Y ∗ semVal (c, sm) 0)
      ⊢ iprop((Flight EC c sm () N iprop(held c dst Finset.univ fullShare X ∗ held c src Finset.univ q X)
              -∗ wp frame (wpE defs 𝒱 c none) Set.univ (k ⟨⟩) Q)
          -∗ wp frame (wpE defs 𝒱 c none) Set.univ (.op (.enqueueDma src (.here dst) sm hsrc hdst hsem) k) Q) := by
  unfold held
  iintro ⟨⟨%f, %hf, Hs⟩, ⟨%g, %hg, Hd⟩, Hv⟩ Hk
  iapply (wp_dmaLocal EC 𝒱 c none (src := src) (dst := dst) (via := .same) (q := q) (fs := f) (fd := g) (Sd := dst.view.set) () N hN hN0 (Finset.Subset.refl _)) $$ [Hs Hd Hv]
  · isplitl [Hs]; · iexact Hs
    isplitl [Hd]; · iexact Hd
    iexact Hv
  iintro Hfl
  iapply Hk
  iapply (Flight_mono EC c) $$ Hfl
  iintro ⟨Hd, Hs⟩
  isplitl [Hd]
  · iexists _
    isplitr
    on_goal 2 => iexact Hd
    ipureintro
    intro i hi
    refine Eq.trans (congrFun (View.read_write_univ (v := dst.view) (Val := Val) g _) i) ?_
    exact hf i hi
  · iexists f
    isplitr
    · ipureintro; exact hf
    · iexact Hs

end Effects

end Cert.Held
-- ==== Proof.Geometry.lean ====
/-
  Where each device's rows lie, and who its partners are: the numbers the kernel computes from its device
  number, read as coordinates of a cube.
-/
module

public import proofs.«01_k».proof.Proof.Gen.KernelIdeal
public import proofs.«01_k».proof.Proof.Held

@[expose] public section

set_option maxRecDepth 10000

namespace Cert.Reduce

open Cert.KernelIdeal Cert.KernelIdeal.Gen
open Idealize.ShloMosaic
open Cert.Held

/-! ## Coordinates -/

/-- Device `c`'s coordinate along the cube's direction `m`, 0 or 1. -/
def bit (m : Fin 3) (c : Dev nD) : ℕ :=
  match m with
  | 0 => (c.val ^^^ (c.val >>> 1)) % 2
  | 1 => (c.val >>> 1) % 2
  | 2 => c.val >>> 2

set_option backward.proofsInPublic true in
/-- `c`'s neighbour along direction `m`. -/
def nbr (m : Fin 3) (c : Dev nD) : Dev nD :=
  ⟨(c.val ^^^ (match m with | 0 => 1 | 1 => 3 | 2 => 4)) % 8, Nat.mod_lt _ (by decide)⟩

theorem nbr_nbr (m : Fin 3) (c : Dev nD) : nbr m (nbr m c) = c := by revert m c; decide
theorem nbr_ne (m : Fin 3) (c : Dev nD) : nbr m c ≠ c := by revert m c; decide
theorem bit_nbr (m : Fin 3) (c : Dev nD) : bit m (nbr m c) = 1 - bit m c := by revert m c; decide
theorem bit_nbr_ne (m n : Fin 3) (c : Dev nD) (h : n ≠ m) : bit n (nbr m c) = bit n c := by revert m n c; decide
theorem bit_le (m : Fin 3) (c : Dev nD) : bit m c ≤ 1 := by revert m c; decide

/-- The three streams of columns meet the directions in rotated orders: in round `r` stream `k` exchanges along `k + r`. -/
def prt (k r : Fin 3) (c : Dev nD) : Dev nD := nbr (k + r) c

theorem prt_prt (k r : Fin 3) (c : Dev nD) : prt k r (prt k r c) = c := nbr_nbr _ _

/-- The rows exchanged in round `r`: 512, 256, 128. -/
def len (r : Fin 3) : ℕ := match r with | 0 => 512 | 1 => 256 | 2 => 128

/-- The first row of what device `c` still sums in stream `k` before round `r` (after round 2: `r = 3`). -/
def base (k : Fin 3) (r : Fin 4) (c : Dev nD) : ℕ :=
  match r with
  | 0 => 0
  | 1 => 512 * bit k c
  | 2 => 512 * bit k c + 256 * bit (k + 1) c
  | 3 => 512 * bit k c + 256 * bit (k + 1) c + 128 * bit (k + 2) c

/-- The first row of the half `c` gives away in round `r` of stream `k`. -/
def give (k r : Fin 3) (c : Dev nD) : ℕ := base k r.castSucc c + len r * (1 - bit (k + r) c)

/-- What `c` gives is what its partner keeps. -/
theorem give_eq (k r : Fin 3) (c : Dev nD) : give k r c = base k r.succ (prt k r c) := by revert k r c; decide
theorem give_prt (k r : Fin 3) (c : Dev nD) : give k r (prt k r c) = base k r.succ c := by rw [give_eq, prt_prt]

/-- The first column of stream `k`, -/
def col (k : Fin 3) : ℕ := match k with | 0 => 0 | 1 => 384 | 2 => 768
/-- and how many it has. -/
def wid (k : Fin 3) : ℕ := match k with | 0 => 384 | 1 => 384 | 2 => 256

/-- The rows a device holds before a round are those it keeps and those it gives. -/
theorem base_cases (k r : Fin 3) (c : Dev nD) :
    (base k r.succ c = base k r.castSucc c ∧ give k r c = base k r.castSucc c + len r)
      ∨ (base k r.succ c = base k r.castSucc c + len r ∧ give k r c = base k r.castSucc c) := by revert k r c; decide

/-- The device whose coordinates along the directions `k`, `k + 1`, `k + 2` are `a`, `b`, `d`. -/
def devAt (k : Fin 3) (a b d : ℕ) : Dev nD :=
  let x : Fin 3 → ℕ := fun m => if m = k then a else if m = k + 1 then b else d
  ⟨(x 2 * 4 + x 1 * 2 + (x 0 ^^^ x 1)) % 8, Nat.mod_lt _ (by decide)⟩

/-- The device that sums row `i` of stream `k` in the end. -/
def owner (k : Fin 3) (i : ℕ) : Dev nD := devAt k (i / 512 % 2) (i / 256 % 2) (i / 128 % 2)

theorem owner_base (k : Fin 3) (c : Dev nD) (i : ℕ) (h : base k 3 c ≤ i ∧ i < base k 3 c + 128) : owner k i = c := by
  have h1 : i / 128 = base k 3 c / 128 := by
    have : ∀ (k : Fin 3) (c : Dev nD), base k 3 c % 128 = 0 := by decide
    have := this k c
    omega
  have h2 : ∀ (k : Fin 3) (c : Dev nD), owner k (base k 3 c / 128 * 128) = c := by decide
  have h3 : owner k i = owner k (i / 128 * 128) := by
    unfold owner
    rw [show i / 128 * 128 / 512 % 2 = i / 512 % 2 by omega, show i / 128 * 128 / 256 % 2 = i / 256 % 2 by omega,
      show i / 128 * 128 / 128 % 2 = i / 128 % 2 by omega]
  rw [h3, h1, h2]

/-! ## The kernel's device numbers and offsets -/

set_option maxRecDepth 100000

theorem dev1_eq (c : Dev nD) : (⟨k0_dev1 c, k0_dev1_lt c⟩ : Dev nD) = nbr 0 c := by revert c; decide +kernel
theorem dev2_eq (c : Dev nD) : (⟨k0_dev2 c, k0_dev2_lt c⟩ : Dev nD) = nbr 1 c := by revert c; decide +kernel
theorem dev3_eq (c : Dev nD) : (⟨k0_dev3 c, k0_dev3_lt c⟩ : Dev nD) = nbr 2 c := by revert c; decide +kernel
theorem dev4_eq (c : Dev nD) : (⟨k0_dev4 c, k0_dev4_lt c⟩ : Dev nD) = prt 0 0 c := by revert c; decide +kernel
theorem dev5_eq (c : Dev nD) : (⟨k0_dev5 c, k0_dev5_lt c⟩ : Dev nD) = prt 1 0 c := by revert c; decide +kernel
theorem dev6_eq (c : Dev nD) : (⟨k0_dev6 c, k0_dev6_lt c⟩ : Dev nD) = prt 2 0 c := by revert c; decide +kernel
theorem dev7_eq (c : Dev nD) : (⟨k0_dev7 c, k0_dev7_lt c⟩ : Dev nD) = prt 0 1 c := by revert c; decide +kernel
theorem dev8_eq (c : Dev nD) : (⟨k0_dev8 c, k0_dev8_lt c⟩ : Dev nD) = prt 1 1 c := by revert c; decide +kernel
theorem dev9_eq (c : Dev nD) : (⟨k0_dev9 c, k0_dev9_lt c⟩ : Dev nD) = prt 2 1 c := by revert c; decide +kernel
theorem dev10_eq (c : Dev nD) : (⟨k0_dev10 c, k0_dev10_lt c⟩ : Dev nD) = prt 0 2 c := by revert c; decide +kernel
theorem dev11_eq (c : Dev nD) : (⟨k0_dev11 c, k0_dev11_lt c⟩ : Dev nD) = prt 1 2 c := by revert c; decide +kernel
theorem dev12_eq (c : Dev nD) : (⟨k0_dev12 c, k0_dev12_lt c⟩ : Dev nD) = prt 2 2 c := by revert c; decide +kernel
theorem dev13_eq (c : Dev nD) : (⟨k0_dev13 c, k0_dev13_lt c⟩ : Dev nD) = prt 0 2 c := by revert c; decide +kernel
theorem dev14_eq (c : Dev nD) : (⟨k0_dev14 c, k0_dev14_lt c⟩ : Dev nD) = prt 1 2 c := by revert c; decide +kernel
theorem dev15_eq (c : Dev nD) : (⟨k0_dev15 c, k0_dev15_lt c⟩ : Dev nD) = prt 2 2 c := by revert c; decide +kernel
theorem dev16_eq (c : Dev nD) : (⟨k0_dev16 c, k0_dev16_lt c⟩ : Dev nD) = prt 0 1 c := by revert c; decide +kernel
theorem dev17_eq (c : Dev nD) : (⟨k0_dev17 c, k0_dev17_lt c⟩ : Dev nD) = prt 1 1 c := by revert c; decide +kernel
theorem dev18_eq (c : Dev nD) : (⟨k0_dev18 c, k0_dev18_lt c⟩ : Dev nD) = prt 2 1 c := by revert c; decide +kernel
theorem dev19_eq (c : Dev nD) : (⟨k0_dev19 c, k0_dev19_lt c⟩ : Dev nD) = prt 0 0 c := by revert c; decide +kernel
theorem dev20_eq (c : Dev nD) : (⟨k0_dev20 c, k0_dev20_lt c⟩ : Dev nD) = prt 1 0 c := by revert c; decide +kernel
theorem dev21_eq (c : Dev nD) : (⟨k0_dev21 c, k0_dev21_lt c⟩ : Dev nD) = prt 2 0 c := by revert c; decide +kernel
theorem off1_eq (c : Dev nD) : k0_off1 c = ![give 0 0 c, 0] := by revert c; decide +kernel
theorem off2_1_eq (c : Dev nD) : k0_off2 c 1#32 = ![give 1 0 c, 0] := by revert c; decide +kernel
theorem off2_2_eq (c : Dev nD) : k0_off2 c 2#32 = ![give 2 0 c, 0] := by revert c; decide +kernel
theorem off3_eq (c : Dev nD) : k0_off3 c = ![base 0 1 c, 0] := by revert c; decide +kernel
theorem off4_eq (c : Dev nD) : k0_off4 c = ![base 0 1 c, 0] := by revert c; decide +kernel
theorem off5_1_eq (c : Dev nD) : k0_off5 c 1#32 = ![base 1 1 c, 0] := by revert c; decide +kernel
theorem off6_eq (c : Dev nD) : k0_off6 c = ![base 1 1 c, 0] := by revert c; decide +kernel
theorem off5_2_eq (c : Dev nD) : k0_off5 c 2#32 = ![base 2 1 c, 0] := by revert c; decide +kernel
theorem off7_eq (c : Dev nD) : k0_off7 c = ![base 2 1 c, 0] := by revert c; decide +kernel
theorem off8_eq (c : Dev nD) : k0_off8 c = ![give 0 1 c, 0] := by revert c; decide +kernel
theorem off9_eq (c : Dev nD) : k0_off9 c = ![give 0 1 c - base 0 1 c, 0] := by revert c; decide +kernel
theorem off14_eq (c : Dev nD) : k0_off14 c = ![base 0 2 c, 0] := by revert c; decide +kernel
theorem off15_eq (c : Dev nD) : k0_off15 c = ![base 0 2 c - base 0 1 c, 0] := by revert c; decide +kernel
theorem off20_eq (c : Dev nD) : k0_off20 c = ![give 0 2 c, 0] := by revert c; decide +kernel
theorem off21_eq (c : Dev nD) : k0_off21 c = ![give 0 2 c - base 0 2 c, 0] := by revert c; decide +kernel
theorem off26_eq (c : Dev nD) : k0_off26 c = ![base 0 3 c, 0] := by revert c; decide +kernel
theorem off27_eq (c : Dev nD) : k0_off27 c = ![base 0 3 c - base 0 2 c, 0] := by revert c; decide +kernel
theorem off32_eq (c : Dev nD) : k0_off32 c = ![base 0 3 c, 0] := by revert c; decide +kernel
theorem off33_eq (c : Dev nD) : k0_off33 c = ![base 0 3 c, 0] := by revert c; decide +kernel
theorem off38_eq (c : Dev nD) : k0_off38 c = ![base 0 2 c, 0] := by revert c; decide +kernel
theorem off41_eq (c : Dev nD) : k0_off41 c = ![give 0 2 c, 0] := by revert c; decide +kernel
theorem off42_eq (c : Dev nD) : k0_off42 c = ![give 0 2 c, 0] := by revert c; decide +kernel
theorem off43_eq (c : Dev nD) : k0_off43 c = ![give 0 2 c, 0] := by revert c; decide +kernel
theorem off50_eq (c : Dev nD) : k0_off50 c = ![base 0 1 c, 0] := by revert c; decide +kernel
theorem off53_eq (c : Dev nD) : k0_off53 c = ![give 0 1 c, 0] := by revert c; decide +kernel
theorem off54_eq (c : Dev nD) : k0_off54 c = ![give 0 1 c, 0] := by revert c; decide +kernel
theorem off55_eq (c : Dev nD) : k0_off55 c = ![give 0 1 c, 0] := by revert c; decide +kernel
theorem off62_eq (c : Dev nD) : k0_off62 c = ![give 0 0 c, 0] := by revert c; decide +kernel
theorem off63_eq (c : Dev nD) : k0_off63 c = ![give 0 0 c, 0] := by revert c; decide +kernel
theorem off64_eq (c : Dev nD) : k0_off64 c = ![give 0 0 c, 0] := by revert c; decide +kernel
theorem off10_eq (c : Dev nD) : k0_off10 c = ![give 1 1 c, 0] := by revert c; decide +kernel
theorem off11_eq (c : Dev nD) : k0_off11 c = ![give 1 1 c - base 1 1 c, 0] := by revert c; decide +kernel
theorem off16_eq (c : Dev nD) : k0_off16 c = ![base 1 2 c, 0] := by revert c; decide +kernel
theorem off17_eq (c : Dev nD) : k0_off17 c = ![base 1 2 c - base 1 1 c, 0] := by revert c; decide +kernel
theorem off22_eq (c : Dev nD) : k0_off22 c = ![give 1 2 c, 0] := by revert c; decide +kernel
theorem off23_eq (c : Dev nD) : k0_off23 c = ![give 1 2 c - base 1 2 c, 0] := by revert c; decide +kernel
theorem off28_eq (c : Dev nD) : k0_off28 c = ![base 1 3 c, 0] := by revert c; decide +kernel
theorem off29_eq (c : Dev nD) : k0_off29 c = ![base 1 3 c - base 1 2 c, 0] := by revert c; decide +kernel
theorem off34_eq (c : Dev nD) : k0_off34 c = ![base 1 3 c, 384] := by revert c; decide +kernel
theorem off35_eq (c : Dev nD) : k0_off35 c = ![base 1 3 c, 0] := by revert c; decide +kernel
theorem off39_eq (c : Dev nD) : k0_off39 c = ![base 1 2 c, 0] := by revert c; decide +kernel
theorem off44_eq (c : Dev nD) : k0_off44 c = ![give 1 2 c, 0] := by revert c; decide +kernel
theorem off45_eq (c : Dev nD) : k0_off45 c = ![give 1 2 c, 384] := by revert c; decide +kernel
theorem off46_eq (c : Dev nD) : k0_off46 c = ![give 1 2 c, 0] := by revert c; decide +kernel
theorem off51_eq (c : Dev nD) : k0_off51 c = ![base 1 1 c, 0] := by revert c; decide +kernel
theorem off56_eq (c : Dev nD) : k0_off56 c = ![give 1 1 c, 0] := by revert c; decide +kernel
theorem off57_eq (c : Dev nD) : k0_off57 c = ![give 1 1 c, 384] := by revert c; decide +kernel
theorem off58_eq (c : Dev nD) : k0_off58 c = ![give 1 1 c, 0] := by revert c; decide +kernel
theorem off65_eq (c : Dev nD) : k0_off65 c = ![give 1 0 c, 0] := by revert c; decide +kernel
theorem off66_eq (c : Dev nD) : k0_off66 c = ![give 1 0 c, 384] := by revert c; decide +kernel
theorem off67_eq (c : Dev nD) : k0_off67 c = ![give 1 0 c, 0] := by revert c; decide +kernel
theorem off12_eq (c : Dev nD) : k0_off12 c = ![give 2 1 c, 0] := by revert c; decide +kernel
theorem off13_eq (c : Dev nD) : k0_off13 c = ![give 2 1 c - base 2 1 c, 0] := by revert c; decide +kernel
theorem off18_eq (c : Dev nD) : k0_off18 c = ![base 2 2 c, 0] := by revert c; decide +kernel
theorem off19_eq (c : Dev nD) : k0_off19 c = ![base 2 2 c - base 2 1 c, 0] := by revert c; decide +kernel
theorem off24_eq (c : Dev nD) : k0_off24 c = ![give 2 2 c, 0] := by revert c; decide +kernel
theorem off25_eq (c : Dev nD) : k0_off25 c = ![give 2 2 c - base 2 2 c, 0] := by revert c; decide +kernel
theorem off30_eq (c : Dev nD) : k0_off30 c = ![base 2 3 c, 0] := by revert c; decide +kernel
theorem off31_eq (c : Dev nD) : k0_off31 c = ![base 2 3 c - base 2 2 c, 0] := by revert c; decide +kernel
theorem off36_eq (c : Dev nD) : k0_off36 c = ![base 2 3 c, 768] := by revert c; decide +kernel
theorem off37_eq (c : Dev nD) : k0_off37 c = ![base 2 3 c, 0] := by revert c; decide +kernel
theorem off40_eq (c : Dev nD) : k0_off40 c = ![base 2 2 c, 0] := by revert c; decide +kernel
theorem off47_eq (c : Dev nD) : k0_off47 c = ![give 2 2 c, 0] := by revert c; decide +kernel
theorem off48_eq (c : Dev nD) : k0_off48 c = ![give 2 2 c, 768] := by revert c; decide +kernel
theorem off49_eq (c : Dev nD) : k0_off49 c = ![give 2 2 c, 0] := by revert c; decide +kernel
theorem off52_eq (c : Dev nD) : k0_off52 c = ![base 2 1 c, 0] := by revert c; decide +kernel
theorem off59_eq (c : Dev nD) : k0_off59 c = ![give 2 1 c, 0] := by revert c; decide +kernel
theorem off60_eq (c : Dev nD) : k0_off60 c = ![give 2 1 c, 768] := by revert c; decide +kernel
theorem off61_eq (c : Dev nD) : k0_off61 c = ![give 2 1 c, 0] := by revert c; decide +kernel
theorem off68_eq (c : Dev nD) : k0_off68 c = ![give 2 0 c, 0] := by revert c; decide +kernel
theorem off69_eq (c : Dev nD) : k0_off69 c = ![give 2 0 c, 768] := by revert c; decide +kernel
theorem off70_eq (c : Dev nD) : k0_off70 c = ![give 2 0 c, 0] := by revert c; decide +kernel

end Cert.Reduce
-- ==== Proof.Protocol.lean ====
/-
  The exchange protocol: what every buffer is to hold, which semaphore announces what, and what each device
  owes the others, in the order in which it pays.
-/
module

public import proofs.«01_k».proof.Proof.Gen.KernelIdeal.Skeleton
public import proofs.«01_k».proof.Proof.Geometry
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the launch's rounds, the exchange's rounds, and counters for the local transfers -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER embR; infer_instance
abbrev EC : UEmb Counters (MT nD τ sig Unit (Elt F) ℕ UU ℕ) := countersEmb

variable (m : (ℓ : Loc nD τ sig) → Buf (Elt F) ℓ)

/-! ## What the buffers hold -/

/-- Device `c`'s copy of `x`, its columns of the first weight and its rows of the second, by row and column. -/
def xIn (c : Dev nD) : ℕ → ℕ → F .f32 := nat (R := 1024) (C := 1024) (by decide) (by decide) (m ((c : Thread nD τ).loc main_arg0))
def w1In (c : Dev nD) : ℕ → ℕ → F .f32 := nat (R := 1024) (C := 2048) (by decide) (by decide) (m ((c : Thread nD τ).loc main_arg1))
def w2In (c : Dev nD) : ℕ → ℕ → F .f32 := nat (R := 2048) (C := 1024) (by decide) (by decide) (m ((c : Thread nD τ).loc main_arg2))

/-- `x` narrowed. -/
def xNarrow (c : Dev nD) : ℕ → ℕ → F .bf16 :=
  nat (R := 1024) (C := 1024) (by decide) (by decide) (k0_pay1 (fn (win 0 0 (xIn m c))))

/-- Chunk `n` of 512 columns of the hidden layer. -/
def hidChunk (c : Dev nD) (n : ℕ) : ℕ → ℕ → F .bf16 :=
  nat (R := 1024) (C := 512) (by decide) (by decide) (k0_pay2 (fn (win 0 0 (xNarrow m c))) (fn (win 0 (512 * n) (w1In m c))))

/-- The hidden layer: device `c`'s 2048 columns of it. -/
def hid (c : Dev nD) : ℕ → ℕ → F .bf16 := fun a b => hidChunk m c (b / 512) a (b % 512)

/-- 512 rows of `c`'s product with the second weight in stream `k`'s columns, from row `o`, narrowed, -/
def prod16 (k : Fin 3) (c : Dev nD) (o : ℕ) : ℕ → ℕ → F .bf16 :=
  match k with
  | 0 => nat (R := 512) (C := 384) (by decide) (by decide) (k0_pay6 (fn (win o 0 (hid m c))) (fn (win 0 0 (w2In m c))))
  | 1 => nat (R := 512) (C := 384) (by decide) (by decide) (k0_pay6 (fn (win o 0 (hid m c))) (fn (win 0 384 (w2In m c))))
  | 2 => nat (R := 512) (C := 256) (by decide) (by decide) (k0_pay8 (fn (win o 0 (hid m c))) (fn (win 0 768 (w2In m c))))

/-- and as they are. -/
def prod32 (k : Fin 3) (c : Dev nD) (o : ℕ) : ℕ → ℕ → F .f32 :=
  match k with
  | 0 => nat (R := 512) (C := 384) (by decide) (by decide) (k0_pay9 (fn (win o 0 (hid m c))) (fn (win 0 0 (w2In m c))))
  | 1 => nat (R := 512) (C := 384) (by decide) (by decide) (k0_pay9 (fn (win o 0 (hid m c))) (fn (win 0 384 (w2In m c))))
  | 2 => nat (R := 512) (C := 256) (by decide) (by decide) (k0_pay12 (fn (win o 0 (hid m c))) (fn (win 0 768 (w2In m c))))

def widen (x : F .bf16) : F .f32 := FloatOps.extf .f32 bitsLt_bf16_f32 x
def narrow (x : F .f32) : F .bf16 := FloatOps.truncf .bf16 bitsLt_bf16_f32 x

/-- What `c` sends in the first round, by the rows of the whole result; -/
def snd0 (k : Fin 3) (c : Dev nD) : ℕ → ℕ → F .bf16 := fun a b => prod16 m k c (give k 0 c) (a - give k 0 c) b
/-- what it keeps; -/
def kept0 (k : Fin 3) (c : Dev nD) : ℕ → ℕ → F .f32 := fun a b => prod32 m k c (base k 1 c) (a - base k 1 c) b
/-- that with what the first round brought; -/
def sum1 (k : Fin 3) (c : Dev nD) : ℕ → ℕ → F .f32 := fun a b => FloatOps.addf (kept0 m k c a b) (widen (snd0 m k (prt k 0 c) a b))
def snd1 (k : Fin 3) (c : Dev nD) : ℕ → ℕ → F .bf16 := fun a b => narrow (sum1 m k c a b)
/-- the second; -/
def sum2 (k : Fin 3) (c : Dev nD) : ℕ → ℕ → F .f32 := fun a b => FloatOps.addf (sum1 m k c a b) (widen (snd1 m k (prt k 1 c) a b))
def snd2 (k : Fin 3) (c : Dev nD) : ℕ → ℕ → F .bf16 := fun a b => narrow (sum2 m k c a b)
/-- the third: the sum over all devices. -/
def total (k : Fin 3) (c : Dev nD) : ℕ → ℕ → F .f32 := fun a b => FloatOps.addf (sum2 m k c a b) (widen (snd2 m k (prt k 2 c) a b))

/-- What is sent in round `r`. -/
def snd (k r : Fin 3) (c : Dev nD) : ℕ → ℕ → F .bf16 := match r with | 0 => snd0 m k c | 1 => snd1 m k c | 2 => snd2 m k c

/-- The rows gathered at the end: each the narrowed total of the device that summed it. -/
def gath (k : Fin 3) : ℕ → ℕ → F .bf16 := fun a b => narrow (total m k (owner k a) a b)

/-! ## The buffers of a stream -/

/-- The buffers of one stream of columns: the partial sums, the gathered rows, and per round the rows sent and the rows received. -/
structure Lane where
  w : ℕ
  p : Memref sig .tc .vmem (Mat 1024 w) .f32
  ag : Memref sig .tc .vmem (Mat 1024 w) .bf16
  s0 : Memref sig .tc .vmem (Mat 512 w) .bf16
  s1 : Memref sig .tc .vmem (Mat 256 w) .bf16
  s2 : Memref sig .tc .vmem (Mat 128 w) .bf16
  r0 : Memref sig .tc .vmem (Mat 512 w) .bf16
  r1 : Memref sig .tc .vmem (Mat 256 w) .bf16
  r2 : Memref sig .tc .vmem (Mat 128 w) .bf16

@[reducible] def lane (k : Fin 3) : Lane :=
  match k with
  | 0 => ⟨384, Memref.whole cc0_scratch5, Memref.whole cc0_scratch8, Memref.whole cc0_scratch11, Memref.whole cc0_scratch12, Memref.whole cc0_scratch13,
      Memref.whole cc0_scratch20, Memref.whole cc0_scratch21, Memref.whole cc0_scratch22⟩
  | 1 => ⟨384, Memref.whole cc0_scratch6, Memref.whole cc0_scratch9, Memref.whole cc0_scratch14, Memref.whole cc0_scratch15, Memref.whole cc0_scratch16,
      Memref.whole cc0_scratch23, Memref.whole cc0_scratch24, Memref.whole cc0_scratch25⟩
  | 2 => ⟨256, Memref.whole cc0_scratch7, Memref.whole cc0_scratch10, Memref.whole cc0_scratch17, Memref.whole cc0_scratch18, Memref.whole cc0_scratch19,
      Memref.whole cc0_scratch26, Memref.whole cc0_scratch27, Memref.whole cc0_scratch28⟩

/-- `c` holds the buffer that receives in round `r`, reading `G`; -/
def landing (k r : Fin 3) (c : Dev nD) (G : ℕ → ℕ → Elt F .bf16) : sProp 𝕄 :=
  match r with
  | 0 => held (c : Thread nD τ) (lane k).r0 Finset.univ fullShare (fn G)
  | 1 => held (c : Thread nD τ) (lane k).r1 Finset.univ fullShare (fn G)
  | 2 => held (c : Thread nD τ) (lane k).r2 Finset.univ fullShare (fn G)

/-- the buffer that sends in round `r`; -/
def outgoing (k r : Fin 3) (c : Dev nD) (G : ℕ → ℕ → Elt F .bf16) : sProp 𝕄 :=
  match r with
  | 0 => held (c : Thread nD τ) (lane k).s0 Finset.univ fullShare (fn G)
  | 1 => held (c : Thread nD τ) (lane k).s1 Finset.univ fullShare (fn G)
  | 2 => held (c : Thread nD τ) (lane k).s2 Finset.univ fullShare (fn G)

/-- `n` rows of the gathering buffer from row `o`; -/
def rows (k : Fin 3) (c : Dev nD) (q : PosShare TreeShare) (o n : ℕ) (G : ℕ → ℕ → Elt F .bf16) : sProp 𝕄 :=
  held (c : Thread nD τ) (lane k).ag (box o n 0 (lane k).w) q (fn G)

/-- and of the partial sums. -/
def part (k : Fin 3) (c : Dev nD) (o n : ℕ) (G : ℕ → ℕ → Elt F .f32) : sProp 𝕄 :=
  held (c : Thread nD τ) (lane k).p (box o n 0 (lane k).w) fullShare (fn G)

instance landing_storable (k r : Fin 3) (c : Dev nD) (G : ℕ → ℕ → Elt F .bf16) : BI.Storable (upEmb : UEmb _ 𝕄) (landing k r c G) := by
  unfold landing; split <;> infer_instance
instance outgoing_storable (k r : Fin 3) (c : Dev nD) (G : ℕ → ℕ → Elt F .bf16) : BI.Storable (upEmb : UEmb _ 𝕄) (outgoing k r c G) := by
  unfold outgoing; split <;> infer_instance
instance rows_storable (k : Fin 3) (c : Dev nD) (q : PosShare TreeShare) (o n : ℕ) (G : ℕ → ℕ → Elt F .bf16) :
    BI.Storable (upEmb : UEmb _ 𝕄) (rows k c q o n G) := by unfold rows; infer_instance

/-! ## Cells -/

/-- The semaphores shared between devices: the barrier's, and for each stream `k` and step `j` (three rounds of summing, three of
    gathering) the one that announces a transfer's departure (`false`) and the one that announces its arrival (`true`). -/
abbrev Cell : Type := Option (Bool × Fin 3 × Fin 6)

abbrev barS : Sem sig := (SemArray.scalar (sig.barrier 0 rfl) : Sems sig S_).sem

def xferS (b : Bool) (k : Fin 3) (j : Fin 6) : DmaSem sig := ⟨(if b then 18 else 0) + 6 * k.val + j.val, by
  show _ < 54
  have := k.isLt; have := j.isLt; split <;> omega⟩

def csem : Cell → SemLoc sig
  | none => .reg barS
  | some (b, k, j) => .dma (xferS b k j)

/-- Which shared semaphore a semaphore is. -/
def cellOfSem (s : SemLoc sig) : Option Cell :=
  match s with
  | .reg s => if s = barS then some none else none
  | .dma q => if q.val < 36 then some (some (decide (18 ≤ q.val), Fin.ofNat 3 (q.val % 18 / 6), Fin.ofNat 6 (q.val % 6))) else none

theorem cellOfSem_csem (x : Cell) : cellOfSem (csem x) = some x := by
  match x with
  | none => simp [cellOfSem, csem]
  | some (b, k, j) => revert b k j; decide

theorem csem_injective : Function.Injective csem := fun a b h => by
  have := congrArg cellOfSem h
  rw [cellOfSem_csem, cellOfSem_csem] at this
  exact Option.some.inj this

abbrev cell (c : Dev nD) (x : Cell) : GSem nD τ sig := ((c : Thread nD τ), csem x)

/-- The round of the summing a step exchanges along: the gathering goes back the same way. -/
def rnd (j : Fin 6) : Fin 3 := match j with | 0 => 0 | 1 => 1 | 2 => 2 | 3 => 2 | 4 => 1 | 5 => 0

/-- The partner of step `j`. -/
def peer (k : Fin 3) (j : Fin 6) (c : Dev nD) : Dev nD := prt k (rnd j) c

theorem peer_peer (k : Fin 3) (j : Fin 6) (c : Dev nD) : peer k j (peer k j c) = c := prt_prt _ _ _

/-- The units one transfer of step `j` counts for. -/
def amt (k : Fin 3) (j : Fin 6) : ℕ := len (rnd j) * wid k / 16
theorem amt_pos (k : Fin 3) (j : Fin 6) : 0 < amt k j := by revert k j; decide

/-! ## The schedule -/

/-- What a device lends its partner of round `r` in stream `k`: where the partner's rows are to land. -/
def grant (c : Dev nD) (k r : Fin 3) : sProp 𝕄 :=
  iprop((∃ G, landing k r c G) ∗ (∃ G, rows k c fullShare (give k r c) (len r) G))

/-- What the neighbour along `d` hands `c` at the barrier: its landing places for `c`'s rows in all three streams. -/
def barPay (c : Dev nD) (d : Fin 3) : sProp (MT nD τ sig Unit (Elt F) ℕ UU ℕ) :=
  iprop(grant (nbr d c) 0 (d - 0) ∗ grant (nbr d c) 1 (d - 1) ∗ grant (nbr d c) 2 (d - 2))

/-- What a transfer's departure gives back. -/
def sendPay (c : Dev nD) (k : Fin 3) (j : Fin 6) : sProp (MT nD τ sig Unit (Elt F) ℕ UU ℕ) :=
  if j.val < 3 then outgoing k (rnd j) c (win (give k (rnd j) c) 0 (snd m k (rnd j) c))
  else rows k c fullShare.left (base k (rnd j).succ c) (len (rnd j)) (gath m k)

/-- What its arrival brings. -/
def recvPay (c : Dev nD) (k : Fin 3) (j : Fin 6) : sProp (MT nD τ sig Unit (Elt F) ℕ UU ℕ) :=
  if j.val < 3 then landing k (rnd j) c (win (base k (rnd j).succ c) 0 (snd m k (rnd j) (prt k (rnd j) c)))
  else rows k c fullShare (give k (rnd j) c) (len (rnd j)) (gath m k)

def payOf (c : Dev nD) (x : Option Cell) (d : Fin 3) : sProp (MT nD τ sig Unit (Elt F) ℕ UU ℕ) :=
  match x with
  | some none => barPay c d
  | some (some (false, k, j)) => sendPay m c k j
  | some (some (true, k, j)) => recvPay m c k j
  | none => iprop(emp)

instance payOf_storable (c : Dev nD) (x : Option Cell) (d : Fin 3) : BI.Storable (upEmb : UEmb _ 𝕄) (payOf m c x d) := by
  unfold payOf barPay sendPay recvPay grant
  (repeat' split) <;> infer_instance

/-- The units one signal or transfer on a semaphore counts for. -/
def units (x : Option Cell) : ℕ := match x with | some none => 1 | some (some (_, k, j)) => amt k j | none => 1
theorem units_pos (x : Option Cell) : 0 < units x := by
  unfold units; split
  · exact Nat.one_pos
  · exact amt_pos _ _
  · exact Nat.one_pos

/-- One round on every shared cell: the barrier's three units, one from each neighbour, and one arrival or departure on the others. -/
def sched : Rounds.Schedule (GSem nD τ sig) (Fin 3) (MT nD τ sig Unit (Elt F) ℕ UU ℕ) where
  duties g r := if r = 0 ∧ g.1.2 = .tc then (match cellOfSem g.2 with | some none => Finset.univ | some (some _) => {0} | none => ∅) else ∅
  unitless _ := False
  amount g _ _ := units (cellOfSem g.2)
  payload g _ d := payOf m g.1.1 (cellOfSem g.2) d
  amount_pos _ _ _ _ := units_pos _

instance sched_payload_storable (g : GSem nD τ sig) (r : ℕ) (d : Fin 3) :
    BI.Storable (upEmb : UEmb _ 𝕄) ((sched (F := F) m).payload g r d) := payOf_storable m _ _ _

section Sched

theorem duties_bar (c : Dev nD) : (sched (F := F) m).duties (cell c none) 0 = Finset.univ := by
  dsimp only [sched]; rw [if_pos ⟨rfl, rfl⟩, cellOfSem_csem]
theorem duties_xfer (c : Dev nD) (b : Bool) (k : Fin 3) (j : Fin 6) : (sched (F := F) m).duties (cell c (some (b, k, j))) 0 = {0} := by
  dsimp only [sched]; rw [if_pos ⟨rfl, rfl⟩, cellOfSem_csem]
theorem duties_later (g : GSem nD τ sig) : ∀ r, 1 ≤ r → (sched (F := F) m).duties g r = ∅ :=
  fun r hr => by dsimp only [sched]; exact if_neg fun h => by omega

theorem amount_bar (c : Dev nD) (d : Fin 3) : (sched (F := F) m).amount (cell c none) 0 d = 1 := by
  dsimp only [sched]; rw [cellOfSem_csem]; rfl
theorem amount_xfer (c : Dev nD) (b : Bool) (k : Fin 3) (j : Fin 6) (d : Fin 3) : (sched (F := F) m).amount (cell c (some (b, k, j))) 0 d = amt k j := by
  dsimp only [sched]; rw [cellOfSem_csem]; rfl

theorem expect_bar (c : Dev nD) : (sched (F := F) m).expect (cell c none) 0 = 3 := by
  unfold Schedule.expect Schedule.amountOf
  rw [duties_bar, Finset.sum_congr rfl fun d _ => amount_bar m c d]; rfl
theorem expect_xfer (c : Dev nD) (b : Bool) (k : Fin 3) (j : Fin 6) : (sched (F := F) m).expect (cell c (some (b, k, j))) 0 = amt k j := by
  unfold Schedule.expect Schedule.amountOf; rw [duties_xfer, Finset.sum_singleton, amount_xfer]

theorem payload_bar (c : Dev nD) (d : Fin 3) : (sched (F := F) m).payload (cell c none) 0 d = barPay c d := by
  dsimp only [sched]; rw [cellOfSem_csem]; rfl
theorem payload_send (c : Dev nD) (k : Fin 3) (j : Fin 6) (d : Fin 3) : (sched (F := F) m).payload (cell c (some (false, k, j))) 0 d = sendPay m c k j := by
  dsimp only [sched]; rw [cellOfSem_csem]; rfl
theorem payload_recv (c : Dev nD) (k : Fin 3) (j : Fin 6) (d : Fin 3) : (sched (F := F) m).payload (cell c (some (true, k, j))) 0 d = recvPay m c k j := by
  dsimp only [sched]; rw [cellOfSem_csem]; rfl

theorem rest_bar (c : Dev nD) : bigSep ((sched (F := F) m).duties (cell c none) 0 \ ∅) (fun d => (sched (F := F) m).payload (cell c none) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (c : Dev nD) (k : Fin 3) (j : Fin 6) :
    bigSep ((sched (F := F) m).duties (cell c (some (false, k, j))) 0 \ ∅) (fun d => (sched (F := F) m).payload (cell c (some (false, k, j))) 0 d) = sendPay m c k j := by
  rw [Finset.sdiff_empty, duties_xfer, bigSep_singleton, payload_send]
theorem rest_recv (c : Dev nD) (k : Fin 3) (j : Fin 6) :
    bigSep ((sched (F := F) m).duties (cell c (some (true, k, j))) 0 \ ∅) (fun d => (sched (F := F) m).payload (cell c (some (true, k, j))) 0 d) = recvPay m c k j := by
  rw [Finset.sdiff_empty, duties_xfer, bigSep_singleton, payload_recv]

end Sched

/-! ## What a device owes, and the levels -/

/-- The units a device pays to others, numbered backwards: 20, 19, 18 the barrier's, then one arrival after another down to 0. -/
def item (c : Dev nD) (i : ℕ) : GSem nD τ sig × ℕ :=
  if i < 18 then
    (cell (peer (Fin.ofNat 3 ((17 - i) % 3)) (Fin.ofNat 6 ((17 - i) / 3)) c) (some (true, Fin.ofNat 3 ((17 - i) % 3), Fin.ofNat 6 ((17 - i) / 3))),
      amt (Fin.ofNat 3 ((17 - i) % 3)) (Fin.ofNat 6 ((17 - i) / 3)))
  else (cell (nbr (Fin.ofNat 3 (20 - i)) c) none, 1)

/-- What is owed when the last `n` payments are still to be made. -/
def owed (c : Dev nD) : ℕ → CellTallies nD τ sig Unit
  | 0 => 0
  | n + 1 => owed c n + tallyAt (item c n).1 () (item c n).2

def L (g : GSem nD τ sig) : Finset Unit := if g.1.2 = .tc then {()} else ∅

/-- Arrivals of step `j` at `j + 1`, everything else at 0. -/
def lvS (s : SemLoc sig) : ℕ := match s with
  | .reg _ => 0
  | .dma q => if 18 ≤ q.val ∧ q.val < 36 then q.val % 6 + 1 else 0

def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {g : GSem nD τ sig} {u : Unit} : ∀ {n : ℕ}, 0 < owed c n g u → ∃ i < n, g = (item c i).1
  | 0, h => absurd h (Nat.lt_irrefl 0)
  | n + 1, h => by
    unfold owed at h
    rw [Pi.add_apply, Finsupp.add_apply, tallyAt_apply] at h
    by_cases hg : g = (item c n).1 ∧ u = ()
    · exact ⟨n, Nat.lt_succ_self n, hg.1⟩
    · rw [if_neg hg] at h
      obtain ⟨i, hi, e⟩ := owed_pos (n := n) h
      exact ⟨i, Nat.lt_succ_of_lt hi, e⟩

theorem item_tc (c : Dev nD) (i : ℕ) : (item c i).1.1.2 = .tc := by unfold item; split <;> rfl

/-- The level of payment `i`. -/
theorem item_lv (c : Dev nD) (i : ℕ) (hi : i < 18) : lvS (item c i).1.2 = (17 - i) / 3 + 1 := by
  unfold item; rw [if_pos hi]
  show lvS (csem (some (true, Fin.ofNat 3 ((17 - i) % 3), Fin.ofNat 6 ((17 - i) / 3)))) = _
  revert i; decide

/-- A device may wait on a semaphore whose level is below those of all it still owes. -/
theorem mayWait (c : Dev nD) (sm : SemLoc sig) (n : ℕ) (hn : n ≤ 18) (h : ∀ i < n, lvS sm < (17 - i) / 3 + 1) :
    (levAts L lv : sProp 𝕄) ⊢ MayWait (c : Thread nD τ) sm () (owed c n) := by
  refine MayOwe.of_cut (L := L) (lev := lv) (lvS sm) (fun p hp => by rw [Finset.mem_singleton.mp hp, L_tc]; exact Finset.mem_singleton_self _) ?_ ?_ ?_
  · intro g u hg
    obtain ⟨i, hi, rfl⟩ := owed_pos hg
    unfold L; rw [if_pos (item_tc c i)]; exact Finset.mem_singleton_self _
  · intro p hp; rw [Finset.mem_singleton.mp hp]; exact le_refl _
  · intro g u hg
    obtain ⟨i, hi, rfl⟩ := owed_pos hg
    show lvS sm < lvS (item c i).1.2
    rw [item_lv c i (by omega)]; exact h i hi

end Cert.Reduce
-- ==== Proof.Links.lean ====
/-
  The steps of the exchange as rules over the protocol: a barrier signal, the barrier wait, a transfer to a partner, the two waits on
  it, and transfers inside the device.
-/
module

public import proofs.«01_k».proof.Proof.Held
public import proofs.«01_k».proof.Proof.Protocol

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_waitLocalO)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Cell → ℕ)

/-- What every device knows of the shared cells, and the levels. -/
def ctx : sProp (MT nD τ sig Unit (Elt F) ℕ UU ℕ) :=
  iprop((bigSep Finset.univ fun x : Dev nD × Cell => cellInv ER (sched m) (K x) (cell x.1 x.2))
    ∗ (bigSep Finset.univ fun x : Dev nD × Cell => reached ER (cell x.1 x.2) 0) ∗ levAts L lv)

instance ctx_persistent : BI.Persistent (ctx m K) := by unfold ctx; infer_instance

theorem ctx_inv (x : Dev nD × Cell) : ctx m K ⊢ cellInv ER (sched m) (K x) (cell x.1 x.2) := by
  have h : (bigSep Finset.univ fun x : Dev nD × Cell => cellInv ER (sched m) (K x) (cell x.1 x.2)) ⊢ cellInv ER (sched m) (K x) (cell x.1 x.2) :=
    bigSep_elim (Finset.mem_univ x)
  unfold ctx; iintro ⟨#H, -, -⟩
  iapply h; iexact H
theorem ctx_reached (x : Dev nD × Cell) : ctx m K ⊢ (reached ER (cell x.1 x.2) 0 : sProp 𝕄) := by
  have h : (bigSep Finset.univ fun x : Dev nD × Cell => (reached ER (cell x.1 x.2) 0 : sProp 𝕄)) ⊢ (reached ER (cell x.1 x.2) 0 : sProp 𝕄) :=
    bigSep_elim (Finset.mem_univ x)
  unfold ctx; iintro ⟨-, #H, -⟩
  iapply h; iexact H
theorem ctx_lev : ctx m K ⊢ (levAts L lv : sProp 𝕄) := by
  unfold ctx; iintro ⟨-, -, #H⟩; iexact H

/-- The device still owes its last `n` payments. -/
def owesN (c : Dev nD) (n : ℕ) : sProp (MT nD τ sig Unit (Elt F) ℕ UU ℕ) := iprop(∃ W, owes (c : Thread nD τ) (owed c n) W)

/-- The right to pay duty `d` of the barrier of the neighbour along `d`. -/
def barTok (c : Dev nD) (d : Fin 3) : sProp (MT nD τ sig Unit (Elt F) ℕ UU ℕ) := dutyTok ER (cell (nbr d c) none) 0 d

/-- A link before its transfer: the duties of departure and arrival at the partner, and the waits here. -/
def lk0 (c : Dev nD) (k : Fin 3) (j : Fin 6) : sProp (MT nD τ sig Unit (Elt F) ℕ UU ℕ) :=
  iprop(dutyTok ER (cell c (some (false, k, j))) 0 0 ∗ dutyTok ER (cell (peer k j c) (some (true, k, j))) 0 0
    ∗ atPos ER (cell c (some (false, k, j))) 0 ∅ 0 ∗ atPos ER (cell c (some (true, k, j))) 0 ∅ 0
    ∗ cred (tallyAt (cell c (some (true, k, j))) () (amt k j)))
/-- The transfer on its way. -/
def lk1 (c : Dev nD) (k : Fin 3) (j : Fin 6) : sProp (MT nD τ sig Unit (Elt F) ℕ UU ℕ) :=
  iprop(atPos ER (cell c (some (false, k, j))) 0 ∅ 0 ∗ atPos ER (cell c (some (true, k, j))) 0 ∅ 0
    ∗ cred (tallyAt (cell c (some (false, k, j))) () (amt k j)) ∗ cred (tallyAt (cell c (some (true, k, j))) () (amt k j)))
/-- Its departure waited for. -/
def lk2 (c : Dev nD) (k : Fin 3) (j : Fin 6) : sProp (MT nD τ sig Unit (Elt F) ℕ UU ℕ) :=
  iprop(semVal (cell c (some (false, k, j))) 0 ∗ atPos ER (cell c (some (true, k, j))) 0 ∅ 0
    ∗ cred (tallyAt (cell c (some (true, k, j))) () (amt k j)))
/-- And the arrival of the partner's. -/
def lk3 (c : Dev nD) (k : Fin 3) (j : Fin 6) : sProp (MT nD τ sig Unit (Elt F) ℕ UU ℕ) :=
  iprop(semVal (cell c (some (false, k, j))) 0 ∗ semVal (cell c (some (true, k, j))) 0)

theorem lv_send (k : Fin 3) (j : Fin 6) : lvS (csem (some (false, k, j))) = 0 := by revert k j; decide
theorem lv_recv (k : Fin 3) (j : Fin 6) : lvS (csem (some (true, k, j))) = j.val + 1 := by revert k j; decide

section Rules

variable (c : Dev nD) {α : Type} {Q : α → sProp (MT nD τ sig Unit (Elt F) ℕ UU ℕ)} {n : ℕ}

/-- Signalling a neighbour's barrier, handing it the landing places its rows go to. -/
theorem wp_signal_nbr (d : Fin 3) {dst : Dev nD} (hd : dst = nbr d c) {w : ℕ} (hw : w = 1) (hi : item c n = (cell (nbr d c) none, 1))
    {k : PUnit → Prog (TpuEff nD τ sig (Elt F) Λ₀ .tc) α} :
    iprop(ctx m K ∗ owesN c (n + 1) ∗ barTok c d ∗ barPay (nbr d c) d)
      ⊢ iprop((owesN c n -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc dst : Thread nD τ) barS w) k) Q) := by
  subst hd hw
  unfold owesN barTok
  have hp : (sched (F := F) m).payload ((nbr d c : Thread nD τ), SemLoc.reg barS) 0 d = barPay (nbr d c) d := payload_bar m (nbr d c) d
  iintro ⟨#Hc, ⟨%W, HO⟩, Ht, Hp⟩ Hk
  iapply (Rounds.wp_signal 𝒱₀ ER (sched m) (c : Thread nD τ) none (dst := (nbr d c : Thread nD τ)) (κ := K (nbr d c, none)) (d := d) (r := 0)
    (by have := duties_bar m (nbr d c); rw [show ((nbr d c : Thread nD τ), SemLoc.reg barS) = cell (nbr d c) none from rfl, this]; exact Finset.mem_univ _)
    (amount_bar m (nbr d c) d) () (owed c n) (O₀ := owed c (n + 1)) (by rw [show owed c (n + 1) = owed c n + tallyAt (item c n).1 () (item c n).2 from rfl, hi]; rfl) (W := W)) $$ [HO Ht Hp]
  · isplitr; · iapply (ctx_inv m K (nbr d c, none)); iexact Hc
    isplitl [HO]; · iexact HO
    isplitl [Ht]; · iexact Ht
    isplitl [Hp]; · iapply (Entails.of_eq (hp.symm)); iexact Hp
    iapply (ctx_reached m K (nbr d c, none)); iexact Hc
  iintro HO
  iapply Hk
  iexists W; iexact HO

/-- Waiting for the three neighbours: their landing places come with it. -/
theorem wp_wait_bar {w : ℕ} (hw : w = 3) (hn : n ≤ 18)
    {k : PUnit → Prog (TpuEff nD τ sig (Elt F) Λ₀ .tc) α} :
    iprop(ctx m K ∗ owesN c n ∗ cred (tallyAt (cell c none) () 3) ∗ atPos ER (cell c none) 0 ∅ 0)
      ⊢ iprop(((owesN c n ∗ semVal (cell c none) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  unfold owesN
  iintro ⟨#Hc, ⟨%W, HO⟩, Hcr, Hat⟩ Hk
  iapply (Rounds.wp_wait_rest_token 𝒱₀ ER (sched m) (c : Thread nD τ) none (κ := K (c, none))
      (sm := csem none) (wpE_semWait_eq 𝒱₀ (c : Thread nD τ) none Set.univ) (Set.mem_univ _) () (O := owed c n) (W := W) (R := 0) (m := 0) (T := ∅)
      (by rw [expect_bar])) $$ [Hcr HO Hat]
  · isplitr; · iapply (ctx_inv m K (c, none)); iexact Hc
    isplitl [Hcr]; · iexact Hcr
    isplitl [HO]; · iexact HO
    isplitr
    · iapply (mayWait c (csem none) n hn (fun i _ => Nat.succ_pos _)); iapply (ctx_lev m K); iexact Hc
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (cell c none))) $$ [Hat] with Hz
  · isplitr; · iapply (ctx_inv m K (c, none)); iexact Hc
    iexact Hat
  iapply Hk
  isplitl [HO]; · iexists _; iexact HO
  isplitl [Hz]; · iexact Hz
  iexact Hp

/-- A transfer to the partner: the source lent to the departure, the partner's landing place to the arrival. -/
theorem wp_send_link (k : Fin 3) (j : Fin 6) (hi : item c n = (cell (peer k j c) (some (true, k, j)), amt k j)) {dv : Dev nD} (hd : dv = peer k j c)
    {s : Shape} {e : EltTy} {src : Memref sig .tc .vmem s e} {dst : Memref sig (Dev.tc dv : Thread nD τ).2.kind .vmem s e} {sS sR : DmaSem sig}
    (hS : sS = xferS false k j) (hR : sR = xferS true k j) (hN : dst.view.dmaCredit = amt k j) {q : PosShare TreeShare} {X Y : s.Idx → Elt F e}
    (hp₁ : held (c : Thread nD τ) src Finset.univ q X ⊢ sendPay m c k j)
    (hp₂ : held (Dev.tc dv : Thread nD τ) dst Finset.univ fullShare X ⊢ recvPay m (peer k j c) k j)
    {hsc : dst.view.ref.isScScratch = false} {hsrc : src.view.WordExact} {hdst : dst.view.WordExact}
    {hsem : DmaTarget.Typed .vmem (.dma sR) (.remote (Dev.tc dv : Thread nD τ) dst (.dma sS) hsc)}
    {kk : PUnit → Prog (TpuEff nD τ sig (Elt F) Λ₀ .tc) α} :
    iprop(ctx m K ∗ owesN c (n + 1) ∗ lk0 c k j ∗ held (c : Thread nD τ) src Finset.univ q X ∗ held (Dev.tc dv : Thread nD τ) dst Finset.univ fullShare Y)
      ⊢ iprop(((owesN c n ∗ lk1 c k j) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc dv : Thread nD τ) dst (.dma sS) hsc) (.dma sR) hsrc hdst hsem) kk) Q) := by
  subst hd hS hR
  unfold owesN lk0 lk1
  rw [show held (U := UU) (c : Thread nD τ) src Finset.univ q X = iprop(∃ f : Buf (Elt F) (src.view.loc (c : Thread nD τ)),
    ⌜∀ i ∈ Finset.univ, src.view.read (Elt F) f i = X i⌝ ∗ (src.view.loc (c : Thread nD τ) ↦[src.view.setOn Finset.univ]{q} f)) from rfl,
    show held (U := UU) (Dev.tc (peer k j c) : Thread nD τ) dst Finset.univ fullShare Y = iprop(∃ f : Buf (Elt F) (dst.view.loc (Dev.tc (peer k j c) : Thread nD τ)),
    ⌜∀ i ∈ Finset.univ, dst.view.read (Elt F) f i = Y i⌝ ∗ (dst.view.loc (Dev.tc (peer k j c) : Thread nD τ) ↦[dst.view.setOn Finset.univ]{fullShare} f)) from rfl]
  iintro ⟨#Hc, ⟨%W, HO⟩, ⟨Ht1, Ht2, Hat1, Hat2, Hcr2⟩, ⟨%f, %hf, Hs⟩, ⟨%g, %hg, Hd⟩⟩ Hk
  iapply (Rounds.wp_send_pointsTo 𝒱₀ ER (sched m) (c : Thread nD τ) none (κ₁ := K (c, some (false, k, j))) (κ₂ := K (peer k j c, some (true, k, j)))
    (c' := (Dev.tc (peer k j c) : Thread nD τ)) (src := src) (dst := dst) (sS := .dma (xferS false k j)) (sem := .dma (xferS true k j)) (q := q) (fs := f)
    (r₁ := 0) (r₂ := 0) (d₁ := 0) (d₂ := 0) (fd := g)
    (by have := duties_xfer m c false k j; rw [show ((c : Thread nD τ), SemLoc.dma (xferS false k j)) = cell c (some (false, k, j)) from rfl, this]; exact Finset.mem_singleton_self _)
    (by have := duties_xfer m (peer k j c) true k j; rw [show ((peer k j c : Thread nD τ), SemLoc.dma (xferS true k j)) = cell (peer k j c) (some (true, k, j)) from rfl, this]; exact Finset.mem_singleton_self _)
    () () (amt k j) hN (amount_xfer m c false k j 0) (amount_xfer m (peer k j c) true k j 0) (owed c n)
    (O₀ := owed c (n + 1)) (by rw [show owed c (n + 1) = owed c n + tallyAt (item c n).1 () (item c n).2 from rfl, hi]; rfl) (W := W)
    (by
      refine BIBase.Entails.trans ?_ (hp₁.trans (Entails.of_eq (payload_send m c k j 0).symm))
      unfold held; iintro H; iexists f; isplitr
      · ipureintro; exact hf
      iexact H)
    (by
      refine BIBase.Entails.trans ?_ (hp₂.trans (Entails.of_eq (payload_recv m (peer k j c) k j 0).symm))
      unfold held; iintro H; iexists _; isplitr
      on_goal 2 => iexact H
      ipureintro; intro i hi'
      exact (congrFun (View.read_write_univ (v := dst.view) (Val := Elt F) g _) i).trans (hf i hi'))) $$ [HO Ht1 Ht2 Hs Hd]
  · isplitr; · iapply (ctx_inv m K (c, some (false, k, j))); iexact Hc
    isplitr; · iapply (ctx_inv m K (peer k j c, some (true, k, j))); iexact Hc
    isplitl [Hs]; · iexact Hs
    isplitl [Hd]; · iexact Hd
    isplitl [HO]; · iexact HO
    isplitl [Ht1]; · iexact Ht1
    isplitr; · iapply (ctx_reached m K (c, some (false, k, j))); iexact Hc
    isplitl [Ht2]; · iexact Ht2
    iapply (ctx_reached m K (peer k j c, some (true, k, j))); iexact Hc
  iintro ⟨Hcr1, HO⟩
  iapply Hk
  isplitl [HO]; · iexists _; iexact HO
  isplitl [Hat1]; · iexact Hat1
  isplitl [Hat2]; · iexact Hat2
  isplitl [Hcr1]; · iexact Hcr1
  iexact Hcr2

/-- Waiting for the departure: the source comes back. -/
theorem wp_wait_send (k : Fin 3) (j : Fin 6) (hn : n ≤ 18) {sp sp' : Space} {s s' : Shape} {e e' : EltTy} {srcw : Memref sig .tc sp' s' e'} {dstw : Memref sig .tc sp s e}
    {sS : DmaSem sig} (hS : sS = xferS false k j) (hN : dstw.view.dmaCredit = amt k j) {hsrc : srcw.view.WordExact} {hdst : dstw.view.WordExact}
    {kk : PUnit → Prog (TpuEff nD τ sig (Elt F) Λ₀ .tc) α} :
    iprop(ctx m K ∗ owesN c n ∗ lk1 c k j)
      ⊢ iprop(((owesN c n ∗ lk2 c k j ∗ sendPay m c k j) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS srcw dstw hsrc hdst) kk) Q) := by
  subst hS
  unfold owesN lk1 lk2
  iintro ⟨#Hc, ⟨%W, HO⟩, Hat1, Hat2, Hcr1, Hcr2⟩ Hk
  iapply (Rounds.wp_wait_rest_token 𝒱₀ ER (sched m) (c : Thread nD τ) none (κ := K (c, some (false, k, j)))
      (sm := csem (some (false, k, j))) (k' := amt k j) (fun R => by rw [← hN]; exact wpE_waitDma2_eq 𝒱₀ (c : Thread nD τ) none Set.univ R)
      (Set.mem_univ _) () (O := owed c n) (W := W) (R := 0) (m := 0) (T := ∅) (by rw [Nat.zero_add, expect_xfer])) $$ [Hcr1 HO Hat1]
  · isplitr; · iapply (ctx_inv m K (c, some (false, k, j))); iexact Hc
    isplitl [Hcr1]; · iexact Hcr1
    isplitl [HO]; · iexact HO
    isplitr
    · iapply (mayWait c (csem (some (false, k, j))) n hn (fun i _ => by rw [lv_send]; exact Nat.succ_pos _))
      iapply (ctx_lev m K); iexact Hc
    iexact Hat1
  iintro ⟨HO, Hat, -, Hpay⟩
  ihave Hp := (Entails.of_eq (rest_send m c k j)) $$ Hpay
  imod (Rounds.cell_close ER (sched m) (Set.mem_univ (K (c, some (false, k, j)))) (fun h => h) (R := 0 + 1) (duties_later m (cell c (some (false, k, j))))) $$ [Hat] with Hz
  · isplitr; · iapply (ctx_inv m K (c, some (false, k, j))); iexact Hc
    iexact Hat
  iapply Hk
  isplitl [HO]; · iexists _; iexact HO
  isplitl [Hz Hat2 Hcr2]
  · isplitl [Hz]; · iexact Hz
    isplitl [Hat2]; · iexact Hat2
    iexact Hcr2
  iexact Hp

/-- Waiting for the arrival of the partner's rows, nothing being owed any more to a step up to `j`. -/
theorem wp_wait_recv (k : Fin 3) (j : Fin 6) (hn : n + 3 * j.val ≤ 15) {sp sp' : Space} {s s' : Shape} {e e' : EltTy} {srcw : Memref sig .tc sp' s' e'} {dstw : Memref sig .tc sp s e}
    {sR : DmaSem sig} (hR : sR = xferS true k j) (hN : dstw.view.dmaCredit = amt k j) {hsrc : srcw.view.WordExact} {hdst : dstw.view.WordExact}
    {kk : PUnit → Prog (TpuEff nD τ sig (Elt F) Λ₀ .tc) α} :
    iprop(ctx m K ∗ owesN c n ∗ lk2 c k j)
      ⊢ iprop(((owesN c n ∗ lk3 c k j ∗ recvPay m c k j) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sR srcw dstw hsrc hdst) kk) Q) := by
  subst hR
  unfold owesN lk2 lk3
  iintro ⟨#Hc, ⟨%W, HO⟩, Hz1, Hat2, Hcr2⟩ Hk
  iapply (Rounds.wp_wait_rest_token 𝒱₀ ER (sched m) (c : Thread nD τ) none (κ := K (c, some (true, k, j)))
      (sm := csem (some (true, k, j))) (k' := amt k j) (fun R => by rw [← hN]; exact wpE_waitDma2_eq 𝒱₀ (c : Thread nD τ) none Set.univ R)
      (Set.mem_univ _) () (O := owed c n) (W := W) (R := 0) (m := 0) (T := ∅) (by rw [Nat.zero_add, expect_xfer])) $$ [Hcr2 HO Hat2]
  · isplitr; · iapply (ctx_inv m K (c, some (true, k, j))); iexact Hc
    isplitl [Hcr2]; · iexact Hcr2
    isplitl [HO]; · iexact HO
    isplitr
    · iapply (mayWait c (csem (some (true, k, j))) n (by omega) (fun i hi => by rw [lv_recv]; omega))
      iapply (ctx_lev m K); iexact Hc
    iexact Hat2
  iintro ⟨HO, Hat, -, Hpay⟩
  ihave Hp := (Entails.of_eq (rest_recv m c k j)) $$ Hpay
  imod (Rounds.cell_close ER (sched m) (Set.mem_univ (K (c, some (true, k, j)))) (fun h => h) (R := 0 + 1) (duties_later m (cell c (some (true, k, j))))) $$ [Hat] with Hz
  · isplitr; · iapply (ctx_inv m K (c, some (true, k, j))); iexact Hc
    iexact Hat
  iapply Hk
  isplitl [HO]; · iexists _; iexact HO
  isplitl [Hz1 Hz]
  · isplitl [Hz1]; · iexact Hz1
    iexact Hz
  iexact Hp

/-- Waiting for a transfer inside the device. -/
theorem wp_finish {sm : DmaSem sig} {q : DmaSem sig} (hq : sm = q) (hlv : lvS (.dma q) = 0) (hn : n ≤ 18) {sp sp' : Space} {s s' : Shape} {e e' : EltTy}
    {srcw : Memref sig .tc sp' s' e'} {dstw : Memref sig .tc sp s e} {N : ℕ} (hN : dstw.view.dmaCredit = N) {D : sProp (MT nD τ sig Unit (Elt F) ℕ UU ℕ)}
    {hsrc : srcw.view.WordExact} {hdst : dstw.view.WordExact} {kk : PUnit → Prog (TpuEff nD τ sig (Elt F) Λ₀ .tc) α} :
    iprop(ctx m K ∗ owesN c n ∗ Flight EC (c : Thread nD τ) (.dma q) () N D)
      ⊢ iprop(((owesN c n ∗ D ∗ semVal ((c : Thread nD τ), .dma q) 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hq
  unfold owesN
  iintro ⟨#Hc, ⟨%W, HO⟩, Hf⟩ Hk
  iapply (wp_waitLocalO EC 𝒱₀ (c : Thread nD τ) none () hN (D := D) (O := owed c n) (W := W)) $$ [HO Hf]
  · isplitl [Hf]; · iexact Hf
    isplitl [HO]; · iexact HO
    iapply (mayWait c (.dma sm) n hn (fun i _ => by rw [hlv]; exact Nat.succ_pos _)); iapply (ctx_lev m K); iexact Hc
  iintro ⟨HD, Hz, HO⟩
  iapply Hk
  isplitl [HO]; · iexists _; iexact HO
  isplitl [HD]; · iexact HD
  iexact Hz

end Rules

end Cert.Reduce
-- ==== Proof.Steps.lean ====
/-
  The recurring runs of effects as single rules: two loads, an operation and a store; a load, an operation and a store; the two waits of
  a link; sending gathered rows; and draining rows of the sums to the result.
-/
module

public import proofs.«01_k».proof.Proof.Links

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

/-! ## Boxes -/

theorem box_univ {R C : ℕ} : (box 0 R 0 C : Finset (Mat R C).Idx) = Finset.univ := by
  ext i; rw [mem_box]
  refine ⟨fun _ => Finset.mem_univ _, fun _ => ⟨⟨Nat.zero_le _, ?_⟩, Nat.zero_le _, ?_⟩⟩
  · rw [Nat.zero_add]; exact (i 0).isLt
  · rw [Nat.zero_add]; exact (i 1).isLt

theorem box_subset {R C o n p q o' n' p' q' : ℕ} (h1 : o' ≤ o) (h2 : o + n ≤ o' + n') (h3 : p' ≤ p) (h4 : p + q ≤ p' + q') :
    (box o n p q : Finset (Mat R C).Idx) ⊆ box o' n' p' q' := fun i hi => by
  rw [mem_box] at hi ⊢; omega

theorem win_zero {α : Type} (X : ℕ → ℕ → α) : win 0 0 X = X := by
  funext a b; unfold win; rw [Nat.zero_add, Nat.zero_add]

theorem win_win {α : Type} {o p : ℕ} (h : p ≤ o) (X : ℕ → ℕ → α) : win (o - p) 0 (win p 0 X) = win o 0 X := by
  funext a b; unfold win; congr 1 <;> omega

section Rules

variable (m : (ℓ : Loc nD τ sig) → Buf (Elt F) ℓ) (K : Dev nD × Cell → ℕ)
variable (c : Dev nD) {α : Type} {Q : α → sProp (MT nD τ sig Unit (Elt F) ℕ UU ℕ)} {n : ℕ}

/-- A load of rows and columns of a held matrix. -/
theorem wp_load_box {cs : CoreSpace} {R C : ℕ} {e : EltTy} {mA : Memref sig .tc cs (Mat R C) e} {off : Fin 2 → ℕ} {nA qA oA pA : ℕ} {inb}
    {hl : mA.view.LoadsAt (rect off nA qA inb : Rect (Mat R C)).toLoadRect}
    {k : ((Mat nA qA).Idx → Elt F e) → Prog (TpuEff nD τ sig (Elt F) Λ₀ .tc) α} {S : Finset (Mat R C).Idx} {q : PosShare TreeShare} {X : ℕ → ℕ → Elt F e}
    (hoff : off = ![oA, pA]) (hS : box oA nA pA qA ⊆ S) :
    (held (c : Thread nD τ) mA S q (fn X) : sProp 𝕄)
      ⊢ iprop((held (c : Thread nD τ) mA S q (fn X) -∗ wp frame (wpE (defs₀ (F := F)) 𝒱₀ (c : Thread nD τ) none) Set.univ (k (fn (win oA pA X))) Q)
        -∗ wp frame (wpE (defs₀ (F := F)) 𝒱₀ (c : Thread nD τ) none) Set.univ (.op (.load mA (rect off nA qA inb : Rect (Mat R C)).toLoadRect hl) k) Q) := by
  subst hoff
  exact wp_load_held (U := UU) (defs := defs₀ (F := F)) 𝒱₀ (c : Thread nD τ) (r := rect ![oA, pA] nA qA inb) (by rw [rect_set]; exact hS) (fn (win oA pA X)) (fun j => fn_emb inb X j)

/-- A load of a held matrix whose result the program does not use, and a store there. -/
theorem wp_over_box {cs : CoreSpace} {R C : ℕ} {e : EltTy} {mC : Memref sig .tc cs (Mat R C) e} {off : Fin 2 → ℕ} {nC qC oC pC : ℕ} {inb inb'}
    {hl : mC.view.LoadsAt (rect off nC qC inb : Rect (Mat R C)).toLoadRect} {w : (Mat nC qC).Idx → Elt F e}
    {hx : (mC.access (rect off nC qC inb')).Stores Finset.univ} {hm}
    {k : PUnit → Prog (TpuEff nD τ sig (Elt F) Λ₀ .tc) α} {S : Finset (Mat R C).Idx} {X : (Mat R C).Idx → Elt F e}
    (hoff : off = ![oC, pC]) (hS : S = box oC nC pC qC) (Y : ℕ → ℕ → Elt F e) (hY : fn (win oC pC Y) = w) :
    (held (c : Thread nD τ) mC S fullShare X : sProp 𝕄)
      ⊢ iprop((held (c : Thread nD τ) mC S fullShare (fn Y) -∗ wp frame (wpE (defs₀ (F := F)) 𝒱₀ (c : Thread nD τ) none) Set.univ (k ⟨⟩) Q)
        -∗ wp frame (wpE (defs₀ (F := F)) 𝒱₀ (c : Thread nD τ) none) Set.univ (.op (.load mC (rect off nC qC inb : Rect (Mat R C)).toLoadRect hl) fun _ =>
          .op (.store mC (rect off nC qC inb') w Finset.univ hx hm) k) Q) := by
  subst hoff hS hY
  iintro H Hk
  iapply (wp_load_unused (U := UU) (defs := defs₀ (F := F)) 𝒱₀ (c : Thread nD τ) (m := mC) (r := rect ![oC, pC] nC qC inb) (by rw [rect_set]; exact Finset.Subset.refl _)) $$ H
  iintro H
  iapply (wp_store_held (U := UU) (defs := defs₀ (F := F)) 𝒱₀ (c : Thread nD τ) (m := mC) (r := rect ![oC, pC] nC qC inb') (by rw [rect_set]; rfl) (fn Y) (fun j => fn_emb inb' Y j)) $$ H
  iexact Hk

/-- Two loads, an operation on what they read, and a store over a third matrix. -/
theorem wp_combine {csA csB csC : CoreSpace} {RA CA RB CB RC CC : ℕ} {eA eB eC : EltTy}
    {mA : Memref sig .tc csA (Mat RA CA) eA} {mB : Memref sig .tc csB (Mat RB CB) eB} {mC : Memref sig .tc csC (Mat RC CC) eC}
    {offA offB offC : Fin 2 → ℕ} {nA wA nB wB nC wC : ℕ} {oA pA oB pB oC pC : ℕ} {inbA inbB inbC inbC'}
    {hlA : mA.view.LoadsAt (rect offA nA wA inbA : Rect (Mat RA CA)).toLoadRect} {hlB : mB.view.LoadsAt (rect offB nB wB inbB : Rect (Mat RB CB)).toLoadRect}
    {hlC : mC.view.LoadsAt (rect offC nC wC inbC : Rect (Mat RC CC)).toLoadRect}
    {pay : ((Mat nA wA).Idx → Elt F eA) → ((Mat nB wB).Idx → Elt F eB) → ((Mat nC wC).Idx → Elt F eC)}
    {hx : (mC.access (rect offC nC wC inbC')).Stores Finset.univ} {hm}
    {k : PUnit → Prog (TpuEff nD τ sig (Elt F) Λ₀ .tc) α} {SA : Finset (Mat RA CA).Idx} {SB : Finset (Mat RB CB).Idx} {SC : Finset (Mat RC CC).Idx}
    {qA qB : PosShare TreeShare} {A : ℕ → ℕ → Elt F eA} {B : ℕ → ℕ → Elt F eB} {X : (Mat RC CC).Idx → Elt F eC}
    (hA : offA = ![oA, pA]) (hSA : box oA nA pA wA ⊆ SA) (hB : offB = ![oB, pB]) (hSB : box oB nB pB wB ⊆ SB) (hC : offC = ![oC, pC]) (hSC : SC = box oC nC pC wC)
    (Y : ℕ → ℕ → Elt F eC) (hY : fn (win oC pC Y) = pay (fn (win oA pA A)) (fn (win oB pB B))) :
    iprop(held (c : Thread nD τ) mA SA qA (fn A) ∗ held (c : Thread nD τ) mB SB qB (fn B) ∗ held (c : Thread nD τ) mC SC fullShare X)
      ⊢ iprop(((held (c : Thread nD τ) mA SA qA (fn A) ∗ held (c : Thread nD τ) mB SB qB (fn B) ∗ held (c : Thread nD τ) mC SC fullShare (fn Y))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load mA (rect offA nA wA inbA : Rect (Mat RA CA)).toLoadRect hlA) fun a => .op (.load mB (rect offB nB wB inbB : Rect (Mat RB CB)).toLoadRect hlB) fun b =>
            .op (.load mC (rect offC nC wC inbC : Rect (Mat RC CC)).toLoadRect hlC) fun _ => .op (.store mC (rect offC nC wC inbC') (pay a b) Finset.univ hx hm) k) Q) := by
  iintro ⟨HA, HB, HC⟩ Hk
  iapply (wp_load_box c hA hSA) $$ HA; iintro HA
  iapply (wp_load_box c hB hSB) $$ HB; iintro HB
  iapply (wp_over_box c hC hSC Y hY) $$ HC; iintro HC
  iapply Hk
  isplitl [HA]; · iexact HA
  isplitl [HB]; · iexact HB
  iexact HC

/-- Two loads, an operation on what they read, and a store over the rows the first one read. -/
theorem wp_update {csA csB : CoreSpace} {RA CA RB CB : ℕ} {eA eB : EltTy}
    {mA : Memref sig .tc csA (Mat RA CA) eA} {mB : Memref sig .tc csB (Mat RB CB) eB}
    {offA offB : Fin 2 → ℕ} {nA wA nB wB : ℕ} {oA pA oB pB : ℕ} {inbA inbB inbC inbC'}
    {hlA : mA.view.LoadsAt (rect offA nA wA inbA : Rect (Mat RA CA)).toLoadRect} {hlB : mB.view.LoadsAt (rect offB nB wB inbB : Rect (Mat RB CB)).toLoadRect}
    {hlC : mA.view.LoadsAt (rect offA nA wA inbC : Rect (Mat RA CA)).toLoadRect}
    {pay : ((Mat nA wA).Idx → Elt F eA) → ((Mat nB wB).Idx → Elt F eB) → ((Mat nA wA).Idx → Elt F eA)}
    {hx : (mA.access (rect offA nA wA inbC')).Stores Finset.univ} {hm}
    {k : ((Mat nA wA).Idx → Elt F eA) → ((Mat nB wB).Idx → Elt F eB) → Prog (TpuEff nD τ sig (Elt F) Λ₀ .tc) α} {SA : Finset (Mat RA CA).Idx} {SB : Finset (Mat RB CB).Idx}
    {qB : PosShare TreeShare} {A : ℕ → ℕ → Elt F eA} {B : ℕ → ℕ → Elt F eB}
    (hA : offA = ![oA, pA]) (hSA : SA = box oA nA pA wA) (hB : offB = ![oB, pB]) (hSB : box oB nB pB wB ⊆ SB)
    (Y : ℕ → ℕ → Elt F eA) (hY : fn (win oA pA Y) = pay (fn (win oA pA A)) (fn (win oB pB B))) :
    iprop(held (c : Thread nD τ) mA SA fullShare (fn A) ∗ held (c : Thread nD τ) mB SB qB (fn B))
      ⊢ iprop(((held (c : Thread nD τ) mA SA fullShare (fn Y) ∗ held (c : Thread nD τ) mB SB qB (fn B))
          -∗ wp frame (wpE (defs₀ (F := F)) 𝒱₀ (c : Thread nD τ) none) Set.univ (k (fn (win oA pA A)) (fn (win oB pB B))) Q)
        -∗ wp frame (wpE (defs₀ (F := F)) 𝒱₀ (c : Thread nD τ) none) Set.univ
          (.op (.load mA (rect offA nA wA inbA : Rect (Mat RA CA)).toLoadRect hlA) fun a => .op (.load mB (rect offB nB wB inbB : Rect (Mat RB CB)).toLoadRect hlB) fun b =>
            .op (.load mA (rect offA nA wA inbC : Rect (Mat RA CA)).toLoadRect hlC) fun _ => .op (.store mA (rect offA nA wA inbC') (pay a b) Finset.univ hx hm) fun _ => k a b) Q) := by
  iintro ⟨HA, HB⟩ Hk
  iapply (wp_load_box c hA (by rw [hSA])) $$ HA; iintro HA
  iapply (wp_load_box c hB hSB) $$ HB; iintro HB
  iapply (wp_over_box c hA hSA Y hY) $$ HA; iintro HA
  iapply Hk
  isplitl [HA]; · iexact HA
  iexact HB

/-- A load, an operation on what it reads, and a store over another matrix. -/
theorem wp_convert {csA csC : CoreSpace} {RA CA RC CC : ℕ} {eA eC : EltTy}
    {mA : Memref sig .tc csA (Mat RA CA) eA} {mC : Memref sig .tc csC (Mat RC CC) eC}
    {offA offC : Fin 2 → ℕ} {nA wA nC wC : ℕ} {oA pA oC pC : ℕ} {inbA inbC inbC'}
    {hlA : mA.view.LoadsAt (rect offA nA wA inbA : Rect (Mat RA CA)).toLoadRect}
    {hlC : mC.view.LoadsAt (rect offC nC wC inbC : Rect (Mat RC CC)).toLoadRect}
    {pay : ((Mat nA wA).Idx → Elt F eA) → ((Mat nC wC).Idx → Elt F eC)}
    {hx : (mC.access (rect offC nC wC inbC')).Stores Finset.univ} {hm}
    {k : PUnit → Prog (TpuEff nD τ sig (Elt F) Λ₀ .tc) α} {SA : Finset (Mat RA CA).Idx} {SC : Finset (Mat RC CC).Idx}
    {qA : PosShare TreeShare} {A : ℕ → ℕ → Elt F eA} {X : (Mat RC CC).Idx → Elt F eC}
    (hA : offA = ![oA, pA]) (hSA : box oA nA pA wA ⊆ SA) (hC : offC = ![oC, pC]) (hSC : SC = box oC nC pC wC)
    (Y : ℕ → ℕ → Elt F eC) (hY : fn (win oC pC Y) = pay (fn (win oA pA A))) :
    iprop(held (c : Thread nD τ) mA SA qA (fn A) ∗ held (c : Thread nD τ) mC SC fullShare X)
      ⊢ iprop(((held (c : Thread nD τ) mA SA qA (fn A) ∗ held (c : Thread nD τ) mC SC fullShare (fn Y))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load mA (rect offA nA wA inbA : Rect (Mat RA CA)).toLoadRect hlA) fun a =>
            .op (.load mC (rect offC nC wC inbC : Rect (Mat RC CC)).toLoadRect hlC) fun _ => .op (.store mC (rect offC nC wC inbC') (pay a) Finset.univ hx hm) k) Q) := by
  iintro ⟨HA, HC⟩ Hk
  iapply (wp_load_box c hA hSA) $$ HA; iintro HA
  iapply (wp_over_box c hC hSC Y hY) $$ HC; iintro HC
  iapply Hk
  isplitl [HA]; · iexact HA
  iexact HC

/-- The two waits of a link, one after the other. -/
theorem wp_wait_link (k : Fin 3) (j : Fin 6) (hn : n + 3 * j.val ≤ 15) {s1 s2 s3 s4 : Space} {t1 t2 t3 t4 : Shape} {e1 e2 e3 e4 : EltTy}
    {a1 : Memref sig .tc s1 t1 e1} {a2 : Memref sig .tc s2 t2 e2} {a3 : Memref sig .tc s3 t3 e3} {a4 : Memref sig .tc s4 t4 e4} {sS sR : DmaSem sig}
    (hS : sS = xferS false k j) (hR : sR = xferS true k j) (hN : a2.view.dmaCredit = amt k j) (hN' : a4.view.dmaCredit = amt k j)
    {h1 : a1.view.WordExact} {h2 : a2.view.WordExact} {h3 : a3.view.WordExact} {h4 : a4.view.WordExact}
    {kk : PUnit → Prog (TpuEff nD τ sig (Elt F) Λ₀ .tc) α} :
    iprop(ctx m K ∗ owesN c n ∗ lk1 c k j)
      ⊢ iprop(((owesN c n ∗ lk3 c k j ∗ sendPay m c k j ∗ recvPay m c k j) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS a1 a2 h1 h2) fun _ => .op (.waitDma2 sR a3 a4 h3 h4) kk) Q) := by
  iintro ⟨#Hc, HO, HL⟩ Hk
  iapply (wp_wait_send m K c k j (n := n) (by omega) hS hN) $$ [HO HL]
  · isplitr; · iexact Hc
    isplitl [HO]; · iexact HO
    iexact HL
  iintro ⟨HO, HL, HS⟩
  iapply (wp_wait_recv m K c k j hn hR hN') $$ [HO HL]
  · isplitr; · iexact Hc
    isplitl [HO]; · iexact HO
    iexact HL
  iintro ⟨HO, HL, HR⟩
  iapply Hk
  isplitl [HO]; · iexact HO
  isplitl [HL]; · iexact HL
  isplitl [HS]; · iexact HS
  iexact HR

/-- Sending a round's rows: the buffer that sends goes with the departure, the partner's that receives with the arrival. -/
theorem wp_send_sum (k : Fin 3) (j : Fin 6) (r : Fin 3) (hr : r = rnd j) (hj : j.val < 3) (hi : item c n = (cell (peer k j c) (some (true, k, j)), amt k j)) {dv : Dev nD} (hd : dv = peer k j c)
    {R C : ℕ} {src : Memref sig .tc .vmem (Mat R C) .bf16} {dst : Memref sig .tc .vmem (Mat R C) .bf16} {sS sR : DmaSem sig}
    (hS : sS = xferS false k j) (hR : sR = xferS true k j)
    (hs : ∀ G, held (c : Thread nD τ) src Finset.univ fullShare (fn G) = outgoing (F := F) k r c G)
    (ht : ∀ (d : Dev nD) G, held (d : Thread nD τ) dst Finset.univ fullShare (fn G) = landing (F := F) k r d G)
    (hN : dst.view.dmaCredit = amt k j)
    {hsc : dst.view.ref.isScScratch = false} {hsrc : src.view.WordExact} {hdst : dst.view.WordExact}
    {hsem : DmaTarget.Typed .vmem (.dma sR) (.remote (Dev.tc dv : Thread nD τ) dst (.dma sS) hsc)}
    {kk : PUnit → Prog (TpuEff nD τ sig (Elt F) Λ₀ .tc) α} {G : ℕ → ℕ → Elt F .bf16} :
    iprop(ctx m K ∗ owesN c (n + 1) ∗ lk0 c k j ∗ held (c : Thread nD τ) src Finset.univ fullShare (fn (win (give k r c) 0 (snd m k r c)))
        ∗ held (prt k r c : Thread nD τ) dst Finset.univ fullShare (fn G))
      ⊢ iprop(((owesN c n ∗ lk1 c k j) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc dv : Thread nD τ) dst (.dma sS) hsc) (.dma sR) hsrc hdst hsem) kk) Q) := by
  subst hd hr
  exact wp_send_link m K c k j hi rfl hS hR hN
    (by rw [hs]; unfold sendPay; rw [if_pos hj])
    (by
      have e : base k (rnd j).succ (peer k j c) = give k (rnd j) c := (give_eq k (rnd j) c).symm
      have e' : prt k (rnd j) (peer k j c) = c := prt_prt k (rnd j) c
      refine (Entails.of_eq (ht (peer k j c) _)).trans ?_
      unfold recvPay; rw [if_pos hj, e, e'])

/-- The two waits on a round of the summing: the buffer that sent, and the one that received. -/
theorem wp_wait_sum (k : Fin 3) (j : Fin 6) (r : Fin 3) (hr : r = rnd j) (hj : j.val < 3) (hn : n + 3 * j.val ≤ 15) {s1 s3 : Space} {t1 t3 : Shape} {e1 e3 : EltTy}
    {R C : ℕ} {a1 : Memref sig .tc s1 t1 e1} {a2 : Memref sig .tc .vmem (Mat R C) .bf16} {a3 : Memref sig .tc s3 t3 e3} {a4 : Memref sig .tc .vmem (Mat R C) .bf16} {sS sR : DmaSem sig}
    (hS : sS = xferS false k j) (hR : sR = xferS true k j)
    (hs : ∀ G, held (c : Thread nD τ) a2 Finset.univ fullShare (fn G) = outgoing (F := F) k r c G)
    (ht : ∀ (d : Dev nD) G, held (d : Thread nD τ) a4 Finset.univ fullShare (fn G) = landing (F := F) k r d G)
    (hN : a2.view.dmaCredit = amt k j) (hN' : a4.view.dmaCredit = amt k j)
    {h1 : a1.view.WordExact} {h2 : a2.view.WordExact} {h3 : a3.view.WordExact} {h4 : a4.view.WordExact}
    {kk : PUnit → Prog (TpuEff nD τ sig (Elt F) Λ₀ .tc) α} :
    iprop(ctx m K ∗ owesN c n ∗ lk1 c k j)
      ⊢ iprop(((owesN c n ∗ lk3 c k j ∗ held (c : Thread nD τ) a2 Finset.univ fullShare (fn (win (give k r c) 0 (snd m k r c)))
              ∗ held (c : Thread nD τ) a4 Finset.univ fullShare (fn (win (base k r.succ c) 0 (snd m k r (prt k r c)))))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS a1 a2 h1 h2) fun _ => .op (.waitDma2 sR a3 a4 h3 h4) kk) Q) := by
  have e1 : sendPay m c k j = outgoing k r c (win (give k r c) 0 (snd m k r c)) := by subst hr; unfold sendPay; rw [if_pos hj]
  have e2 : recvPay m c k j = landing k r c (win (base k r.succ c) 0 (snd m k r (prt k r c))) := by subst hr; unfold recvPay; rw [if_pos hj]
  rw [hs, ht, ← e1, ← e2]
  exact wp_wait_link m K c k j hn hS hR hN hN'

/-- Rows of two neighbouring halves held together are the rows before they were halved. -/
theorem held_halves {sp : Space} {w : ℕ} {e : EltTy} {mA : Memref sig .tc sp (Mat 1024 w) e} {p q : ℕ} {sh : PosShare TreeShare} {X : (Mat 1024 w).Idx → Elt F e} (k r : Fin 3) {l N b b' g : ℕ}
    (hl : l = len r) (hN : N = 2 * len r) (hb : b = base k r.castSucc c) (hb' : b' = base k r.succ c) (hg : g = give k r c) :
    (held (c : Thread nD τ) mA (box b N p q) sh X : sProp 𝕄)
      ⊢ iprop(held (c : Thread nD τ) mA (box b' l p q) sh X ∗ held (c : Thread nD τ) mA (box g l p q) sh X) := by
  subst hl hN hb hb' hg
  refine held_split ?_ ?_
  · refine Finset.disjoint_left.mpr fun i hi hi' => ?_
    rw [mem_box] at hi hi'
    have := base_cases k r c; omega
  · ext i; rw [Finset.mem_union, mem_box, mem_box, mem_box]
    have := base_cases k r c; omega

theorem held_whole {sp : Space} {w : ℕ} {e : EltTy} {mA : Memref sig .tc sp (Mat 1024 w) e} {p q : ℕ} {sh : PosShare TreeShare} {X : (Mat 1024 w).Idx → Elt F e} (k r : Fin 3) {l N b b' g : ℕ}
    (hl : l = len r) (hN : N = 2 * len r) (hb : b = base k r.castSucc c) (hb' : b' = base k r.succ c) (hg : g = give k r c) :
    iprop(held (c : Thread nD τ) mA (box b' l p q) sh X ∗ held (c : Thread nD τ) mA (box g l p q) sh X)
      ⊢ (held (c : Thread nD τ) mA (box b N p q) sh X : sProp 𝕄) := by
  subst hl hN hb hb' hg
  refine held_join ?_ ?_
  · refine Finset.disjoint_left.mpr fun i hi hi' => ?_
    rw [mem_box] at hi hi'
    have := base_cases k r c; omega
  · ext i; rw [Finset.mem_union, mem_box, mem_box, mem_box]
    have := base_cases k r c; omega

/-- The result. -/
@[reducible] def outM : Memref sig .tc .hbm (Mat 1024 1024) .f32 := Memref.whole main_v1

/-- Rows of the sums by their place in the result. -/
def outp (k : Fin 3) (c : Dev nD) (o n : ℕ) (G : ℕ → ℕ → Elt F .f32) : sProp (MT nD τ sig Unit (Elt F) ℕ UU ℕ) :=
  held (c : Thread nD τ) outM (box o n (col k) (wid k)) fullShare (fn fun a b => G a (b - col k))

/-- Slicing rows off a held matrix. -/
theorem held_rows {sp : Space} {R C : ℕ} {e : EltTy} {mA : Memref sig .tc sp (Mat R C) e} {off : Fin 2 → ℕ} {nA wA o p : ℕ} {inb} {hr} {q : PosShare TreeShare}
    {X : ℕ → ℕ → Elt F e} (hoff : off = ![o, p]) :
    (held (c : Thread nD τ) (mA.slice (rect off nA wA inb) hr) Finset.univ q (fn (win o p X)) : sProp 𝕄) = held (c : Thread nD τ) mA (box o nA p wA) q (fn X) := by
  subst hoff
  exact (held_slice (rect ![o, p] nA wA inb) hr (fun j => (fn_emb inb X j).symm)).trans (by rw [rect_set]; rfl)

/-- The rows a device gathers from its partner in round `r`, at the partner. -/
def theirs (k r : Fin 3) (c : Dev nD) (G : ℕ → ℕ → Elt F .bf16) : sProp (MT nD τ sig Unit (Elt F) ℕ UU ℕ) :=
  rows k (prt k r c) fullShare (give k r (prt k r c)) (len r) G

/-- The rows given away in round `r` are among those the round works on. -/
theorem give_subset (k r : Fin 3) {R C l N b g p q : ℕ} (hl : l = len r) (hN : N = 2 * len r) (hb : b = base k r.castSucc c) (hg : g = give k r c) :
    (box g l p q : Finset (Mat R C).Idx) ⊆ box b N p q := by
  subst hl hN hb hg
  intro i hi
  rw [mem_box] at hi ⊢
  have := base_cases k r c; omega

/-- What a transfer of rows counts, on either of its semaphores. -/
theorem credit_rows {sp : Space} {R C : ℕ} {e : EltTy} {mA : Memref sig .tc sp (Mat R C) e} {off : Fin 2 → ℕ} {n w N : ℕ} {inb} {hr}
    (h : RefSig.tileCredit (Mat n w) e = N) : (mA.slice (rect off n w inb) hr).view.dmaCredit = N := h

/-- Sending gathered rows on: half of each element's share goes with the transfer. -/
theorem wp_send_rows (k : Fin 3) (j : Fin 6) (r : Fin 3) (hr : r = rnd j) (hj : 3 ≤ j.val) (hi : item c n = (cell (peer k j c) (some (true, k, j)), amt k j)) {dv : Dev nD} (hd : dv = peer k j c)
    {w l b : ℕ} {agM : Memref sig .tc .vmem (Mat 1024 w) .bf16} {off : Fin 2 → ℕ} {inb inb'} {hs hs'} {sS sR : DmaSem sig}
    (hl : l = len r) (hb : b = base k r.succ c) (hoff : off = ![b, 0]) (hS : sS = xferS false k j) (hR : sR = xferS true k j)
    (hrows : ∀ (d : Dev nD) q o n G, held (d : Thread nD τ) agM (box o n 0 w) q (fn G) = rows (F := F) k d q o n G)
    (hN : (agM.slice (rect off l w inb') hs').view.dmaCredit = amt k j)
    {hsc : (agM.slice (rect off l w inb') hs').view.ref.isScScratch = false}
    {hsrc : (agM.slice (rect off l w inb) hs).view.WordExact}
    {hdst : (agM.slice (rect off l w inb') hs').view.WordExact}
    {hsem : DmaTarget.Typed .vmem (.dma sR) (.remote (Dev.tc dv : Thread nD τ) (agM.slice (rect off l w inb') hs') (.dma sS) hsc)}
    {kk : PUnit → Prog (TpuEff nD τ sig (Elt F) Λ₀ .tc) α} {G : ℕ → ℕ → Elt F .bf16} :
    iprop(ctx m K ∗ owesN c (n + 1) ∗ lk0 c k j ∗ held (c : Thread nD τ) agM (box b l 0 w) fullShare (fn (gath m k)) ∗ theirs k r c G)
      ⊢ iprop(((owesN c n ∗ lk1 c k j ∗ held (c : Thread nD τ) agM (box b l 0 w) fullShare.right (fn (gath m k)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (agM.slice (rect off l w inb) hs)
                (.remote (Dev.tc dv : Thread nD τ) (agM.slice (rect off l w inb') hs') (.dma sS) hsc)
                (.dma sR) hsrc hdst hsem) kk) Q) := by
  have hgive : give k r (prt k r c) = b := by rw [hb]; exact give_prt k r c
  have e1 : sendPay m c k j = held (c : Thread nD τ) agM (box b l 0 w) fullShare.left (fn (gath m k)) := by
    subst hr; unfold sendPay; rw [if_neg (by omega), hrows, hb, hl]
  have e2 : recvPay m (peer k j c) k j = held (peer k j c : Thread nD τ) agM (box b l 0 w) fullShare (fn (gath m k)) := by
    subst hr; unfold recvPay; rw [if_neg (by omega), hrows, ← hgive, hl]; rfl
  subst hd
  unfold theirs
  rw [hgive, ← hl, ← hrows]
  iintro ⟨#Hc, HO, HL, HG, HD⟩ Hk
  ihave HG := held_share $$ HG
  icases HG with ⟨HG, HG'⟩
  iapply (wp_send_link m K c k j hi rfl hS hR hN (q := fullShare.left) (X := fn (win b 0 (gath m k))) (Y := fn (win b 0 G))
    (by rw [held_rows c hoff, e1]) (by rw [held_rows (peer k j c) hoff, e2])) $$ [HO HL HG HD]
  · isplitr; · iexact Hc
    isplitl [HO]; · iexact HO
    isplitl [HL]; · iexact HL
    isplitl [HG]
    · rw [held_rows c hoff]; iexact HG
    · rw [held_rows (peer k j c) hoff]; subst hr; iexact HD
  iintro ⟨HO, HL⟩
  iapply Hk
  iframe HO HL HG'

/-- The two waits on a round of the gathering: the rows sent and those received, now held together. -/
theorem wp_wait_rows (k : Fin 3) (j : Fin 6) (r : Fin 3) (hr : r = rnd j) (hj : 3 ≤ j.val) (hn : n + 3 * j.val ≤ 15) {s1 s2 s3 s4 : Space} {t1 t2 t3 t4 : Shape} {e1 e2 e3 e4 : EltTy}
    {w l b N b₀ : ℕ} {agM : Memref sig .tc .vmem (Mat 1024 w) .bf16}
    {a1 : Memref sig .tc s1 t1 e1} {a2 : Memref sig .tc s2 t2 e2} {a3 : Memref sig .tc s3 t3 e3} {a4 : Memref sig .tc s4 t4 e4} {sS sR : DmaSem sig}
    (hl : l = len r) (hb : b = base k r.succ c) (hNl : N = 2 * len r) (hb₀ : b₀ = base k r.castSucc c) (hS : sS = xferS false k j) (hR : sR = xferS true k j)
    (hrows : ∀ (d : Dev nD) q o n G, held (d : Thread nD τ) agM (box o n 0 w) q (fn G) = rows (F := F) k d q o n G)
    (hN : a2.view.dmaCredit = amt k j) (hN' : a4.view.dmaCredit = amt k j)
    {h1 : a1.view.WordExact} {h2 : a2.view.WordExact} {h3 : a3.view.WordExact} {h4 : a4.view.WordExact}
    {kk : PUnit → Prog (TpuEff nD τ sig (Elt F) Λ₀ .tc) α} :
    iprop(ctx m K ∗ owesN c n ∗ lk1 c k j ∗ held (c : Thread nD τ) agM (box b l 0 w) fullShare.right (fn (gath m k)))
      ⊢ iprop(((owesN c n ∗ lk3 c k j ∗ held (c : Thread nD τ) agM (box b₀ N 0 w) fullShare (fn (gath m k)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS a1 a2 h1 h2) fun _ => .op (.waitDma2 sR a3 a4 h3 h4) kk) Q) := by
  have e1 : sendPay m c k j = held (c : Thread nD τ) agM (box b l 0 w) fullShare.left (fn (gath m k)) := by
    subst hr; unfold sendPay; rw [if_neg (by omega), hrows, hb, hl]
  have e2 : recvPay m c k j = held (c : Thread nD τ) agM (box (give k r c) l 0 w) fullShare (fn (gath m k)) := by
    subst hr; unfold recvPay; rw [if_neg (by omega), hrows, hl]
  iintro ⟨#Hc, HO, HL, HG'⟩ Hk
  iapply (wp_wait_link m K c k j hn hS hR hN hN') $$ [HO HL]
  · iframe Hc HO HL
  iintro ⟨HO, HL, HG, HD⟩
  iapply Hk
  isplitl [HO]; · iexact HO
  isplitl [HL]; · iexact HL
  iapply (held_whole c k r hl hNl hb₀ hb rfl)
  isplitr [HD]
  · iapply held_unshare
    isplitl [HG]
    · iapply (Entails.of_eq e1); iexact HG
    · iexact HG'
  · iapply (Entails.of_eq e2); iexact HD

/-- The semaphore of a transfer into the device's buffers. -/
def inS (i : Fin 6) : DmaSem sig := ⟨36 + i.val, by
  show _ < 54
  have := i.isLt; omega⟩

/-- The semaphore of a drain of stream `k`. -/
def drainS (k : Fin 3) (t : Fin 4) : DmaSem sig := ⟨42 + 4 * k.val + t.val, by
  show _ < 54
  have := k.isLt; have := t.isLt; omega⟩

/-- Starting the drain of rows of the sums to the result. -/
theorem wp_drain (k : Fin 3) (t : Fin 4) {w : ℕ} {pM : Memref sig .tc .vmem (Mat 1024 w) .f32} {offO offP : Fin 2 → ℕ} {o nr : ℕ} {inbO inbP} {hrO hrP} {sm : DmaSem sig}
    (hO : offO = ![o, col k]) (hP : offP = ![o, 0]) (hs : sm = drainS k t) (hw : w = wid k) (N : ℕ)
    (hN : (outM.slice (rect offO nr w inbO) hrO).view.dmaCredit = N) (hN0 : 0 < N)
    {hsrc : (pM.slice (rect offP nr w inbP) hrP).view.WordExact}
    {hdst : (outM.slice (rect offO nr w inbO) hrO).view.WordExact}
    {hsem : DmaTarget.Typed .vmem (.dma sm) (DmaTarget.here (nD := nD) (τ := τ) (p := .tc) (outM.slice (rect offO nr w inbO) hrO))}
    {kk : PUnit → Prog (TpuEff nD τ sig (Elt F) Λ₀ .tc) α} {G Z : ℕ → ℕ → Elt F .f32} :
    iprop(held (c : Thread nD τ) pM (box o nr 0 w) fullShare (fn G) ∗ outp k c o nr Z ∗ semVal ((c : Thread nD τ), .dma (drainS k t)) 0)
      ⊢ iprop((Flight EC (c : Thread nD τ) (.dma (drainS k t)) () N iprop(outp k c o nr G ∗ held (c : Thread nD τ) pM (box o nr 0 w) fullShare (fn G))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (pM.slice (rect offP nr w inbP) hrP)
                (.here (outM.slice (rect offO nr w inbO) hrO)) (.dma sm) hsrc hdst hsem) kk) Q) := by
  subst hs
  have hX (G : ℕ → ℕ → Elt F .f32) : (fn (win o (col k) fun a b => G a (b - col k)) : (Mat nr w).Idx → Elt F .f32) = fn (win o 0 G) := by
    funext j; unfold fn win; dsimp only; congr 1; omega
  have hp (G : ℕ → ℕ → Elt F .f32) : held (c : Thread nD τ) (pM.slice (rect offP nr w inbP) hrP) Finset.univ fullShare (fn (win o 0 G))
      = (held (c : Thread nD τ) pM (box o nr 0 w) fullShare (fn G) : sProp 𝕄) := held_rows c hP
  have ho (G : ℕ → ℕ → Elt F .f32) : held (c : Thread nD τ) (outM.slice (rect offO nr w inbO) hrO) Finset.univ fullShare (fn (win o 0 G))
      = outp k c o nr G := by
    rw [← hX, held_rows c hO]; unfold outp; rw [hw]
  iintro ⟨HP, HO, Hz⟩ Hk
  iapply (wp_start_held (U := UU) (defs := defs₀ (F := F)) 𝒱₀ (c : Thread nD τ) EC (q := fullShare) (X := fn (win o 0 G)) (Y := fn (win o 0 Z)) N (by exact hN) hN0) $$ [HP HO Hz]
  · isplitl [HP]; · rw [hp]; iexact HP
    isplitl [HO]; · rw [ho]; iexact HO
    iexact Hz
  rw [hp, ho]
  iexact Hk

end Rules

end Cert.Reduce
-- ==== Proof.Pays.lean ====
/-
  What the kernel's element-wise operations compute, and the contents they leave behind.
-/
module

public import proofs.«01_k».proof.Proof.Steps
public import Idealize.ShloMosaic.Lib.Pipeline.Value

@[expose] public section

set_option maxRecDepth 10000

noncomputable section

namespace Cert.Reduce

open Cert.KernelIdeal Cert.KernelIdeal.Gen
open Cert.Held
open Idealize.ShloMosaic

variable {F : FTy → Type} [FloatOps F]

/-! ## The operations, element by element -/

/-- Adding received rows, -/
def plus (x : F .f32) (y : F .bf16) : F .f32 := FloatOps.addf x (widen y)
/-- and narrowing the sum. -/
def plusNarrow (x : F .f32) (y : F .bf16) : F .bf16 := narrow (plus x y)

theorem pay13_eq (x : Vec F S256x384 .f32) (y : Vec F S256x384 .bf16) : k0_pay13 x y = fun j => plusNarrow (x j) (y j) := by
  unfold k0_pay13; exact shapeCast_self _ _
theorem pay14_eq (x : Vec F S256x384 .f32) (y : Vec F S256x384 .bf16) : k0_pay14 x y = fun j => plusNarrow (x j) (y j) := by
  unfold k0_pay14; exact shapeCast_self _ _
theorem pay15_eq (x : Vec F S256x256 .f32) (y : Vec F S256x256 .bf16) : k0_pay15 x y = fun j => plusNarrow (x j) (y j) := by
  unfold k0_pay15; exact shapeCast_self _ _
theorem pay19_eq (x : Vec F S128x384 .f32) (y : Vec F S128x384 .bf16) : k0_pay19 x y = fun j => plusNarrow (x j) (y j) := by
  unfold k0_pay19; exact shapeCast_self _ _
theorem pay20_eq (x : Vec F S128x384 .f32) (y : Vec F S128x384 .bf16) : k0_pay20 x y = fun j => plusNarrow (x j) (y j) := by
  unfold k0_pay20; exact shapeCast_self _ _
theorem pay21_eq (x : Vec F S128x256 .f32) (y : Vec F S128x256 .bf16) : k0_pay21 x y = fun j => plusNarrow (x j) (y j) := by
  unfold k0_pay21; exact shapeCast_self _ _
theorem pay27_eq (x : Vec F S128x384 .f32) (y : Vec F S128x384 .bf16) : k0_pay27 x y = fun j => plusNarrow (x j) (y j) := by
  unfold k0_pay27; exact shapeCast_self _ _
theorem pay33_eq (x : Vec F S128x256 .f32) (y : Vec F S128x256 .bf16) : k0_pay33 x y = fun j => plusNarrow (x j) (y j) := by
  unfold k0_pay33; exact shapeCast_self _ _
theorem pay16_eq (x : Vec F S256x384 .f32) (y : Vec F S256x384 .bf16) : k0_pay16 x y = fun j => plus (x j) (y j) := by
  unfold k0_pay16; exact shapeCast_self _ _
theorem pay17_eq (x : Vec F S256x384 .f32) (y : Vec F S256x384 .bf16) : k0_pay17 x y = fun j => plus (x j) (y j) := by
  unfold k0_pay17; exact shapeCast_self _ _
theorem pay18_eq (x : Vec F S256x256 .f32) (y : Vec F S256x256 .bf16) : k0_pay18 x y = fun j => plus (x j) (y j) := by
  unfold k0_pay18; exact shapeCast_self _ _
theorem pay22_eq (x : Vec F S128x384 .f32) (y : Vec F S128x384 .bf16) : k0_pay22 x y = fun j => plus (x j) (y j) := by
  unfold k0_pay22; exact shapeCast_self _ _
theorem pay23_eq (x : Vec F S128x384 .f32) (y : Vec F S128x384 .bf16) : k0_pay23 x y = fun j => plus (x j) (y j) := by
  unfold k0_pay23; exact shapeCast_self _ _
theorem pay24_eq (x : Vec F S128x256 .f32) (y : Vec F S128x256 .bf16) : k0_pay24 x y = fun j => plus (x j) (y j) := by
  unfold k0_pay24; exact shapeCast_self _ _
theorem pay26_eq (x : Vec F S128x384 .f32) (y : Vec F S128x384 .bf16) : k0_pay26 x y = fun j => plus (x j) (y j) := by
  unfold k0_pay26; exact shapeCast_self _ _
theorem pay32_eq (x : Vec F S128x256 .f32) (y : Vec F S128x256 .bf16) : k0_pay32 x y = fun j => plus (x j) (y j) := by
  unfold k0_pay32; exact shapeCast_self _ _
theorem pay29_eq (x : Vec F S128x384 .f32) (y : Vec F S128x384 .bf16) : k0_pay29 (k0_pay28 x y) = fun j => plus (x j) (y j) := by
  unfold k0_pay29; exact shapeCast_self _ _
theorem pay30_eq (x : Vec F S128x384 .f32) (y : Vec F S128x384 .bf16) : k0_pay30 (k0_pay28 x y) = fun j => plusNarrow (x j) (y j) := by
  unfold k0_pay30; exact shapeCast_self _ _
theorem pay34_eq (y : Vec F S128x384 .bf16) : k0_pay34 y = fun j => widen (y j) := by
  unfold k0_pay34; exact shapeCast_self _ _
theorem pay35_eq (y : Vec F S128x384 .bf16) : k0_pay35 y = fun j => widen (y j) := by
  unfold k0_pay35; exact shapeCast_self _ _
theorem pay36_eq (y : Vec F S128x256 .bf16) : k0_pay36 y = fun j => widen (y j) := by
  unfold k0_pay36; exact shapeCast_self _ _
theorem pay37_eq (y : Vec F S256x384 .bf16) : k0_pay37 y = fun j => widen (y j) := by
  unfold k0_pay37; exact shapeCast_self _ _
theorem pay38_eq (y : Vec F S256x384 .bf16) : k0_pay38 y = fun j => widen (y j) := by
  unfold k0_pay38; exact shapeCast_self _ _
theorem pay41_eq (y : Vec F S512x384 .bf16) : k0_pay41 y = fun j => widen (y j) := by
  unfold k0_pay41; exact shapeCast_self _ _
theorem pay42_eq (y : Vec F S512x384 .bf16) : k0_pay42 y = fun j => widen (y j) := by
  unfold k0_pay42; exact shapeCast_self _ _
theorem pay43_eq (y : Vec F S512x256 .bf16) : k0_pay43 y = fun j => widen (y j) := by
  unfold k0_pay43; exact shapeCast_self _ _
theorem pay40_eq (y : Vec F S256x256 .bf16) : k0_pay40 (k0_pay39 y) = fun j => widen (y j) := by
  unfold k0_pay40; exact shapeCast_self _ _

/-- The second stream's product comes in two steps. -/
theorem pay11_eq (x : Vec F S512x2048 .bf16) (y : Vec F S2048x384 .f32) : k0_pay11 (k0_pay10 x y) = k0_pay9 x y := by
  unfold k0_pay11 k0_pay10 k0_pay9; rfl

/-! ## The contents -/

/-- Rows combined from rows of two matrices, the second one starting at row `p`: `f` of both, element by element. -/
theorem fn_combine {α β γ : Type} {R C : ℕ} (f : α → β → γ) {pay : ((Mat R C).Idx → α) → ((Mat R C).Idx → β) → ((Mat R C).Idx → γ)}
    (hp : ∀ x y, pay x y = fun j => f (x j) (y j)) {o p : ℕ} (h : p ≤ o) (A : ℕ → ℕ → α) (B : ℕ → ℕ → β) :
    (fn (win o 0 fun a b => f (A a b) (B a b)) : (Mat R C).Idx → γ) = pay (fn (win o 0 A)) (fn (win (o - p) 0 (win p 0 B))) := by
  rw [hp, win_win h]; rfl

theorem fn_combine_out {α β γ : Type} {R C : ℕ} (f : α → β → γ) {pay : ((Mat R C).Idx → α) → ((Mat R C).Idx → β) → ((Mat R C).Idx → γ)}
    (hp : ∀ x y, pay x y = fun j => f (x j) (y j)) {o p : ℕ} (h : p ≤ o) (A : ℕ → ℕ → α) (B : ℕ → ℕ → β) :
    (fn (win 0 0 (win o 0 fun a b => f (A a b) (B a b))) : (Mat R C).Idx → γ) = pay (fn (win o 0 A)) (fn (win (o - p) 0 (win p 0 B))) := by
  rw [win_zero]; exact fn_combine f hp h A B

/-- The same where both start at one row. -/
theorem fn_combine_same {α β γ : Type} {R C : ℕ} (f : α → β → γ) {pay : ((Mat R C).Idx → α) → ((Mat R C).Idx → β) → ((Mat R C).Idx → γ)}
    (hp : ∀ x y, pay x y = fun j => f (x j) (y j)) {o : ℕ} (A : ℕ → ℕ → α) (B : ℕ → ℕ → β) :
    (fn (win o 0 fun a b => f (A a b) (B a b)) : (Mat R C).Idx → γ) = pay (fn (win o 0 A)) (fn (win 0 0 (win o 0 B))) := by
  rw [hp, win_zero]; rfl

theorem fn_convert {α β : Type} {R C : ℕ} (f : α → β) {pay : ((Mat R C).Idx → α) → ((Mat R C).Idx → β)}
    (hp : ∀ x, pay x = fun j => f (x j)) {o p : ℕ} (A : ℕ → ℕ → α) :
    (fn (win o p fun a b => f (A a b)) : (Mat R C).Idx → β) = pay (fn (win o p A)) := by
  rw [hp]; rfl

/-- The rows sent in the first round and the rows kept are the products' blocks. -/
theorem fn_snd0 (m : (ℓ : Loc nD τ sig) → Buf (Elt F) ℓ) (k : Fin 3) (c : Dev nD) {R C : ℕ} (hR : 0 < R) (hC : 0 < C) {x : (Mat R C).Idx → F .bf16}
    (h : prod16 m k c (give k 0 c) = nat hR hC x) : fn (win 0 0 (win (give k 0 c) 0 (snd m k 0 c))) = x := by
  rw [win_zero, ← fn_nat hR hC x, ← h]
  funext j; unfold fn win; dsimp only [snd]; unfold snd0; rw [Nat.add_sub_cancel_left, Nat.zero_add]

theorem fn_kept0 (m : (ℓ : Loc nD τ sig) → Buf (Elt F) ℓ) (k : Fin 3) (c : Dev nD) {R C : ℕ} (hR : 0 < R) (hC : 0 < C) {x : (Mat R C).Idx → F .f32}
    (h : prod32 m k c (base k 1 c) = nat hR hC x) : fn (win (base k 1 c) 0 (kept0 m k c)) = x := by
  rw [← fn_nat hR hC x, ← h]
  funext j; unfold fn win; unfold kept0; rw [Nat.add_sub_cancel_left, Nat.zero_add]

/-- The rows a device gathers from itself are its totals narrowed. -/
theorem fn_gath (m : (ℓ : Loc nD τ sig) → Buf (Elt F) ℓ) (k : Fin 3) (c : Dev nD) {w : ℕ} :
    (fn (win (base k 3 c) 0 (gath m k)) : (Mat 128 w).Idx → F .bf16) = fn (win (base k 3 c) 0 fun a b => narrow (total m k c a b)) := by
  funext j; unfold fn win gath; dsimp only
  rw [owner_base k c _ ⟨Nat.le_add_right _ _, Nat.add_lt_add_left (j 0).isLt _⟩]

theorem base_le_give (k r : Fin 3) (c : Dev nD) : base k r.castSucc c ≤ give k r c := by
  have := base_cases k r c; omega
theorem base_le (k r : Fin 3) (c : Dev nD) : base k r.castSucc c ≤ base k r.succ c := by
  have := base_cases k r c; omega

/-! ## The rounds' operations, by the rows they work on -/

theorem fn_sum1 (m : (ℓ : Loc nD τ sig) → Buf (Elt F) ℓ) (k : Fin 3) (c : Dev nD) {R C : ℕ} {pay : ((Mat R C).Idx → F .f32) → ((Mat R C).Idx → F .bf16) → ((Mat R C).Idx → F .f32)}
    (hp : ∀ x y, pay x y = fun j => plus (x j) (y j)) :
    (fn (win (base k 2 c) 0 (sum1 m k c)) : (Mat R C).Idx → F .f32) = pay (fn (win (base k 2 c) 0 (kept0 m k c))) (fn (win (base k 2 c - base k 1 c) 0 (win (base k 1 c) 0 (snd m k 0 (prt k 0 c))))) :=
  fn_combine plus hp (base_le k 1 c) _ _

theorem fn_sum2 (m : (ℓ : Loc nD τ sig) → Buf (Elt F) ℓ) (k : Fin 3) (c : Dev nD) {R C : ℕ} {pay : ((Mat R C).Idx → F .f32) → ((Mat R C).Idx → F .bf16) → ((Mat R C).Idx → F .f32)}
    (hp : ∀ x y, pay x y = fun j => plus (x j) (y j)) :
    (fn (win (base k 3 c) 0 (sum2 m k c)) : (Mat R C).Idx → F .f32) = pay (fn (win (base k 3 c) 0 (sum1 m k c))) (fn (win (base k 3 c - base k 2 c) 0 (win (base k 2 c) 0 (snd m k 1 (prt k 1 c))))) :=
  fn_combine plus hp (base_le k 2 c) _ _

theorem fn_total (m : (ℓ : Loc nD τ sig) → Buf (Elt F) ℓ) (k : Fin 3) (c : Dev nD) {R C : ℕ} {pay : ((Mat R C).Idx → F .f32) → ((Mat R C).Idx → F .bf16) → ((Mat R C).Idx → F .f32)}
    (hp : ∀ x y, pay x y = fun j => plus (x j) (y j)) :
    (fn (win (base k 3 c) 0 (total m k c)) : (Mat R C).Idx → F .f32) = pay (fn (win (base k 3 c) 0 (sum2 m k c))) (fn (win 0 0 (win (base k 3 c) 0 (snd m k 2 (prt k 2 c))))) :=
  fn_combine_same plus hp _ _

theorem fn_own (m : (ℓ : Loc nD τ sig) → Buf (Elt F) ℓ) (k : Fin 3) (c : Dev nD) {w : ℕ} {pay : ((Mat 128 w).Idx → F .f32) → ((Mat 128 w).Idx → F .bf16) → ((Mat 128 w).Idx → F .bf16)}
    (hp : ∀ x y, pay x y = fun j => plusNarrow (x j) (y j)) :
    (fn (win (base k 3 c) 0 (gath m k)) : (Mat 128 w).Idx → F .bf16) = pay (fn (win (base k 3 c) 0 (sum2 m k c))) (fn (win 0 0 (win (base k 3 c) 0 (snd m k 2 (prt k 2 c))))) := by
  rw [fn_gath]
  exact fn_combine_same plusNarrow hp (sum2 m k c) (snd m k 2 (prt k 2 c))

theorem fn_snd1 (m : (ℓ : Loc nD τ sig) → Buf (Elt F) ℓ) (k : Fin 3) (c : Dev nD) {R C : ℕ} {pay : ((Mat R C).Idx → F .f32) → ((Mat R C).Idx → F .bf16) → ((Mat R C).Idx → F .bf16)}
    (hp : ∀ x y, pay x y = fun j => plusNarrow (x j) (y j)) :
    (fn (win 0 0 (win (give k 1 c) 0 (snd m k 1 c))) : (Mat R C).Idx → F .bf16) = pay (fn (win (give k 1 c) 0 (kept0 m k c))) (fn (win (give k 1 c - base k 1 c) 0 (win (base k 1 c) 0 (snd m k 0 (prt k 0 c))))) :=
  fn_combine_out plusNarrow hp (base_le_give k 1 c) _ _

theorem fn_snd2 (m : (ℓ : Loc nD τ sig) → Buf (Elt F) ℓ) (k : Fin 3) (c : Dev nD) {R C : ℕ} {pay : ((Mat R C).Idx → F .f32) → ((Mat R C).Idx → F .bf16) → ((Mat R C).Idx → F .bf16)}
    (hp : ∀ x y, pay x y = fun j => plusNarrow (x j) (y j)) :
    (fn (win 0 0 (win (give k 2 c) 0 (snd m k 2 c))) : (Mat R C).Idx → F .bf16) = pay (fn (win (give k 2 c) 0 (sum1 m k c))) (fn (win (give k 2 c - base k 2 c) 0 (win (base k 2 c) 0 (snd m k 1 (prt k 1 c))))) :=
  fn_combine_out plusNarrow hp (base_le_give k 2 c) _ _

end Cert.Reduce
-- ==== Proof.Parts.lean ====
/-
  The parts of the kernel's body on the launch's own buffers, and the body as their sequence.
-/
module

public import proofs.«01_k».proof.Proof.Gen.KernelIdeal.Skeleton
public import proofs.«01_k».proof.Proof.Gen.KernelIdeal.Points

@[expose] public section

set_option maxRecDepth 65536

noncomputable section

namespace Cert.Reduce

open Cert.KernelIdeal Cert.KernelIdeal.Gen
open Idealize.ShloMosaic Idealize.SL.Sem

variable {F : FTy → Type} [FloatOps F]

/-- Part 1. -/
def part1  : Prog (TpuEff nD τ sig (Elt F) Λ₀ .tc) (Σ' (d0 : Dev nD) (v4 : BitVec 32) (v6 : BitVec 32) (v8 : BitVec 32) (v9 : BitVec 32) (v10 : BitVec 32), BitVec 32) :=
  k0_part1 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32

/-- Part 2. -/
def part2 (d0 : Dev nD) (v9 : BitVec 32) (v10 : BitVec 32) (v11 : BitVec 32) : Prog (TpuEff nD τ sig (Elt F) Λ₀ .tc) (Vec F S1024x1024 .bf16) :=
  k0_part2 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v10 v11

/-- Part 3. -/
def part3 (v50 : Vec F S1024x1024 .bf16) : Prog (TpuEff nD τ sig (Elt F) Λ₀ .tc) (Vec F S1024x1024 .bf16) :=
  k0_part3 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 v50

/-- Part 4. -/
def part4 (v4 : BitVec 32) (v6 : BitVec 32) (v8 : BitVec 32) (v78 : Vec F S1024x1024 .bf16) : Prog (TpuEff nD τ sig (Elt F) Λ₀ .tc) (Σ' (v103 : BitVec 32) (v105 : BitVec 32) (v107 : BitVec 32) (v108 : BitVec 32) (v109 : BitVec 32), BitVec 32) :=
  k0_part4 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 v4 v6 v8 v78

/-- Part 5. -/
def part5 (d0 : Dev nD) (v4 : BitVec 32) (v9 : BitVec 32) (v10 : BitVec 32) (v103 : BitVec 32) (v105 : BitVec 32) (c512_i32_92 : BitVec 32) : Prog (TpuEff nD τ sig (Elt F) Λ₀ .tc) (BitVec 32) :=
  k0_part5 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v4 v9 v10 v103 v105 c512_i32_92

/-- Part 6. -/
def part6 (d0 : Dev nD) (v11 : BitVec 32) (v107 : BitVec 32) (v108 : BitVec 32) (v109 : BitVec 32) : Prog (TpuEff nD τ sig (Elt F) Λ₀ .tc) (FVec F S512x384 .f32) :=
  k0_part6 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v11 v107 v108 v109

/-- Part 7. -/
def part7 (d0 : Dev nD) (v9 : BitVec 32) (v10 : BitVec 32) (v110 : BitVec 32) (v171 : FVec F S512x384 .f32) : Prog (TpuEff nD τ sig (Elt F) Λ₀ .tc) (PUnit) :=
  k0_part7 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v10 v110 v171

/-- Part 8. -/
def part8 (d0 : Dev nD) (v4 : BitVec 32) (v6 : BitVec 32) (v8 : BitVec 32) (v11 : BitVec 32) (v108 : BitVec 32) (v109 : BitVec 32) (v110 : BitVec 32) : Prog (TpuEff nD τ sig (Elt F) Λ₀ .tc) (Σ' (v211 : BitVec 32) (v213 : BitVec 32) (v215 : BitVec 32) (v217 : BitVec 32), Vec F S256x384 .f32) :=
  k0_part8 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v4 v6 v8 v11 v108 v109 v110

/-- Part 9. -/
def part9 (d0 : Dev nD) (v9 : BitVec 32) (v10 : BitVec 32) (v11 : BitVec 32) (v110 : BitVec 32) (v211 : BitVec 32) (v231 : Vec F S256x384 .f32) : Prog (TpuEff nD τ sig (Elt F) Λ₀ .tc) (PUnit) :=
  k0_part9 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v10 v11 v110 v211 v231

/-- Part 10. -/
def part10 (d0 : Dev nD) (v108 : BitVec 32) (v109 : BitVec 32) (v110 : BitVec 32) (v213 : BitVec 32) (v215 : BitVec 32) (v217 : BitVec 32) : Prog (TpuEff nD τ sig (Elt F) Λ₀ .tc) (PUnit) :=
  k0_part10 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v108 v109 v110 v213 v215 v217

/-- Part 11. -/
def part11 (v4 : BitVec 32) (v6 : BitVec 32) (v8 : BitVec 32) (v9 : BitVec 32) (v10 : BitVec 32) (v11 : BitVec 32) (v213 : BitVec 32) (v215 : BitVec 32) : Prog (TpuEff nD τ sig (Elt F) Λ₀ .tc) (Σ' (v322 : BitVec 32) (v325 : BitVec 32) (v326 : BitVec 32), BitVec 32) :=
  k0_part11 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 v4 v6 v8 v9 v10 v11 v213 v215

/-- Part 12. -/
def part12 (d0 : Dev nD) (v4 : BitVec 32) (v6 : BitVec 32) (v8 : BitVec 32) (v213 : BitVec 32) (v215 : BitVec 32) (v217 : BitVec 32) (v322 : BitVec 32) (v325 : BitVec 32) (v326 : BitVec 32) (c128_i32_260 : BitVec 32) : Prog (TpuEff nD τ sig (Elt F) Λ₀ .tc) (Σ' (v330 : BitVec 32) (v332 : BitVec 32), BitVec 32) :=
  k0_part12 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v4 v6 v8 v213 v215 v217 v322 v325 v326 c128_i32_260

/-- Part 13. -/
def part13 (d0 : Dev nD) (v9 : BitVec 32) (v10 : BitVec 32) (v11 : BitVec 32) (v213 : BitVec 32) (v215 : BitVec 32) (v330 : BitVec 32) (v332 : BitVec 32) : Prog (TpuEff nD τ sig (Elt F) Λ₀ .tc) (Σ' (v399 : Vec F S128x384 .f32), Vec F S128x384 .bf16) :=
  k0_part13 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v10 v11 v213 v215 v330 v332

/-- Part 14. -/
def part14 (d0 : Dev nD) (v9 : BitVec 32) (v11 : BitVec 32) (v217 : BitVec 32) (v332 : BitVec 32) (v334 : BitVec 32) (v399 : Vec F S128x384 .f32) (v401 : Vec F S128x384 .bf16) : Prog (TpuEff nD τ sig (Elt F) Λ₀ .tc) (PUnit) :=
  k0_part14 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v11 v217 v332 v334 v399 v401

/-- Part 15. -/
def part15 (d0 : Dev nD) (v10 : BitVec 32) (v330 : BitVec 32) (v332 : BitVec 32) : Prog (TpuEff nD τ sig (Elt F) Λ₀ .tc) (FVec F S128x384 .f32) :=
  k0_part15 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v10 v330 v332

/-- Part 16. -/
def part16 (d0 : Dev nD) (v11 : BitVec 32) (v332 : BitVec 32) (v334 : BitVec 32) (v459 : FVec F S128x384 .f32) : Prog (TpuEff nD τ sig (Elt F) Λ₀ .tc) (PUnit) :=
  k0_part16 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v11 v332 v334 v459

/-- Part 17. -/
def part17 (d0 : Dev nD) (v4 : BitVec 32) (v6 : BitVec 32) (v8 : BitVec 32) (v9 : BitVec 32) (v10 : BitVec 32) (v330 : BitVec 32) (v332 : BitVec 32) (v334 : BitVec 32) : Prog (TpuEff nD τ sig (Elt F) Λ₀ .tc) (Σ' (v500 : BitVec 32) (v503 : BitVec 32) (v513 : BitVec 32) (v516 : BitVec 32), BitVec 32) :=
  k0_part17 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v4 v6 v8 v9 v10 v330 v332 v334

/-- Part 18. -/
def part18 (d0 : Dev nD) (v6 : BitVec 32) (v9 : BitVec 32) (v11 : BitVec 32) (v526 : BitVec 32) : Prog (TpuEff nD τ sig (Elt F) Λ₀ .tc) (BitVec 32) :=
  k0_part18 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v6 v9 v11 v526

/-- Part 19. -/
def part19 (d0 : Dev nD) (v6 : BitVec 32) (v10 : BitVec 32) (v11 : BitVec 32) (v500 : BitVec 32) : Prog (TpuEff nD τ sig (Elt F) Λ₀ .tc) (Σ' (v569 : BitVec 32), BitVec 32) :=
  k0_part19 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v6 v10 v11 v500

/-- Part 20. -/
def part20 (d0 : Dev nD) (v4 : BitVec 32) (v8 : BitVec 32) (v9 : BitVec 32) (v503 : BitVec 32) (v513 : BitVec 32) (v526 : BitVec 32) : Prog (TpuEff nD τ sig (Elt F) Λ₀ .tc) (Σ' (v582 : BitVec 32) (v585 : BitVec 32) (v595 : BitVec 32), BitVec 32) :=
  k0_part20 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v4 v8 v9 v503 v513 v526

/-- Part 21. -/
def part21 (d0 : Dev nD) (v10 : BitVec 32) (v516 : BitVec 32) (v529 : BitVec 32) : Prog (TpuEff nD τ sig (Elt F) Λ₀ .tc) (PUnit) :=
  k0_part21 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v10 v516 v529

/-- Part 22. -/
def part22 (d0 : Dev nD) (v9 : BitVec 32) (v11 : BitVec 32) : Prog (TpuEff nD τ sig (Elt F) Λ₀ .tc) (PUnit) :=
  k0_part22 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v11

/-- Part 23. -/
def part23 (d0 : Dev nD) (v6 : BitVec 32) (v8 : BitVec 32) (v9 : BitVec 32) (v10 : BitVec 32) (v11 : BitVec 32) (v569 : BitVec 32) (v582 : BitVec 32) : Prog (TpuEff nD τ sig (Elt F) Λ₀ .tc) (Σ' (v674 : BitVec 32), BitVec 32) :=
  k0_part23 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v6 v8 v9 v10 v11 v569 v582

/-- Part 24. -/
def part24 (d0 : Dev nD) (v4 : BitVec 32) (v572 : BitVec 32) (v585 : BitVec 32) (v595 : BitVec 32) (v598 : BitVec 32) : Prog (TpuEff nD τ sig (Elt F) Λ₀ .tc) (Σ' (v700 : BitVec 32), FVec F S256x256 .f32) :=
  k0_part24 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v4 v572 v585 v595 v598

/-- Part 25. -/
def part25 (d0 : Dev nD) (v9 : BitVec 32) (v10 : BitVec 32) (v725 : FVec F S256x256 .f32) : Prog (TpuEff nD τ sig (Elt F) Λ₀ .tc) (PUnit) :=
  k0_part25 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v9 v10 v725

/-- Part 26. -/
def part26 (d0 : Dev nD) (v11 : BitVec 32) (v674 : BitVec 32) (v687 : BitVec 32) : Prog (TpuEff nD τ sig (Elt F) Λ₀ .tc) (FVec F S512x384 .f32) :=
  k0_part26 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v11 v674 v687

/-- Part 27. -/
def part27 (d0 : Dev nD) (v700 : BitVec 32) (v781 : FVec F S512x384 .f32) : Prog (TpuEff nD τ sig (Elt F) Λ₀ .tc) (PUnit) :=
  k0_part27 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0 v700 v781

/-- Part 28. -/
def part28 (d0 : Dev nD) : Prog (TpuEff nD τ sig (Elt F) Λ₀ .tc) (PUnit) :=
  k0_part28 (Memref.whole main_arg0) (Memref.isWhole_whole _) (Memref.whole main_arg1) (Memref.isWhole_whole _) (Memref.whole main_arg2) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) cc0_scratch29 cc0_scratch30 cc0_scratch31 cc0_scratch32 d0

/-- The waits after the last part. -/
def partEnd (d0 : Dev nD) : Prog (TpuEff nD τ sig (Elt F) Λ₀ .tc) PUnit := do
  let v837 : DmaSems sig S1x1 := cc0_scratch32.slice (Rect.unit (s := S3x4) ![1, 3] S1x1.size inb_S3x4_S1x1_1_3)
  let v838 : DmaSems sig S_ := v837.squeeze S_ squeezes_S1x1_S_
  let v839 : Memref sig .tc .hbm S512x384 .f32 := (Memref.whole main_v1).slice (Rect.unit (s := S1024x1024) (k0_off66 d0) S512x384.size (k0_off66_inb d0)) (fun _ => rfl)
  let v840 : Memref sig .tc .vmem S512x384 .f32 := (Memref.whole cc0_scratch6).slice (Rect.unit (s := S1024x384) (k0_off67 d0) S512x384.size (k0_off67_inb d0)) (fun _ => rfl)
  Prog.lift (.waitDma2 v838.sem v840 v839 (View.wordExact_bits rfl) (View.wordExact_bits rfl))
  let v841 : DmaSems sig S1x1 := cc0_scratch32.slice (Rect.unit (s := S3x4) ![2, 3] S1x1.size inb_S3x4_S1x1_2_3)
  let v842 : DmaSems sig S_ := v841.squeeze S_ squeezes_S1x1_S_
  let v843 : Memref sig .tc .hbm S512x256 .f32 := (Memref.whole main_v1).slice (Rect.unit (s := S1024x1024) (k0_off69 d0) S512x256.size (k0_off69_inb d0)) (fun _ => rfl)
  let v844 : Memref sig .tc .vmem S512x256 .f32 := (Memref.whole cc0_scratch7).slice (Rect.unit (s := S1024x256) (k0_off70 d0) S512x256.size (k0_off70_inb d0)) (fun _ => rfl)
  Prog.lift (.waitDma2 v842.sem v844 v843 (View.wordExact_bits rfl) (View.wordExact_bits rfl))
  pure ⟨⟩

/-- From the second of the gathering rounds' results on. -/
def rest23 (d0 : Dev nD) (v6 : BitVec 32) (v8 : BitVec 32) (v9 : BitVec 32) (v10 : BitVec 32) (v11 : BitVec 32) (v569 : BitVec 32) (v582 : BitVec 32) (v4 : BitVec 32) (v572 : BitVec 32) (v585 : BitVec 32) (v595 : BitVec 32) (v598 : BitVec 32) : Prog (TpuEff nD τ sig (Elt F) Λ₀ .tc) PUnit := do
  let ⟨v674, v687⟩ ← part23 d0 v6 v8 v9 v10 v11 v569 v582
  let ⟨v700, v725⟩ ← part24 d0 v4 v572 v585 v595 v598
  part25 d0 v9 v10 v725
  let v781 ← part26 d0 v11 v674 v687
  part27 d0 v700 v781
  part28 d0
  partEnd d0

/-- The gathering. -/
def rest17 (d0 : Dev nD) (v4 : BitVec 32) (v6 : BitVec 32) (v8 : BitVec 32) (v9 : BitVec 32) (v10 : BitVec 32) (v330 : BitVec 32) (v332 : BitVec 32) (v334 : BitVec 32) (v11 : BitVec 32) : Prog (TpuEff nD τ sig (Elt F) Λ₀ .tc) PUnit := do
  let ⟨v500, v503, v513, v516, v526⟩ ← part17 d0 v4 v6 v8 v9 v10 v330 v332 v334
  let v529 ← part18 d0 v6 v9 v11 v526
  let ⟨v569, v572⟩ ← part19 d0 v6 v10 v11 v500
  let ⟨v582, v585, v595, v598⟩ ← part20 d0 v4 v8 v9 v503 v513 v526
  part21 d0 v10 v516 v529
  part22 d0 v9 v11
  rest23 d0 v6 v8 v9 v10 v11 v569 v582 v4 v572 v585 v595 v598

/-- From the third round of the summing on. -/
def rest12 (d0 : Dev nD) (v4 : BitVec 32) (v6 : BitVec 32) (v8 : BitVec 32) (v213 : BitVec 32) (v215 : BitVec 32) (v217 : BitVec 32) (v322 : BitVec 32) (v325 : BitVec 32) (v326 : BitVec 32) (c128_i32_260 : BitVec 32) (v9 : BitVec 32) (v10 : BitVec 32) (v11 : BitVec 32) : Prog (TpuEff nD τ sig (Elt F) Λ₀ .tc) PUnit := do
  let ⟨v330, v332, v334⟩ ← part12 d0 v4 v6 v8 v213 v215 v217 v322 v325 v326 c128_i32_260
  let ⟨v399, v401⟩ ← part13 d0 v9 v10 v11 v213 v215 v330 v332
  part14 d0 v9 v11 v217 v332 v334 v399 v401
  let v459 ← part15 d0 v10 v330 v332
  part16 d0 v11 v332 v334 v459
  rest17 d0 v4 v6 v8 v9 v10 v330 v332 v334 v11

/-- From the second round on. -/
def rest8 (d0 : Dev nD) (v4 : BitVec 32) (v6 : BitVec 32) (v8 : BitVec 32) (v11 : BitVec 32) (v108 : BitVec 32) (v109 : BitVec 32) (v110 : BitVec 32) (v9 : BitVec 32) (v10 : BitVec 32) : Prog (TpuEff nD τ sig (Elt F) Λ₀ .tc) PUnit := do
  let ⟨v211, v213, v215, v217, v231⟩ ← part8 d0 v4 v6 v8 v11 v108 v109 v110
  part9 d0 v9 v10 v11 v110 v211 v231
  part10 d0 v108 v109 v110 v213 v215 v217
  let ⟨v322, v325, v326, c128_i32_260⟩ ← part11 v4 v6 v8 v9 v10 v11 v213 v215
  rest12 d0 v4 v6 v8 v213 v215 v217 v322 v325 v326 c128_i32_260 v9 v10 v11

/-- From the products on. -/
def rest5 (d0 : Dev nD) (v4 : BitVec 32) (v9 : BitVec 32) (v10 : BitVec 32) (v103 : BitVec 32) (v105 : BitVec 32) (c512_i32_92 : BitVec 32) (v11 : BitVec 32) (v107 : BitVec 32) (v108 : BitVec 32) (v109 : BitVec 32) (v6 : BitVec 32) (v8 : BitVec 32) : Prog (TpuEff nD τ sig (Elt F) Λ₀ .tc) PUnit := do
  let v110 ← part5 d0 v4 v9 v10 v103 v105 c512_i32_92
  let v171 ← part6 d0 v11 v107 v108 v109
  part7 d0 v9 v10 v110 v171
  rest8 d0 v4 v6 v8 v11 v108 v109 v110 v9 v10

/-- The whole body. -/
def rest1 : Prog (TpuEff nD τ sig (Elt F) Λ₀ .tc) PUnit := do
  let ⟨d0, v4, v6, v8, v9, v10, v11⟩ ← part1
  let v50 ← part2 d0 v9 v10 v11
  let v78 ← part3 v50
  let ⟨v103, v105, v107, v108, v109, c512_i32_92⟩ ← part4 v4 v6 v8 v78
  rest5 d0 v4 v9 v10 v103 v105 c512_i32_92 v11 v107 v108 v109 v6 v8

theorem body_eq (t : Fin cfg0.N) : bodyAt0 (F := F) t = rest1 := by
  unfold bodyAt0; rw [cc0_body_eq_skeleton]; rfl

end Cert.Reduce
-- ==== Proof.Products.lean ====
/-
  The products: each stream's half that is given away, sent on its way, and the half that is kept.
-/
module

public import proofs.«01_k».proof.Proof.Pays
public import proofs.«01_k».proof.Proof.Parts

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {Q : PUnit → sProp (MT nD τ sig Unit (Elt F) ℕ UU ℕ)}
  {R : sProp (MT nD τ sig Unit (Elt F) ℕ UU ℕ)}

/-- One assertion for each stream. -/
def tri (P : Fin 3 → sProp (MT nD τ sig Unit (Elt F) ℕ UU ℕ)) : sProp (MT nD τ sig Unit (Elt F) ℕ UU ℕ) := iprop(P 0 ∗ P 1 ∗ P 2)

/-- The buffer that sent in round `r`, and the one that received the partner's rows. -/
def sent (k r : Fin 3) : sProp (MT nD τ sig Unit (Elt F) ℕ UU ℕ) := outgoing k r c (win (give k r c) 0 (snd m k r c))
def got (k r : Fin 3) : sProp (MT nD τ sig Unit (Elt F) ℕ UU ℕ) := landing k r c (win (base k r.succ c) 0 (snd m k r (prt k r c)))

/-- The hidden layer in its buffer, the second weight in its buffer and in the argument's. -/
def hidH : sProp (MT nD τ sig Unit (Elt F) ℕ UU ℕ) := held (c : Thread nD τ) (Memref.whole cc0_scratch4 : Memref sig .tc .vmem (Mat 1024 2048) .bf16) Finset.univ fullShare (fn (hid m c))
def w2H : sProp (MT nD τ sig Unit (Elt F) ℕ UU ℕ) := held (c : Thread nD τ) (Memref.whole cc0_scratch3 : Memref sig .tc .vmem (Mat 2048 1024) .f32) Finset.univ fullShare (fn (w2In m c))
def arg2H : sProp (MT nD τ sig Unit (Elt F) ℕ UU ℕ) := held (c : Thread nD τ) (Memref.whole main_arg2 : Memref sig .tc .hbm (Mat 2048 1024) .f32) Finset.univ fullShare (fn (w2In m c))

/-- Before the products. -/
def at5 : sProp (MT nD τ sig Unit (Elt F) ℕ UU ℕ) :=
  iprop(ctx m K ∗ owesN c 18 ∗ hidH m c ∗ Flight EC (c : Thread nD τ) (.dma (inS 4)) () 262144 iprop(w2H m c ∗ arg2H m c)
    ∗ tri (fun k => iprop(∃ G, outgoing k 0 c G)) ∗ tri (fun k => iprop(∃ G, part k c (base k 1 c) 512 G)) ∗ tri (fun k => iprop(∃ G, landing k 0 (prt k 0 c) G))
    ∗ tri (fun k => lk0 c k 0))

/-- What is done with after them. -/
def done5 : sProp (MT nD τ sig Unit (Elt F) ℕ UU ℕ) :=
  iprop(hidH m c ∗ w2H m c ∗ arg2H m c ∗ semVal ((c : Thread nD τ), .dma (inS 4)) 0 ∗ lk3 c 0 0 ∗ lk3 c 1 0 ∗ sent m c 0 0 ∗ sent m c 1 0)

/-- After them, two of the three exchanges of the first round over. -/
def at8 : sProp (MT nD τ sig Unit (Elt F) ℕ UU ℕ) :=
  iprop(ctx m K ∗ owesN c 15 ∗ got m c 0 0 ∗ got m c 1 0 ∗ lk1 c 2 0 ∗ tri (fun k => part k c (base k 1 c) 512 (kept0 m k c)))

set_option maxHeartbeats 400000 in
theorem run5 (v4 v9 v10 v103 v105 w v11 v107 v108 v109 v6 v8 : BitVec 32)
    (hk : ∀ v4 v6 v8 v11 v108 v109 v110 v9 v10, iprop(at8 m K c ∗ done5 m c ∗ R)
      ⊢ wp frame (wpE (defs₀ (F := F)) 𝒱₀ (c : Thread nD τ) none) Set.univ (rest8 c v4 v6 v8 v11 v108 v109 v110 v9 v10) Q) :
    iprop(at5 m K c ∗ R) ⊢ wp frame (wpE (defs₀ (F := F)) 𝒱₀ (c : Thread nD τ) none) Set.univ (rest5 c v4 v9 v10 v103 v105 w v11 v107 v108 v109 v6 v8) Q := by
  unfold at5 rest5
  simp only [part5, part6, part7, k0_part5_eq_skeleton, k0_part5_skel, k0_part6_eq_skeleton, k0_part6_skel, k0_part7_eq_skeleton, k0_part7_skel,
    Prog.lift, Prog.bind_op, Prog.bind_ret, Prog.pure_eq_ret, tri]
  dsimp only [outgoing, landing, part, lane]
  iintro ⟨⟨#Hc, HO, Hh, Hw, ⟨⟨%G0, Ho0⟩, ⟨%G1, Ho1⟩, ⟨%G2, Ho2⟩⟩, ⟨⟨%P0, Hp0⟩, ⟨%P1, Hp1⟩, ⟨%P2, Hp2⟩⟩, ⟨⟨%L0, Hl0⟩, ⟨%L1, Hl1⟩, ⟨%L2, Hl2⟩⟩, ⟨Hk0, Hk1, Hk2⟩⟩, HR⟩
  iapply (wp_finish m K c (q := inS 4) (n := 18) rfl rfl (by decide) (N := 262144) rfl) $$ [HO Hw]
  · iframe Hc HO Hw
  iintro ⟨HO, ⟨Hw, Ha⟩, Hz⟩
  unfold hidH w2H
  iapply (wp_combine c (off1_eq c) (Finset.subset_univ _) rfl (Finset.subset_univ _) rfl box_univ.symm
    (win (give 0 0 c) 0 (snd m 0 0 c)) (fn_snd0 m 0 c (by decide) (by decide) rfl)) $$ [Hh Hw Ho0]
  · iframe Hh Hw Ho0
  iintro ⟨Hh, Hw, Ho0⟩
  iapply (wp_send_sum m K c 0 0 0 rfl (by decide) (n := 17) rfl (dev4_eq c) rfl rfl (fun _ => rfl) (fun _ _ => rfl) rfl) $$ [HO Hk0 Ho0 Hl0]
  · iframe Hc HO Hk0 Ho0 Hl0
  iintro ⟨HO, Hk0⟩
  iapply (wp_combine c (off2_1_eq c) (Finset.subset_univ _) rfl (Finset.subset_univ _) rfl box_univ.symm
    (win (give 1 0 c) 0 (snd m 1 0 c)) (fn_snd0 m 1 c (by decide) (by decide) rfl)) $$ [Hh Hw Ho1]
  · iframe Hh Hw Ho1
  iintro ⟨Hh, Hw, Ho1⟩
  iapply (wp_send_sum m K c 1 0 0 rfl (by decide) (n := 16) rfl (dev5_eq c) rfl rfl (fun _ => rfl) (fun _ _ => rfl) rfl) $$ [HO Hk1 Ho1 Hl1]
  · iframe Hc HO Hk1 Ho1 Hl1
  iintro ⟨HO, Hk1⟩
  iapply (wp_combine c (off2_2_eq c) (Finset.subset_univ _) rfl (Finset.subset_univ _) rfl box_univ.symm
    (win (give 2 0 c) 0 (snd m 2 0 c)) (fn_snd0 m 2 c (by decide) (by decide) rfl)) $$ [Hh Hw Ho2]
  · iframe Hh Hw Ho2
  iintro ⟨Hh, Hw, Ho2⟩
  iapply (wp_send_sum m K c 2 0 0 rfl (by decide) (n := 15) rfl (dev6_eq c) rfl rfl (fun _ => rfl) (fun _ _ => rfl) rfl) $$ [HO Hk2 Ho2 Hl2]
  · iframe Hc HO Hk2 Ho2 Hl2
  iintro ⟨HO, Hk2⟩
  iapply (wp_combine c (off3_eq c) (Finset.subset_univ _) rfl (Finset.subset_univ _) (off4_eq c) rfl
    (kept0 m 0 c) (fn_kept0 m 0 c (by decide) (by decide) rfl)) $$ [Hh Hw Hp0]
  · iframe Hh Hw Hp0
  iintro ⟨Hh, Hw, Hp0⟩
  have h1 : fn (win (base 1 1 c) 0 (kept0 m 1 c)) = k0_pay11 (k0_pay10 (fn (win (base 1 1 c) 0 (hid m c))) (fn (win 0 384 (w2In m c)))) :=
    (fn_kept0 m 1 c (by decide) (by decide) rfl).trans (pay11_eq _ _).symm
  iapply (wp_load_box c (off5_1_eq c) (Finset.subset_univ _)) $$ Hh; iintro Hh
  iapply (wp_load_box c rfl (Finset.subset_univ _)) $$ Hw; iintro Hw
  iapply (wp_over_box c (off6_eq c) rfl (kept0 m 1 c) h1) $$ Hp1; iintro Hp1
  iapply (wp_combine c (off5_2_eq c) (Finset.subset_univ _) rfl (Finset.subset_univ _) (off7_eq c) rfl
    (kept0 m 2 c) (fn_kept0 m 2 c (by decide) (by decide) rfl)) $$ [Hh Hw Hp2]
  · iframe Hh Hw Hp2
  iintro ⟨Hh, Hw, Hp2⟩
  iapply (wp_wait_sum m K c 0 0 0 rfl (by decide) (n := 15) (by decide) rfl rfl (fun _ => rfl) (fun _ _ => rfl) rfl rfl) $$ [HO Hk0]
  · iframe Hc HO Hk0
  iintro ⟨HO, Hk0, Ho0, Hl0⟩
  iapply (wp_wait_sum m K c 1 0 0 rfl (by decide) (n := 15) (by decide) rfl rfl (fun _ => rfl) (fun _ _ => rfl) rfl rfl) $$ [HO Hk1]
  · iframe Hc HO Hk1
  iintro ⟨HO, Hk1, Ho1, Hl1⟩
  iapply (hk _ _ _ _ _ _ _ _ _)
  unfold at8 done5 tri hidH w2H sent got
  dsimp only [part, lane, outgoing, landing]
  isplitl [HO Hl0 Hl1 Hk2 Hp0 Hp1 Hp2]
  · iframe Hc HO Hl0 Hl1 Hk2 Hp0 Hp1 Hp2
  isplitr [HR]
  · iframe Hh Hw Ha Hz Hk0 Hk1 Ho0 Ho1
  iexact HR

end Cert.Reduce
-- ==== Proof.Hidden.lean ====
/-
  The start: the arguments are fetched, the neighbours meet, and the hidden layer is computed chunk by chunk as its weight arrives.
-/
module

public import proofs.«01_k».proof.Proof.Products

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {Q : PUnit → sProp (MT nD τ sig Unit (Elt F) ℕ UU ℕ)}
  {R : sProp (MT nD τ sig Unit (Elt F) ℕ UU ℕ)}

/-- Columns of a held matrix, apart and together. -/
theorem held_cols {sp : Space} {R C : ℕ} {e : EltTy} {mA : Memref sig .tc sp (Mat R C) e} {o n p q₁ : ℕ} (q₂ : ℕ) {p' q : ℕ} {sh : PosShare TreeShare} {X : (Mat R C).Idx → Elt F e}
    (hp : p' = p + q₁) (hq : q = q₁ + q₂) :
    (held (c : Thread nD τ) mA (box o n p q) sh X : sProp 𝕄) ⊢ iprop(held (c : Thread nD τ) mA (box o n p q₁) sh X ∗ held (c : Thread nD τ) mA (box o n p' q₂) sh X) := by
  subst hp hq
  refine held_split (Finset.disjoint_left.mpr fun i hi hi' => ?_) ?_
  · rw [mem_box] at hi hi'; omega
  · ext i; rw [Finset.mem_union, mem_box, mem_box, mem_box]; omega

theorem held_cols_join {sp : Space} {R C : ℕ} {e : EltTy} {mA : Memref sig .tc sp (Mat R C) e} {o n p q₁ q₂ p' q : ℕ} {sh : PosShare TreeShare} {X : (Mat R C).Idx → Elt F e}
    (hp : p' = p + q₁) (hq : q = q₁ + q₂) :
    iprop(held (c : Thread nD τ) mA (box o n p q₁) sh X ∗ held (c : Thread nD τ) mA (box o n p' q₂) sh X) ⊢ (held (c : Thread nD τ) mA (box o n p q) sh X : sProp 𝕄) := by
  subst hp hq
  refine held_join (Finset.disjoint_left.mpr fun i hi hi' => ?_) ?_
  · rw [mem_box] at hi hi'; omega
  · ext i; rw [Finset.mem_union, mem_box, mem_box, mem_box]; omega

/-- A matrix of 2048 columns as four chunks of 512. -/
def quart {sp : Space} {e : EltTy} (mA : Memref sig .tc sp (Mat 1024 2048) e) (p : ℕ) (G : ℕ → ℕ → Elt F e) : sProp (MT nD τ sig Unit (Elt F) ℕ UU ℕ) :=
  held (c : Thread nD τ) mA (box 0 1024 p 512) fullShare (fn G)

theorem quart_split {sp : Space} {e : EltTy} {mA : Memref sig .tc sp (Mat 1024 2048) e} {G : ℕ → ℕ → Elt F e} :
    (held (c : Thread nD τ) mA Finset.univ fullShare (fn G) : sProp 𝕄) ⊢ iprop(quart c mA 0 G ∗ quart c mA 512 G ∗ quart c mA 1024 G ∗ quart c mA 1536 G) := by
  unfold quart
  rw [← box_univ]
  iintro H
  ihave H := (held_cols c (q₁ := 512) 1536 (p' := 512) rfl rfl) $$ H
  icases H with ⟨H0, H⟩
  ihave H := (held_cols c (q₁ := 512) 1024 (p' := 1024) rfl rfl) $$ H
  icases H with ⟨H1, H⟩
  ihave H := (held_cols c (q₁ := 512) 512 (p' := 1536) rfl rfl) $$ H
  icases H with ⟨H2, H3⟩
  iframe H0 H1 H2 H3

theorem quart_join {sp : Space} {e : EltTy} {mA : Memref sig .tc sp (Mat 1024 2048) e} {G : ℕ → ℕ → Elt F e} :
    iprop(quart c mA 0 G ∗ quart c mA 512 G ∗ quart c mA 1024 G ∗ quart c mA 1536 G) ⊢ (held (c : Thread nD τ) mA Finset.univ fullShare (fn G) : sProp 𝕄) := by
  unfold quart
  rw [← box_univ]
  iintro ⟨H0, H1, H2, H3⟩
  ihave H2 := (held_cols_join c (p := 1024) (q₁ := 512) (q₂ := 512) (p' := 1536) (q := 1024) rfl rfl) $$ [H2 H3]
  · iframe H2 H3
  ihave H1 := (held_cols_join c (p := 512) (q₁ := 512) (q₂ := 1024) (p' := 1024) (q := 1536) rfl rfl) $$ [H1 H2]
  · iframe H1 H2
  iapply (held_cols_join c (q₁ := 512) (q₂ := 1536) (p' := 512) rfl rfl)
  iframe H0 H1

/-- Fetching columns of an argument into a buffer of the same shape. -/
theorem wp_fetch {α : Type} {Q : α → sProp (MT nD τ sig Unit (Elt F) ℕ UU ℕ)} (i : Fin 6) {R C : ℕ} {aM : Memref sig .tc .hbm (Mat R C) .f32} {bM : Memref sig .tc .vmem (Mat R C) .f32} {off : Fin 2 → ℕ} {o p nr w : ℕ} {inbA inbB} {hrA hrB} {sm : DmaSem sig}
    (hO : off = ![o, p]) (hs : sm = inS i) (N : ℕ) (hN : (bM.slice (rect off nr w inbB) hrB).view.dmaCredit = N) (hN0 : 0 < N)
    {hsrc : (aM.slice (rect off nr w inbA) hrA).view.WordExact} {hdst : (bM.slice (rect off nr w inbB) hrB).view.WordExact}
    {hsem : DmaTarget.Typed .hbm (.dma sm) (DmaTarget.here (nD := nD) (τ := τ) (p := .tc) (bM.slice (rect off nr w inbB) hrB))}
    {kk : PUnit → Prog (TpuEff nD τ sig (Elt F) Λ₀ .tc) α} {G Z : ℕ → ℕ → Elt F .f32} :
    iprop(held (c : Thread nD τ) aM (box o nr p w) fullShare (fn G) ∗ held (c : Thread nD τ) bM (box o nr p w) fullShare (fn Z) ∗ semVal ((c : Thread nD τ), .dma (inS i)) 0)
      ⊢ iprop((Flight EC (c : Thread nD τ) (.dma (inS i)) () N iprop(held (c : Thread nD τ) bM (box o nr p w) fullShare (fn G) ∗ held (c : Thread nD τ) aM (box o nr p w) fullShare (fn G))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (aM.slice (rect off nr w inbA) hrA)
                (.here (bM.slice (rect off nr w inbB) hrB)) (.dma sm) hsrc hdst hsem) kk) Q) := by
  subst hs
  rw [← held_rows (inb := inbA) (hr := hrA) c hO, ← held_rows (inb := inbB) (hr := hrB) c hO, ← held_rows (inb := inbB) (hr := hrB) c hO]
  exact wp_start_held (U := UU) (defs := defs₀ (F := F)) 𝒱₀ (c : Thread nD τ) EC (q := fullShare) (X := fn (win o p G)) (Y := fn (win o p Z)) N (by exact hN) hN0

theorem fn_narrowed : (fn (win 0 0 (xNarrow m c)) : (Mat 1024 1024).Idx → F .bf16) = k0_pay1 (fn (win 0 0 (xIn m c))) := by
  rw [win_zero]; unfold xNarrow; exact fn_nat _ _ _

theorem fn_hid (n : ℕ) {p : ℕ} (hp : p = 512 * n) : (fn (win 0 p (hid m c)) : (Mat 1024 512).Idx → F .bf16) = k0_pay2 (fn (win 0 0 (xNarrow m c))) (fn (win 0 p (w1In m c))) := by
  subst hp
  rw [← fn_nat (R := 1024) (C := 512) (by decide) (by decide) (k0_pay2 (fn (win 0 0 (xNarrow m c))) (fn (win 0 (512 * n) (w1In m c))))]
  funext j
  have h1 : (j 1).val < 512 := (j 1).isLt
  unfold fn win hid; dsimp only
  rw [show (512 * n + (j 1).val) / 512 = n from by omega, show (512 * n + (j 1).val) % 512 = (j 1).val from by omega, Nat.zero_add]
  rfl

/-- The arguments. -/
def arg0H : sProp (MT nD τ sig Unit (Elt F) ℕ UU ℕ) := held (c : Thread nD τ) (Memref.whole main_arg0 : Memref sig .tc .hbm (Mat 1024 1024) .f32) Finset.univ fullShare (fn (xIn m c))
def arg1H : sProp (MT nD τ sig Unit (Elt F) ℕ UU ℕ) := held (c : Thread nD τ) (Memref.whole main_arg1 : Memref sig .tc .hbm (Mat 1024 2048) .f32) Finset.univ fullShare (fn (w1In m c))

/-- A whole buffer. -/
def bufH {sp : Space} {R C : ℕ} {e : EltTy} (mA : Memref sig .tc sp (Mat R C) e) (G : ℕ → ℕ → Elt F e) : sProp (MT nD τ sig Unit (Elt F) ℕ UU ℕ) := held (c : Thread nD τ) mA Finset.univ fullShare (fn G)

def xBuf : Memref sig .tc .vmem (Mat 1024 1024) .f32 := Memref.whole cc0_scratch0
def x16Buf : Memref sig .tc .vmem (Mat 1024 1024) .bf16 := Memref.whole cc0_scratch1
def w1Buf : Memref sig .tc .vmem (Mat 1024 2048) .f32 := Memref.whole cc0_scratch2
def w2Buf : Memref sig .tc .vmem (Mat 2048 1024) .f32 := Memref.whole cc0_scratch3
def hBuf : Memref sig .tc .vmem (Mat 1024 2048) .bf16 := Memref.whole cc0_scratch4

/-- Before the start. -/
def at1 : sProp (MT nD τ sig Unit (Elt F) ℕ UU ℕ) :=
  iprop(ctx m K ∗ owesN c 21 ∗ arg0H m c ∗ arg1H m c ∗ arg2H m c ∗ (∃ G, bufH c xBuf G) ∗ (∃ G, bufH c x16Buf G) ∗ (∃ G, bufH c w1Buf G) ∗ (∃ G, bufH c w2Buf G) ∗ (∃ G, bufH c hBuf G)
    ∗ semVal ((c : Thread nD τ), .dma (inS 0)) 0 ∗ semVal ((c : Thread nD τ), .dma (inS 1)) 0 ∗ semVal ((c : Thread nD τ), .dma (inS 2)) 0 ∗ semVal ((c : Thread nD τ), .dma (inS 3)) 0
    ∗ semVal ((c : Thread nD τ), .dma (inS 4)) 0 ∗ semVal ((c : Thread nD τ), .dma (inS 5)) 0
    ∗ (barTok c 0 ∗ barPay (nbr 0 c) 0) ∗ (barTok c 1 ∗ barPay (nbr 1 c) 1) ∗ (barTok c 2 ∗ barPay (nbr 2 c) 2)
    ∗ cred (tallyAt (cell c none) () 3) ∗ atPos ER (cell c none) 0 ∅ 0)

/-- What is done with before the products. -/
def done1 : sProp (MT nD τ sig Unit (Elt F) ℕ UU ℕ) :=
  iprop(arg0H m c ∗ arg1H m c ∗ bufH c xBuf (xIn m c) ∗ bufH c x16Buf (xNarrow m c) ∗ bufH c w1Buf (w1In m c)
    ∗ semVal ((c : Thread nD τ), .dma (inS 0)) 0 ∗ semVal ((c : Thread nD τ), .dma (inS 1)) 0 ∗ semVal ((c : Thread nD τ), .dma (inS 2)) 0 ∗ semVal ((c : Thread nD τ), .dma (inS 3)) 0
    ∗ semVal ((c : Thread nD τ), .dma (inS 5)) 0 ∗ semVal (cell c none) 0)

/-- Before the products: the hidden layer, the second weight on its way, and the neighbours' landing places. -/
def to5 : sProp (MT nD τ sig Unit (Elt F) ℕ UU ℕ) :=
  iprop(ctx m K ∗ owesN c 18 ∗ hidH m c ∗ Flight EC (c : Thread nD τ) (.dma (inS 4)) () 262144 iprop(w2H m c ∗ arg2H m c) ∗ barPay c 0 ∗ barPay c 1 ∗ barPay c 2)

set_option maxHeartbeats 1000000 in
theorem run1
    (hk : ∀ v4 v9 v10 v103 v105 w v11 v107 v108 v109 v6 v8, iprop(to5 m K c ∗ done1 m c ∗ R)
      ⊢ wp frame (wpE (defs₀ (F := F)) 𝒱₀ (c : Thread nD τ) none) Set.univ (rest5 c v4 v9 v10 v103 v105 w v11 v107 v108 v109 v6 v8) Q) :
    iprop(at1 m K c ∗ R) ⊢ wp frame (wpE (defs₀ (F := F)) 𝒱₀ (c : Thread nD τ) none) Set.univ rest1 Q := by
  unfold at1 rest1
  simp only [part1, part2, part3, part4, k0_part1_eq_skeleton, k0_part1_skel, k0_part2_eq_skeleton, k0_part2_skel, k0_part3_eq_skeleton, k0_part3_skel, k0_part4_eq_skeleton, k0_part4_skel,
    Prog.lift, Prog.bind_op, Prog.bind_ret, Prog.pure_eq_ret, semSignalWord, semWaitWord, wp_deviceId]
  iintro ⟨⟨#Hc, HO, Ha0, Ha1, Ha2, ⟨%Gx, Hx⟩, ⟨%Gn, Hn⟩, ⟨%Gw, Hw⟩, ⟨%Gv, Hv⟩, ⟨%Gh, Hh⟩, Hs0, Hs1, Hs2, Hs3, Hs4, Hs5, ⟨Ht0, Hb0⟩, ⟨Ht1, Hb1⟩, ⟨Ht2, Hb2⟩, Hcr, Hat⟩, HR⟩
  unfold arg0H arg1H arg2H bufH xBuf x16Buf w1Buf w2Buf hBuf
  ihave Ha1 := (quart_split c) $$ Ha1
  icases Ha1 with ⟨Hc0, Hc1, Hc2, Hc3⟩
  ihave Hw := (quart_split c) $$ Hw
  icases Hw with ⟨Hw0, Hw1, Hw2, Hw3⟩
  ihave Hh := (quart_split c) $$ Hh
  icases Hh with ⟨Hh0, Hh1, Hh2, Hh3⟩
  unfold quart
  iapply (wp_start_held (U := UU) (defs := defs₀ (F := F)) 𝒱₀ (c : Thread nD τ) EC (q := fullShare) (sm := .dma (inS 5)) 131072 rfl (by decide)) $$ [Ha0 Hx Hs5]
  · iframe Ha0 Hx Hs5
  iintro Hf5
  iapply (wp_fetch c 0 (o := 0) (p := 0) rfl rfl 65536 (credit_rows rfl) (by decide)) $$ [Hc0 Hw0 Hs0]
  · iframe Hc0 Hw0 Hs0
  iintro Hf0
  iapply (wp_fetch c 1 (o := 0) (p := 512) rfl rfl 65536 (credit_rows rfl) (by decide)) $$ [Hc1 Hw1 Hs1]
  · iframe Hc1 Hw1 Hs1
  iintro Hf1
  iapply (wp_fetch c 2 (o := 0) (p := 1024) rfl rfl 65536 (credit_rows rfl) (by decide)) $$ [Hc2 Hw2 Hs2]
  · iframe Hc2 Hw2 Hs2
  iintro Hf2
  iapply (wp_fetch c 3 (o := 0) (p := 1536) rfl rfl 65536 (credit_rows rfl) (by decide)) $$ [Hc3 Hw3 Hs3]
  · iframe Hc3 Hw3 Hs3
  iintro Hf3
  iapply (wp_start_held (U := UU) (defs := defs₀ (F := F)) 𝒱₀ (c : Thread nD τ) EC (q := fullShare) (sm := .dma (inS 4)) 262144 rfl (by decide)) $$ [Ha2 Hv Hs4]
  · iframe Ha2 Hv Hs4
  iintro Hf4
  iapply (wp_signal_nbr m K c 0 (n := 20) (dev1_eq c) (w := 1) rfl rfl) $$ [HO Ht0 Hb0]
  · iframe Hc HO Ht0 Hb0
  iintro HO
  iapply (wp_signal_nbr m K c 1 (n := 19) (dev2_eq c) (w := 1) rfl rfl) $$ [HO Ht1 Hb1]
  · iframe Hc HO Ht1 Hb1
  iintro HO
  iapply (wp_signal_nbr m K c 2 (n := 18) (dev3_eq c) (w := 1) rfl rfl) $$ [HO Ht2 Hb2]
  · iframe Hc HO Ht2 Hb2
  iintro HO
  iapply (wp_wait_bar m K c (n := 18) (w := 3) rfl (by decide)) $$ [HO Hcr Hat]
  · iframe Hc HO Hcr Hat
  iintro ⟨HO, Hz, Hb0, Hb1, Hb2⟩
  iapply (wp_finish m K c (q := inS 5) (n := 18) rfl rfl (by decide) (N := 131072) rfl) $$ [HO Hf5]
  · iframe Hc HO Hf5
  iintro ⟨HO, ⟨Hx, Ha0⟩, Hs5⟩
  iapply (wp_convert c (oA := 0) (pA := 0) (oC := 0) (pC := 0) rfl (Finset.subset_univ _) rfl box_univ.symm (xNarrow m c) (fn_narrowed m c)) $$ [Hx Hn]
  · iframe Hx Hn
  iintro ⟨Hx, Hn⟩
  iapply (wp_finish m K c (q := inS 0) (n := 18) rfl rfl (by decide) (N := 65536) (credit_rows rfl)) $$ [HO Hf0]
  · iframe Hc HO Hf0
  iintro ⟨HO, ⟨Hw0, Hc0⟩, Hs0⟩
  iapply (wp_combine c (oA := 0) (pA := 0) (oB := 0) (pB := 0) (oC := 0) (pC := 0) rfl (Finset.subset_univ _) rfl (Finset.Subset.refl _) rfl rfl (hid m c) (fn_hid m c 0 rfl)) $$ [Hn Hw0 Hh0]
  · iframe Hn Hw0 Hh0
  iintro ⟨Hn, Hw0, Hh0⟩
  iapply (wp_finish m K c (q := inS 1) (n := 18) rfl rfl (by decide) (N := 65536) (credit_rows rfl)) $$ [HO Hf1]
  · iframe Hc HO Hf1
  iintro ⟨HO, ⟨Hw1, Hc1⟩, Hs1⟩
  iapply (wp_combine c (oA := 0) (pA := 0) (oB := 0) (pB := 512) (oC := 0) (pC := 512) rfl (Finset.subset_univ _) rfl (Finset.Subset.refl _) rfl rfl (hid m c) (fn_hid m c 1 rfl)) $$ [Hn Hw1 Hh1]
  · iframe Hn Hw1 Hh1
  iintro ⟨Hn, Hw1, Hh1⟩
  iapply (wp_finish m K c (q := inS 2) (n := 18) rfl rfl (by decide) (N := 65536) (credit_rows rfl)) $$ [HO Hf2]
  · iframe Hc HO Hf2
  iintro ⟨HO, ⟨Hw2, Hc2⟩, Hs2⟩
  iapply (wp_combine c (oA := 0) (pA := 0) (oB := 0) (pB := 1024) (oC := 0) (pC := 1024) rfl (Finset.subset_univ _) rfl (Finset.Subset.refl _) rfl rfl (hid m c) (fn_hid m c 2 rfl)) $$ [Hn Hw2 Hh2]
  · iframe Hn Hw2 Hh2
  iintro ⟨Hn, Hw2, Hh2⟩
  iapply (wp_finish m K c (q := inS 3) (n := 18) rfl rfl (by decide) (N := 65536) (credit_rows rfl)) $$ [HO Hf3]
  · iframe Hc HO Hf3
  iintro ⟨HO, ⟨Hw3, Hc3⟩, Hs3⟩
  iapply (wp_combine c (oA := 0) (pA := 0) (oB := 0) (pB := 1536) (oC := 0) (pC := 1536) rfl (Finset.subset_univ _) rfl (Finset.Subset.refl _) rfl rfl (hid m c) (fn_hid m c 3 rfl)) $$ [Hn Hw3 Hh3]
  · iframe Hn Hw3 Hh3
  iintro ⟨Hn, Hw3, Hh3⟩
  iapply (hk _ _ _ _ _ _ _ _ _ _ _ _)
  unfold to5 done1 hidH w2H arg2H arg0H arg1H bufH xBuf x16Buf w1Buf
  ihave Ha1 := (quart_join c) $$ [Hc0 Hc1 Hc2 Hc3]
  · unfold quart; iframe Hc0 Hc1 Hc2 Hc3
  ihave Hw := (quart_join c) $$ [Hw0 Hw1 Hw2 Hw3]
  · unfold quart; iframe Hw0 Hw1 Hw2 Hw3
  ihave Hh := (quart_join c) $$ [Hh0 Hh1 Hh2 Hh3]
  · unfold quart; iframe Hh0 Hh1 Hh2 Hh3
  isplitl [HO Hh Hf4 Hb0 Hb1 Hb2]
  · iframe Hc HO Hh Hf4 Hb0 Hb1 Hb2
  isplitr [HR]
  · iframe Ha0 Ha1 Hx Hn Hw Hs0 Hs1 Hs2 Hs3 Hs5 Hz
  iexact HR

end Cert.Reduce
-- ==== Proof.Second.lean ====
/-
  The second and the third round of the summing: rows given away are sent with what the round before brought, rows kept take it up.
-/
module

public import proofs.«01_k».proof.Proof.Products

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {Q : PUnit → sProp (MT nD τ sig Unit (Elt F) ℕ UU ℕ)}
  {R : sProp (MT nD τ sig Unit (Elt F) ℕ UU ℕ)}

/-- What the second round needs besides. -/
def more8 : sProp (MT nD τ sig Unit (Elt F) ℕ UU ℕ) :=
  iprop(tri (fun k => iprop(∃ G, outgoing k 1 c G)) ∗ tri (fun k => iprop(∃ G, landing k 1 (prt k 1 c) G)) ∗ tri (fun k => lk0 c k 1))

/-- What is done with after it. -/
def done8 : sProp (MT nD τ sig Unit (Elt F) ℕ UU ℕ) :=
  iprop(lk3 c 2 0 ∗ sent m c 2 0 ∗ tri (fun k => got m c k 0) ∗ tri (fun k => part k c (give k 1 c) 256 (kept0 m k c)) ∗ tri (fun k => lk3 c k 1) ∗ tri (fun k => sent m c k 1))

/-- After the second round. -/
def at12 : sProp (MT nD τ sig Unit (Elt F) ℕ UU ℕ) :=
  iprop(ctx m K ∗ owesN c 12 ∗ tri (fun k => got m c k 1) ∗ tri (fun k => part k c (base k 2 c) 256 (sum1 m k c)))

set_option maxHeartbeats 1000000 in
theorem run8 (v4 v6 v8 v11 v108 v109 v110 v9 v10 : BitVec 32)
    (hk : ∀ v4 v6 v8 v213 v215 v217 v322 v325 v326 w v9 v10 v11, iprop(at12 m K c ∗ done8 m c ∗ R)
      ⊢ wp frame (wpE (defs₀ (F := F)) 𝒱₀ (c : Thread nD τ) none) Set.univ (rest12 c v4 v6 v8 v213 v215 v217 v322 v325 v326 w v9 v10 v11) Q) :
    iprop(at8 m K c ∗ more8 c ∗ R) ⊢ wp frame (wpE (defs₀ (F := F)) 𝒱₀ (c : Thread nD τ) none) Set.univ (rest8 c v4 v6 v8 v11 v108 v109 v110 v9 v10) Q := by
  unfold at8 more8 rest8 got tri
  simp only [part8, part9, part10, part11, k0_part8_eq_skeleton, k0_part8_skel, k0_part9_eq_skeleton, k0_part9_skel, k0_part10_eq_skeleton, k0_part10_skel,
    k0_part11_eq_skeleton, k0_part11_skel, Prog.lift, Prog.bind_op, Prog.bind_ret, Prog.pure_eq_ret]
  dsimp only [outgoing, landing, part, lane]
  iintro ⟨⟨#Hc, HO, Hl0, Hl1, Hm2, ⟨Hp0, Hp1, Hp2⟩⟩, ⟨⟨⟨%G0, Ho0⟩, ⟨%G1, Ho1⟩, ⟨%G2, Ho2⟩⟩, ⟨⟨%L0, Hd0⟩, ⟨%L1, Hd1⟩, ⟨%L2, Hd2⟩⟩, ⟨Hk0, Hk1, Hk2⟩⟩, HR⟩
  iapply (wp_wait_sum m K c 2 0 0 rfl (by decide) (n := 15) (by decide) rfl rfl (fun _ => rfl) (fun _ _ => rfl) rfl rfl) $$ [HO Hm2]
  · iframe Hc HO Hm2
  iintro ⟨HO, Hm2, Hs2, Hl2⟩
  ihave Hp0 := (held_halves c 0 1 (N := 512) (b := base 0 1 c) (b' := base 0 2 c) (g := give 0 1 c) (l := 256) rfl rfl rfl rfl rfl) $$ Hp0
  icases Hp0 with ⟨Hp0, Hg0⟩
  ihave Hp1 := (held_halves c 1 1 (N := 512) (b := base 1 1 c) (b' := base 1 2 c) (g := give 1 1 c) (l := 256) rfl rfl rfl rfl rfl) $$ Hp1
  icases Hp1 with ⟨Hp1, Hg1⟩
  ihave Hp2 := (held_halves c 2 1 (N := 512) (b := base 2 1 c) (b' := base 2 2 c) (g := give 2 1 c) (l := 256) rfl rfl rfl rfl rfl) $$ Hp2
  icases Hp2 with ⟨Hp2, Hg2⟩
  iapply (wp_combine c (off8_eq c) (Finset.Subset.refl _) (off9_eq c) (Finset.subset_univ _) rfl box_univ.symm
    (win (give 0 1 c) 0 (snd m 0 1 c)) (fn_snd1 m 0 c pay13_eq)) $$ [Hg0 Hl0 Ho0]
  · iframe Hg0 Hl0 Ho0
  iintro ⟨Hg0, Hl0, Ho0⟩
  iapply (wp_combine c (off10_eq c) (Finset.Subset.refl _) (off11_eq c) (Finset.subset_univ _) rfl box_univ.symm
    (win (give 1 1 c) 0 (snd m 1 1 c)) (fn_snd1 m 1 c pay14_eq)) $$ [Hg1 Hl1 Ho1]
  · iframe Hg1 Hl1 Ho1
  iintro ⟨Hg1, Hl1, Ho1⟩
  iapply (wp_combine c (off12_eq c) (Finset.Subset.refl _) (off13_eq c) (Finset.subset_univ _) rfl box_univ.symm
    (win (give 2 1 c) 0 (snd m 2 1 c)) (fn_snd1 m 2 c pay15_eq)) $$ [Hg2 Hl2 Ho2]
  · iframe Hg2 Hl2 Ho2
  iintro ⟨Hg2, Hl2, Ho2⟩
  iapply (wp_send_sum m K c 0 1 1 rfl (by decide) (n := 14) rfl (dev7_eq c) rfl rfl (fun _ => rfl) (fun _ _ => rfl) rfl) $$ [HO Hk0 Ho0 Hd0]
  · iframe Hc HO Hk0 Ho0 Hd0
  iintro ⟨HO, Hk0⟩
  iapply (wp_send_sum m K c 1 1 1 rfl (by decide) (n := 13) rfl (dev8_eq c) rfl rfl (fun _ => rfl) (fun _ _ => rfl) rfl) $$ [HO Hk1 Ho1 Hd1]
  · iframe Hc HO Hk1 Ho1 Hd1
  iintro ⟨HO, Hk1⟩
  iapply (wp_send_sum m K c 2 1 1 rfl (by decide) (n := 12) rfl (dev9_eq c) rfl rfl (fun _ => rfl) (fun _ _ => rfl) rfl) $$ [HO Hk2 Ho2 Hd2]
  · iframe Hc HO Hk2 Ho2 Hd2
  iintro ⟨HO, Hk2⟩
  iapply (wp_update c (off14_eq c) rfl (off15_eq c) (Finset.subset_univ _)
    (sum1 m 0 c) (fn_sum1 m 0 c pay16_eq)) $$ [Hp0 Hl0]
  · iframe Hp0 Hl0
  iintro ⟨Hp0, Hl0⟩
  iapply (wp_update c (off16_eq c) rfl (off17_eq c) (Finset.subset_univ _)
    (sum1 m 1 c) (fn_sum1 m 1 c pay17_eq)) $$ [Hp1 Hl1]
  · iframe Hp1 Hl1
  iintro ⟨Hp1, Hl1⟩
  iapply (wp_update c (off18_eq c) rfl (off19_eq c) (Finset.subset_univ _)
    (sum1 m 2 c) (fn_sum1 m 2 c pay18_eq)) $$ [Hp2 Hl2]
  · iframe Hp2 Hl2
  iintro ⟨Hp2, Hl2⟩
  iapply (wp_wait_sum m K c 0 1 1 rfl (by decide) (n := 12) (by decide) rfl rfl (fun _ => rfl) (fun _ _ => rfl) rfl rfl) $$ [HO Hk0]
  · iframe Hc HO Hk0
  iintro ⟨HO, Hk0, Ho0, Hd0⟩
  iapply (wp_wait_sum m K c 1 1 1 rfl (by decide) (n := 12) (by decide) rfl rfl (fun _ => rfl) (fun _ _ => rfl) rfl rfl) $$ [HO Hk1]
  · iframe Hc HO Hk1
  iintro ⟨HO, Hk1, Ho1, Hd1⟩
  iapply (wp_wait_sum m K c 2 1 1 rfl (by decide) (n := 12) (by decide) rfl rfl (fun _ => rfl) (fun _ _ => rfl) rfl rfl) $$ [HO Hk2]
  · iframe Hc HO Hk2
  iintro ⟨HO, Hk2, Ho2, Hd2⟩
  iapply (hk _ _ _ _ _ _ _ _ _ _ _ _ _)
  unfold at12 done8 tri sent got
  dsimp only [part, lane, outgoing, landing]
  isplitl [HO Hd0 Hd1 Hd2 Hp0 Hp1 Hp2]
  · iframe Hc HO Hd0 Hd1 Hd2 Hp0 Hp1 Hp2
  isplitr [HR]
  · iframe Hm2 Hs2 Hl0 Hl1 Hl2 Hg0 Hg1 Hg2 Hk0 Hk1 Hk2 Ho0 Ho1 Ho2
  iexact HR

end Cert.Reduce
-- ==== Proof.Third.lean ====
/-
  The third round of the summing: afterwards a device holds the totals of its own rows, puts them among the gathered rows and moves
  them to the result.
-/
module

public import proofs.«01_k».proof.Proof.Second

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {Q : PUnit → sProp (MT nD τ sig Unit (Elt F) ℕ UU ℕ)}
  {R : sProp (MT nD τ sig Unit (Elt F) ℕ UU ℕ)}

/-- Some rows of the result, whatever they hold, and the semaphores of the transfers there. -/
def out0 (k : Fin 3) (t : Fin 4) (o n : ℕ) : sProp (MT nD τ sig Unit (Elt F) ℕ UU ℕ) := iprop((∃ Z, outp k c o n Z) ∗ semVal ((c : Thread nD τ), .dma (drainS k t)) 0)

/-- A transfer of rows of the sums to the result. -/
def moving (k : Fin 3) (t : Fin 4) (N o n : ℕ) (G : ℕ → ℕ → Elt F .f32) : sProp (MT nD τ sig Unit (Elt F) ℕ UU ℕ) :=
  Flight EC (c : Thread nD τ) (.dma (drainS k t)) () N iprop(outp k c o n G ∗ part k c o n G)

/-- What the third round needs besides. -/
def more12 : sProp (MT nD τ sig Unit (Elt F) ℕ UU ℕ) :=
  iprop(tri (fun k => iprop(∃ G, outgoing k 2 c G)) ∗ tri (fun k => iprop(∃ G, landing k 2 (prt k 2 c) G)) ∗ tri (fun k => lk0 c k 2)
    ∗ tri (fun k => iprop(∃ G, rows k c fullShare (base k 3 c) 128 G)) ∗ tri (fun k => out0 c k 0 (base k 3 c) 128))

/-- What is done with after it. -/
def done12 : sProp (MT nD τ sig Unit (Elt F) ℕ UU ℕ) :=
  iprop(tri (fun k => got m c k 1) ∗ tri (fun k => part k c (give k 2 c) 128 (sum1 m k c)) ∗ tri (fun k => lk3 c k 2) ∗ tri (fun k => sent m c k 2) ∗ tri (fun k => got m c k 2))

/-- The transfers of the device's own rows. -/
def moving0 : sProp (MT nD τ sig Unit (Elt F) ℕ UU ℕ) :=
  iprop(moving c 0 0 6144 (base 0 3 c) 128 (total m 0 c) ∗ moving c 1 0 6144 (base 1 3 c) 128 (total m 1 c) ∗ moving c 2 0 4096 (base 2 3 c) 128 (total m 2 c))

/-- After the third round. -/
def at17 : sProp (MT nD τ sig Unit (Elt F) ℕ UU ℕ) :=
  iprop(ctx m K ∗ owesN c 9 ∗ tri (fun k => rows k c fullShare (base k 3 c) 128 (gath m k)))

set_option maxHeartbeats 1000000 in
theorem run12 (v4 v6 v8 v213 v215 v217 v322 v325 v326 w v9 v10 v11 : BitVec 32)
    (hk : ∀ v4 v6 v8 v9 v10 v330 v332 v334 v11, iprop(at17 m K c ∗ moving0 m c ∗ done12 m c ∗ R)
      ⊢ wp frame (wpE (defs₀ (F := F)) 𝒱₀ (c : Thread nD τ) none) Set.univ (rest17 c v4 v6 v8 v9 v10 v330 v332 v334 v11) Q) :
    iprop(at12 m K c ∗ more12 c ∗ R) ⊢ wp frame (wpE (defs₀ (F := F)) 𝒱₀ (c : Thread nD τ) none) Set.univ (rest12 c v4 v6 v8 v213 v215 v217 v322 v325 v326 w v9 v10 v11) Q := by
  unfold at12 more12 rest12 got tri out0
  simp only [part12, part13, part14, part15, part16, k0_part12_eq_skeleton, k0_part12_skel, k0_part13_eq_skeleton, k0_part13_skel, k0_part14_eq_skeleton, k0_part14_skel,
    k0_part15_eq_skeleton, k0_part15_skel, k0_part16_eq_skeleton, k0_part16_skel, Prog.lift, Prog.bind_op, Prog.bind_ret, Prog.pure_eq_ret]
  dsimp only [outgoing, landing, part, rows, lane]
  iintro ⟨⟨#Hc, HO, ⟨Hl0, Hl1, Hl2⟩, ⟨Hp0, Hp1, Hp2⟩⟩, ⟨⟨⟨%G0, Ho0⟩, ⟨%G1, Ho1⟩, ⟨%G2, Ho2⟩⟩, ⟨⟨%L0, Hd0⟩, ⟨%L1, Hd1⟩, ⟨%L2, Hd2⟩⟩, ⟨Hk0, Hk1, Hk2⟩, ⟨⟨%A0, Ha0⟩, ⟨%A1, Ha1⟩, ⟨%A2, Ha2⟩⟩, ⟨⟨⟨%Z0, Hz0⟩, Hv0⟩, ⟨⟨%Z1, Hz1⟩, Hv1⟩, ⟨⟨%Z2, Hz2⟩, Hv2⟩⟩⟩, HR⟩
  ihave Hp0 := (held_halves c 0 2 (N := 256) (b := base 0 2 c) (b' := base 0 3 c) (g := give 0 2 c) (l := 128) rfl rfl rfl rfl rfl) $$ Hp0
  icases Hp0 with ⟨Hp0, Hg0⟩
  ihave Hp1 := (held_halves c 1 2 (N := 256) (b := base 1 2 c) (b' := base 1 3 c) (g := give 1 2 c) (l := 128) rfl rfl rfl rfl rfl) $$ Hp1
  icases Hp1 with ⟨Hp1, Hg1⟩
  ihave Hp2 := (held_halves c 2 2 (N := 256) (b := base 2 2 c) (b' := base 2 3 c) (g := give 2 2 c) (l := 128) rfl rfl rfl rfl rfl) $$ Hp2
  icases Hp2 with ⟨Hp2, Hg2⟩
  iapply (wp_combine c (off20_eq c) (Finset.Subset.refl _) (off21_eq c) (Finset.subset_univ _) rfl box_univ.symm
    (win (give 0 2 c) 0 (snd m 0 2 c)) (fn_snd2 m 0 c pay19_eq)) $$ [Hg0 Hl0 Ho0]
  · iframe Hg0 Hl0 Ho0
  iintro ⟨Hg0, Hl0, Ho0⟩
  iapply (wp_combine c (off22_eq c) (Finset.Subset.refl _) (off23_eq c) (Finset.subset_univ _) rfl box_univ.symm
    (win (give 1 2 c) 0 (snd m 1 2 c)) (fn_snd2 m 1 c pay20_eq)) $$ [Hg1 Hl1 Ho1]
  · iframe Hg1 Hl1 Ho1
  iintro ⟨Hg1, Hl1, Ho1⟩
  iapply (wp_combine c (off24_eq c) (Finset.Subset.refl _) (off25_eq c) (Finset.subset_univ _) rfl box_univ.symm
    (win (give 2 2 c) 0 (snd m 2 2 c)) (fn_snd2 m 2 c pay21_eq)) $$ [Hg2 Hl2 Ho2]
  · iframe Hg2 Hl2 Ho2
  iintro ⟨Hg2, Hl2, Ho2⟩
  iapply (wp_send_sum m K c 0 2 2 rfl (by decide) (n := 11) rfl (dev10_eq c) rfl rfl (fun _ => rfl) (fun _ _ => rfl) rfl) $$ [HO Hk0 Ho0 Hd0]
  · iframe Hc HO Hk0 Ho0 Hd0
  iintro ⟨HO, Hk0⟩
  iapply (wp_send_sum m K c 1 2 2 rfl (by decide) (n := 10) rfl (dev11_eq c) rfl rfl (fun _ => rfl) (fun _ _ => rfl) rfl) $$ [HO Hk1 Ho1 Hd1]
  · iframe Hc HO Hk1 Ho1 Hd1
  iintro ⟨HO, Hk1⟩
  iapply (wp_send_sum m K c 2 2 2 rfl (by decide) (n := 9) rfl (dev12_eq c) rfl rfl (fun _ => rfl) (fun _ _ => rfl) rfl) $$ [HO Hk2 Ho2 Hd2]
  · iframe Hc HO Hk2 Ho2 Hd2
  iintro ⟨HO, Hk2⟩
  iapply (wp_update c (off26_eq c) rfl (off27_eq c) (Finset.subset_univ _) (sum2 m 0 c) (fn_sum2 m 0 c pay22_eq)) $$ [Hp0 Hl0]
  · iframe Hp0 Hl0
  iintro ⟨Hp0, Hl0⟩
  iapply (wp_update c (off28_eq c) rfl (off29_eq c) (Finset.subset_univ _) (sum2 m 1 c) (fn_sum2 m 1 c pay23_eq)) $$ [Hp1 Hl1]
  · iframe Hp1 Hl1
  iintro ⟨Hp1, Hl1⟩
  iapply (wp_update c (off30_eq c) rfl (off31_eq c) (Finset.subset_univ _) (sum2 m 2 c) (fn_sum2 m 2 c pay24_eq)) $$ [Hp2 Hl2]
  · iframe Hp2 Hl2
  iintro ⟨Hp2, Hl2⟩
  iapply (wp_wait_sum m K c 0 2 2 rfl (by decide) (n := 9) (by decide) rfl rfl (fun _ => rfl) (fun _ _ => rfl) rfl rfl) $$ [HO Hk0]
  · iframe Hc HO Hk0
  iintro ⟨HO, Hk0, Ho0, Hd0⟩
  iapply (wp_wait_sum m K c 1 2 2 rfl (by decide) (n := 9) (by decide) rfl rfl (fun _ => rfl) (fun _ _ => rfl) rfl rfl) $$ [HO Hk1]
  · iframe Hc HO Hk1
  iintro ⟨HO, Hk1, Ho1, Hd1⟩
  iapply (wp_wait_sum m K c 2 2 2 rfl (by decide) (n := 9) (by decide) rfl rfl (fun _ => rfl) (fun _ _ => rfl) rfl rfl) $$ [HO Hk2]
  · iframe Hc HO Hk2
  iintro ⟨HO, Hk2, Ho2, Hd2⟩
  have ht0 := fn_total m 0 c pay26_eq
  have ha0 := fn_own m 0 c pay27_eq
  iapply (wp_load_box c (off26_eq c) (Finset.Subset.refl _)) $$ Hp0; iintro Hp0
  iapply (wp_load_box c (oA := 0) (pA := 0) rfl (Finset.subset_univ _)) $$ Hd0; iintro Hd0
  iapply (wp_over_box c (off26_eq c) rfl (total m 0 c) ht0) $$ Hp0; iintro Hp0
  iapply (wp_over_box c (off26_eq c) rfl (gath m 0) ha0) $$ Ha0; iintro Ha0
  iapply (wp_drain c 0 0 (w := 384) (off32_eq c) (off33_eq c) rfl rfl 6144 (credit_rows rfl) (by decide)) $$ [Hp0 Hz0 Hv0]
  · iframe Hp0 Hz0 Hv0
  iintro Hf0
  have ht1 := fn_total m 1 c pay29_eq
  have ha1 := fn_own m 1 c pay30_eq
  iapply (wp_load_box c (off28_eq c) (Finset.Subset.refl _)) $$ Hp1; iintro Hp1
  iapply (wp_load_box c (oA := 0) (pA := 0) rfl (Finset.subset_univ _)) $$ Hd1; iintro Hd1
  iapply (wp_over_box c (off28_eq c) rfl (total m 1 c) ht1) $$ Hp1; iintro Hp1
  iapply (wp_over_box c (off28_eq c) rfl (gath m 1) ha1) $$ Ha1; iintro Ha1
  iapply (wp_drain c 1 0 (w := 384) (off34_eq c) (off35_eq c) rfl rfl 6144 (credit_rows rfl) (by decide)) $$ [Hp1 Hz1 Hv1]
  · iframe Hp1 Hz1 Hv1
  iintro Hf1
  have ht2 := fn_total m 2 c pay32_eq
  have ha2 := fn_own m 2 c pay33_eq
  iapply (wp_load_box c (off30_eq c) (Finset.Subset.refl _)) $$ Hp2; iintro Hp2
  iapply (wp_load_box c (oA := 0) (pA := 0) rfl (Finset.subset_univ _)) $$ Hd2; iintro Hd2
  iapply (wp_over_box c (off30_eq c) rfl (total m 2 c) ht2) $$ Hp2; iintro Hp2
  iapply (wp_over_box c (off30_eq c) rfl (gath m 2) ha2) $$ Ha2; iintro Ha2
  iapply (wp_drain c 2 0 (w := 256) (off36_eq c) (off37_eq c) rfl rfl 4096 (credit_rows rfl) (by decide)) $$ [Hp2 Hz2 Hv2]
  · iframe Hp2 Hz2 Hv2
  iintro Hf2
  iapply (hk _ _ _ _ _ _ _ _ _)
  unfold at17 moving0 done12 tri sent got moving
  dsimp only [part, rows, lane, outgoing, landing]
  isplitl [HO Ha0 Ha1 Ha2]
  · iframe Hc HO Ha0 Ha1 Ha2
  isplitl [Hf0 Hf1 Hf2]
  · iframe Hf0 Hf1 Hf2
  isplitr [HR]
  · iframe Hl0 Hl1 Hl2 Hg0 Hg1 Hg2 Hk0 Hk1 Hk2 Ho0 Ho1 Ho2 Hd0 Hd1 Hd2
  iexact HR

end Cert.Reduce
-- ==== Proof.Gather.lean ====
/-
  The first two rounds of the gathering: rows are sent on as they came, and those that arrived are widened and moved to the result.
-/
module

public import proofs.«01_k».proof.Proof.Third

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {Q : PUnit → sProp (MT nD τ sig Unit (Elt F) ℕ UU ℕ)}
  {R : sProp (MT nD τ sig Unit (Elt F) ℕ UU ℕ)}

/-- What the gathered rows widen to. -/
def spread (k : Fin 3) : ℕ → ℕ → F .f32 := fun a b => widen (gath m k a b)

theorem fn_spread (k : Fin 3) {o R C : ℕ} {pay : ((Mat R C).Idx → F .bf16) → ((Mat R C).Idx → F .f32)} (hp : ∀ x, pay x = fun j => widen (x j)) :
    (fn (win o 0 (spread m k)) : (Mat R C).Idx → F .f32) = pay (fn (win o 0 (gath m k))) := fn_convert widen hp (gath m k)

/-- What the first two rounds of the gathering need besides. -/
def more17 : sProp (MT nD τ sig Unit (Elt F) ℕ UU ℕ) :=
  iprop(tri (fun k => lk0 c k 3) ∗ tri (fun k => lk0 c k 4) ∗ tri (fun k => iprop(∃ G, theirs k 2 c G)) ∗ tri (fun k => iprop(∃ G, theirs k 1 c G))
    ∗ tri (fun k => iprop(∃ G, part k c (give k 2 c) 128 G)) ∗ tri (fun k => out0 c k 1 (give k 2 c) 128))

/-- What is done with after them. -/
def done17 : sProp (MT nD τ sig Unit (Elt F) ℕ UU ℕ) := iprop(tri (fun k => lk3 c k 3) ∗ tri (fun k => lk3 c k 4))

/-- The transfers of the rows gathered in the first round. -/
def moving1 : sProp (MT nD τ sig Unit (Elt F) ℕ UU ℕ) :=
  iprop(moving c 0 1 6144 (give 0 2 c) 128 (spread m 0) ∗ moving c 1 1 6144 (give 1 2 c) 128 (spread m 1) ∗ moving c 2 1 4096 (give 2 2 c) 128 (spread m 2))

/-- After two rounds of the gathering. -/
def at23 : sProp (MT nD τ sig Unit (Elt F) ℕ UU ℕ) :=
  iprop(ctx m K ∗ owesN c 3 ∗ tri (fun k => rows k c fullShare (base k 1 c) 512 (gath m k)))

set_option maxHeartbeats 1000000 in
theorem run17 (v4 v6 v8 v9 v10 v330 v332 v334 v11 : BitVec 32)
    (hk : ∀ v6 v8 v9 v10 v11 v569 v582 v4 v572 v585 v595 v598, iprop(at23 m K c ∗ moving1 m c ∗ done17 c ∗ R)
      ⊢ wp frame (wpE (defs₀ (F := F)) 𝒱₀ (c : Thread nD τ) none) Set.univ (rest23 c v6 v8 v9 v10 v11 v569 v582 v4 v572 v585 v595 v598) Q) :
    iprop(at17 m K c ∗ more17 c ∗ R) ⊢ wp frame (wpE (defs₀ (F := F)) 𝒱₀ (c : Thread nD τ) none) Set.univ (rest17 c v4 v6 v8 v9 v10 v330 v332 v334 v11) Q := by
  unfold at17 more17 rest17 tri out0
  simp only [part17, part18, part19, part20, part21, part22, k0_part17_eq_skeleton, k0_part17_skel, k0_part18_eq_skeleton, k0_part18_skel, k0_part19_eq_skeleton, k0_part19_skel,
    k0_part20_eq_skeleton, k0_part20_skel, k0_part21_eq_skeleton, k0_part21_skel, k0_part22_eq_skeleton, k0_part22_skel, Prog.lift, Prog.bind_op, Prog.bind_ret, Prog.pure_eq_ret]
  dsimp only [part, rows, lane]
  iintro ⟨⟨#Hc, HO, ⟨Ha0, Ha1, Ha2⟩⟩, ⟨⟨Hk0, Hk1, Hk2⟩, ⟨Hl0, Hl1, Hl2⟩, ⟨⟨%A0, Hg0⟩, ⟨%A1, Hg1⟩, ⟨%A2, Hg2⟩⟩, ⟨⟨%B0, Hh0⟩, ⟨%B1, Hh1⟩, ⟨%B2, Hh2⟩⟩, ⟨⟨%P0, Hp0⟩, ⟨%P1, Hp1⟩, ⟨%P2, Hp2⟩⟩, ⟨⟨⟨%Z0, Hz0⟩, Hv0⟩, ⟨⟨%Z1, Hz1⟩, Hv1⟩, ⟨⟨%Z2, Hz2⟩, Hv2⟩⟩⟩, HR⟩
  iapply (wp_send_rows m K c 0 3 2 rfl (by decide) (w := 384) (b := base 0 3 c) (agM := Memref.whole cc0_scratch8) (n := 8) rfl (dev13_eq c) (l := 128) rfl rfl (off33_eq c) rfl rfl (fun _ _ _ _ _ => rfl) (credit_rows rfl)) $$ [HO Hk0 Ha0 Hg0]
  · iframe Hc HO Hk0 Ha0 Hg0
  iintro ⟨HO, Hk0, Ha0⟩
  iapply (wp_send_rows m K c 1 3 2 rfl (by decide) (w := 384) (b := base 1 3 c) (agM := Memref.whole cc0_scratch9) (n := 7) rfl (dev14_eq c) (l := 128) rfl rfl (off35_eq c) rfl rfl (fun _ _ _ _ _ => rfl) (credit_rows rfl)) $$ [HO Hk1 Ha1 Hg1]
  · iframe Hc HO Hk1 Ha1 Hg1
  iintro ⟨HO, Hk1, Ha1⟩
  iapply (wp_send_rows m K c 2 3 2 rfl (by decide) (w := 256) (b := base 2 3 c) (agM := Memref.whole cc0_scratch10) (n := 6) rfl (dev15_eq c) (l := 128) rfl rfl (off37_eq c) rfl rfl (fun _ _ _ _ _ => rfl) (credit_rows rfl)) $$ [HO Hk2 Ha2 Hg2]
  · iframe Hc HO Hk2 Ha2 Hg2
  iintro ⟨HO, Hk2, Ha2⟩
  iapply (wp_wait_rows m K c 0 3 2 rfl (by decide) (n := 6) (by decide) (l := 128) (b := base 0 3 c) (N := 256) (b₀ := base 0 2 c) rfl rfl rfl rfl rfl rfl (fun _ _ _ _ _ => rfl) (credit_rows rfl) (credit_rows rfl)) $$ [HO Hk0 Ha0]
  · iframe Hc HO Hk0 Ha0
  iintro ⟨HO, Hk0, Ha0⟩
  iapply (wp_wait_rows m K c 1 3 2 rfl (by decide) (n := 6) (by decide) (l := 128) (b := base 1 3 c) (N := 256) (b₀ := base 1 2 c) rfl rfl rfl rfl rfl rfl (fun _ _ _ _ _ => rfl) (credit_rows rfl) (credit_rows rfl)) $$ [HO Hk1 Ha1]
  · iframe Hc HO Hk1 Ha1
  iintro ⟨HO, Hk1, Ha1⟩
  iapply (wp_wait_rows m K c 2 3 2 rfl (by decide) (n := 6) (by decide) (l := 128) (b := base 2 3 c) (N := 256) (b₀ := base 2 2 c) rfl rfl rfl rfl rfl rfl (fun _ _ _ _ _ => rfl) (credit_rows rfl) (credit_rows rfl)) $$ [HO Hk2 Ha2]
  · iframe Hc HO Hk2 Ha2
  iintro ⟨HO, Hk2, Ha2⟩
  iapply (wp_send_rows m K c 0 4 1 rfl (by decide) (w := 384) (b := base 0 2 c) (agM := Memref.whole cc0_scratch8) (n := 5) rfl (dev16_eq c) (l := 256) rfl rfl (off38_eq c) rfl rfl (fun _ _ _ _ _ => rfl) (credit_rows rfl)) $$ [HO Hl0 Ha0 Hh0]
  · iframe Hc HO Hl0 Ha0 Hh0
  iintro ⟨HO, Hl0, Ha0⟩
  iapply (wp_send_rows m K c 1 4 1 rfl (by decide) (w := 384) (b := base 1 2 c) (agM := Memref.whole cc0_scratch9) (n := 4) rfl (dev17_eq c) (l := 256) rfl rfl (off39_eq c) rfl rfl (fun _ _ _ _ _ => rfl) (credit_rows rfl)) $$ [HO Hl1 Ha1 Hh1]
  · iframe Hc HO Hl1 Ha1 Hh1
  iintro ⟨HO, Hl1, Ha1⟩
  iapply (wp_send_rows m K c 2 4 1 rfl (by decide) (w := 256) (b := base 2 2 c) (agM := Memref.whole cc0_scratch10) (n := 3) rfl (dev18_eq c) (l := 256) rfl rfl (off40_eq c) rfl rfl (fun _ _ _ _ _ => rfl) (credit_rows rfl)) $$ [HO Hl2 Ha2 Hh2]
  · iframe Hc HO Hl2 Ha2 Hh2
  iintro ⟨HO, Hl2, Ha2⟩
  iapply (wp_convert c (off41_eq c) (give_subset c 0 2 (l := 128) (N := 256) (b := base 0 2 c) rfl rfl rfl rfl) (off41_eq c) rfl (spread m 0) (fn_spread m 0 pay34_eq)) $$ [Ha0 Hp0]
  · iframe Ha0 Hp0
  iintro ⟨Ha0, Hp0⟩
  iapply (wp_drain c 0 1 (w := 384) (off42_eq c) (off43_eq c) rfl rfl 6144 (credit_rows rfl) (by decide)) $$ [Hp0 Hz0 Hv0]
  · iframe Hp0 Hz0 Hv0
  iintro Hf0
  iapply (wp_convert c (off44_eq c) (give_subset c 1 2 (l := 128) (N := 256) (b := base 1 2 c) rfl rfl rfl rfl) (off44_eq c) rfl (spread m 1) (fn_spread m 1 pay35_eq)) $$ [Ha1 Hp1]
  · iframe Ha1 Hp1
  iintro ⟨Ha1, Hp1⟩
  iapply (wp_drain c 1 1 (w := 384) (off45_eq c) (off46_eq c) rfl rfl 6144 (credit_rows rfl) (by decide)) $$ [Hp1 Hz1 Hv1]
  · iframe Hp1 Hz1 Hv1
  iintro Hf1
  iapply (wp_convert c (off47_eq c) (give_subset c 2 2 (l := 128) (N := 256) (b := base 2 2 c) rfl rfl rfl rfl) (off47_eq c) rfl (spread m 2) (fn_spread m 2 pay36_eq)) $$ [Ha2 Hp2]
  · iframe Ha2 Hp2
  iintro ⟨Ha2, Hp2⟩
  iapply (wp_drain c 2 1 (w := 256) (off48_eq c) (off49_eq c) rfl rfl 4096 (credit_rows rfl) (by decide)) $$ [Hp2 Hz2 Hv2]
  · iframe Hp2 Hz2 Hv2
  iintro Hf2
  iapply (wp_wait_rows m K c 0 4 1 rfl (by decide) (n := 3) (by decide) (l := 256) (b := base 0 2 c) (N := 512) (b₀ := base 0 1 c) rfl rfl rfl rfl rfl rfl (fun _ _ _ _ _ => rfl) (credit_rows rfl) (credit_rows rfl)) $$ [HO Hl0 Ha0]
  · iframe Hc HO Hl0 Ha0
  iintro ⟨HO, Hl0, Ha0⟩
  iapply (wp_wait_rows m K c 1 4 1 rfl (by decide) (n := 3) (by decide) (l := 256) (b := base 1 2 c) (N := 512) (b₀ := base 1 1 c) rfl rfl rfl rfl rfl rfl (fun _ _ _ _ _ => rfl) (credit_rows rfl) (credit_rows rfl)) $$ [HO Hl1 Ha1]
  · iframe Hc HO Hl1 Ha1
  iintro ⟨HO, Hl1, Ha1⟩
  iapply (wp_wait_rows m K c 2 4 1 rfl (by decide) (n := 3) (by decide) (l := 256) (b := base 2 2 c) (N := 512) (b₀ := base 2 1 c) rfl rfl rfl rfl rfl rfl (fun _ _ _ _ _ => rfl) (credit_rows rfl) (credit_rows rfl)) $$ [HO Hl2 Ha2]
  · iframe Hc HO Hl2 Ha2
  iintro ⟨HO, Hl2, Ha2⟩
  iapply (hk _ _ _ _ _ _ _ _ _ _ _ _)
  unfold at23 moving1 done17 tri moving
  dsimp only [part, rows, lane]
  isplitl [HO Ha0 Ha1 Ha2]
  · iframe Hc HO Ha0 Ha1 Ha2
  isplitl [Hf0 Hf1 Hf2]
  · iframe Hf0 Hf1 Hf2
  isplitr [HR]
  · iframe Hk0 Hk1 Hk2 Hl0 Hl1 Hl2
  iexact HR

end Cert.Reduce
-- ==== Proof.Finish.lean ====
/-
  The last round of the gathering, and the wait for everything to reach the result.
-/
module

public import proofs.«01_k».proof.Proof.Gather

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD) {Q : PUnit → sProp (MT nD τ sig Unit (Elt F) ℕ UU ℕ)}
  {R : sProp (MT nD τ sig Unit (Elt F) ℕ UU ℕ)}

/-- What the last round of the gathering needs besides. -/
def more23 : sProp (MT nD τ sig Unit (Elt F) ℕ UU ℕ) :=
  iprop(tri (fun k => lk0 c k 5) ∗ tri (fun k => iprop(∃ G, theirs k 0 c G))
    ∗ tri (fun k => iprop(∃ G, part k c (give k 1 c) 256 G)) ∗ tri (fun k => out0 c k 2 (give k 1 c) 256)
    ∗ tri (fun k => iprop(∃ G, part k c (give k 0 c) 512 G)) ∗ tri (fun k => out0 c k 3 (give k 0 c) 512) ∗ moving0 m c ∗ moving1 m c)

/-- Rows that have reached the result. -/
def moved (k : Fin 3) (t : Fin 4) (o n : ℕ) (G : ℕ → ℕ → Elt F .f32) : sProp (MT nD τ sig Unit (Elt F) ℕ UU ℕ) :=
  iprop((outp k c o n G ∗ part k c o n G) ∗ semVal ((c : Thread nD τ), .dma (drainS k t)) 0)

/-- What a device holds of a stream at the end. -/
def final (k : Fin 3) : sProp (MT nD τ sig Unit (Elt F) ℕ UU ℕ) :=
  iprop(moved c k 0 (base k 3 c) 128 (total m k c) ∗ moved c k 1 (give k 2 c) 128 (spread m k) ∗ moved c k 2 (give k 1 c) 256 (spread m k) ∗ moved c k 3 (give k 0 c) 512 (spread m k)
    ∗ rows k c fullShare (base k 0 c) 1024 (gath m k) ∗ lk3 c k 5)

set_option maxHeartbeats 1000000 in
theorem run23 (v6 v8 v9 v10 v11 v569 v582 v4 v572 v585 v595 v598 : BitVec 32)
    (hk : iprop(owesN c 0 ∗ tri (final m c) ∗ R) ⊢ Q ⟨⟩) :
    iprop(at23 m K c ∗ more23 m c ∗ R) ⊢ wp frame (wpE (defs₀ (F := F)) 𝒱₀ (c : Thread nD τ) none) Set.univ (rest23 c v6 v8 v9 v10 v11 v569 v582 v4 v572 v585 v595 v598) Q := by
  unfold at23 more23 rest23 tri out0 moving0 moving1
  simp only [part23, part24, part25, part26, part27, part28, partEnd, k0_part23_eq_skeleton, k0_part23_skel, k0_part24_eq_skeleton, k0_part24_skel, k0_part25_eq_skeleton, k0_part25_skel,
    k0_part26_eq_skeleton, k0_part26_skel, k0_part27_eq_skeleton, k0_part27_skel, k0_part28_eq_skeleton, k0_part28_skel, Prog.lift, Prog.bind_op, Prog.bind_ret, Prog.pure_eq_ret]
  dsimp only [part, rows, lane]
  iintro ⟨⟨#Hc, HO, ⟨Ha0, Ha1, Ha2⟩⟩, ⟨⟨Hk0, Hk1, Hk2⟩, ⟨⟨%A0, Hg0⟩, ⟨%A1, Hg1⟩, ⟨%A2, Hg2⟩⟩, ⟨⟨%P0, Hp0⟩, ⟨%P1, Hp1⟩, ⟨%P2, Hp2⟩⟩, ⟨⟨⟨%Z0, Hz0⟩, Hv0⟩, ⟨⟨%Z1, Hz1⟩, Hv1⟩, ⟨⟨%Z2, Hz2⟩, Hv2⟩⟩, ⟨⟨%T0, Ht0⟩, ⟨%T1, Ht1⟩, ⟨%T2, Ht2⟩⟩, ⟨⟨⟨%Y0, Hy0⟩, Hw0⟩, ⟨⟨%Y1, Hy1⟩, Hw1⟩, ⟨⟨%Y2, Hy2⟩, Hw2⟩⟩, ⟨He00, He10, He20⟩, ⟨He01, He11, He21⟩⟩, HR⟩
  iapply (wp_send_rows m K c 0 5 0 rfl (by decide) (w := 384) (b := base 0 1 c) (agM := Memref.whole cc0_scratch8) (n := 2) rfl (dev19_eq c) (l := 512) rfl rfl (off50_eq c) rfl rfl (fun _ _ _ _ _ => rfl) (credit_rows rfl)) $$ [HO Hk0 Ha0 Hg0]
  · iframe Hc HO Hk0 Ha0 Hg0
  iintro ⟨HO, Hk0, Ha0⟩
  iapply (wp_send_rows m K c 1 5 0 rfl (by decide) (w := 384) (b := base 1 1 c) (agM := Memref.whole cc0_scratch9) (n := 1) rfl (dev20_eq c) (l := 512) rfl rfl (off51_eq c) rfl rfl (fun _ _ _ _ _ => rfl) (credit_rows rfl)) $$ [HO Hk1 Ha1 Hg1]
  · iframe Hc HO Hk1 Ha1 Hg1
  iintro ⟨HO, Hk1, Ha1⟩
  iapply (wp_send_rows m K c 2 5 0 rfl (by decide) (w := 256) (b := base 2 1 c) (agM := Memref.whole cc0_scratch10) (n := 0) rfl (dev21_eq c) (l := 512) rfl rfl (off52_eq c) rfl rfl (fun _ _ _ _ _ => rfl) (credit_rows rfl)) $$ [HO Hk2 Ha2 Hg2]
  · iframe Hc HO Hk2 Ha2 Hg2
  iintro ⟨HO, Hk2, Ha2⟩
  iapply (wp_convert c (off53_eq c) (give_subset c 0 1 (l := 256) (N := 512) (b := base 0 1 c) rfl rfl rfl rfl) (off53_eq c) rfl (spread m 0) (fn_spread m 0 pay37_eq)) $$ [Ha0 Hp0]
  · iframe Ha0 Hp0
  iintro ⟨Ha0, Hp0⟩
  iapply (wp_drain c 0 2 (w := 384) (off54_eq c) (off55_eq c) rfl rfl 12288 (credit_rows rfl) (by decide)) $$ [Hp0 Hz0 Hv0]
  · iframe Hp0 Hz0 Hv0
  iintro He02
  iapply (wp_convert c (off56_eq c) (give_subset c 1 1 (l := 256) (N := 512) (b := base 1 1 c) rfl rfl rfl rfl) (off56_eq c) rfl (spread m 1) (fn_spread m 1 pay38_eq)) $$ [Ha1 Hp1]
  · iframe Ha1 Hp1
  iintro ⟨Ha1, Hp1⟩
  iapply (wp_drain c 1 2 (w := 384) (off57_eq c) (off58_eq c) rfl rfl 12288 (credit_rows rfl) (by decide)) $$ [Hp1 Hz1 Hv1]
  · iframe Hp1 Hz1 Hv1
  iintro He12
  have h40 := fn_spread m 2 (o := give 2 1 c) pay40_eq
  iapply (wp_load_box c (off59_eq c) (give_subset c 2 1 (l := 256) (N := 512) (b := base 2 1 c) rfl rfl rfl rfl)) $$ Ha2; iintro Ha2
  iapply (wp_over_box c (off59_eq c) rfl (spread m 2) h40) $$ Hp2; iintro Hp2
  iapply (wp_drain c 2 2 (w := 256) (off60_eq c) (off61_eq c) rfl rfl 8192 (credit_rows rfl) (by decide)) $$ [Hp2 Hz2 Hv2]
  · iframe Hp2 Hz2 Hv2
  iintro He22
  iapply (wp_wait_rows m K c 0 5 0 rfl (by decide) (n := 0) (by decide) (l := 512) (b := base 0 1 c) (N := 1024) (b₀ := base 0 0 c) rfl rfl rfl rfl rfl rfl (fun _ _ _ _ _ => rfl) (credit_rows rfl) (credit_rows rfl)) $$ [HO Hk0 Ha0]
  · iframe Hc HO Hk0 Ha0
  iintro ⟨HO, Hk0, Ha0⟩
  iapply (wp_wait_rows m K c 1 5 0 rfl (by decide) (n := 0) (by decide) (l := 512) (b := base 1 1 c) (N := 1024) (b₀ := base 1 0 c) rfl rfl rfl rfl rfl rfl (fun _ _ _ _ _ => rfl) (credit_rows rfl) (credit_rows rfl)) $$ [HO Hk1 Ha1]
  · iframe Hc HO Hk1 Ha1
  iintro ⟨HO, Hk1, Ha1⟩
  iapply (wp_wait_rows m K c 2 5 0 rfl (by decide) (n := 0) (by decide) (l := 512) (b := base 2 1 c) (N := 1024) (b₀ := base 2 0 c) rfl rfl rfl rfl rfl rfl (fun _ _ _ _ _ => rfl) (credit_rows rfl) (credit_rows rfl)) $$ [HO Hk2 Ha2]
  · iframe Hc HO Hk2 Ha2
  iintro ⟨HO, Hk2, Ha2⟩
  iapply (wp_convert c (off62_eq c) (give_subset c 0 0 (l := 512) (N := 1024) (b := base 0 0 c) rfl rfl rfl rfl) (off62_eq c) rfl (spread m 0) (fn_spread m 0 pay41_eq)) $$ [Ha0 Ht0]
  · iframe Ha0 Ht0
  iintro ⟨Ha0, Ht0⟩
  iapply (wp_drain c 0 3 (w := 384) (off63_eq c) (off64_eq c) rfl rfl 24576 (credit_rows rfl) (by decide)) $$ [Ht0 Hy0 Hw0]
  · iframe Ht0 Hy0 Hw0
  iintro He03
  iapply (wp_convert c (off65_eq c) (give_subset c 1 0 (l := 512) (N := 1024) (b := base 1 0 c) rfl rfl rfl rfl) (off65_eq c) rfl (spread m 1) (fn_spread m 1 pay42_eq)) $$ [Ha1 Ht1]
  · iframe Ha1 Ht1
  iintro ⟨Ha1, Ht1⟩
  iapply (wp_drain c 1 3 (w := 384) (off66_eq c) (off67_eq c) rfl rfl 24576 (credit_rows rfl) (by decide)) $$ [Ht1 Hy1 Hw1]
  · iframe Ht1 Hy1 Hw1
  iintro He13
  iapply (wp_convert c (off68_eq c) (give_subset c 2 0 (l := 512) (N := 1024) (b := base 2 0 c) rfl rfl rfl rfl) (off68_eq c) rfl (spread m 2) (fn_spread m 2 pay43_eq)) $$ [Ha2 Ht2]
  · iframe Ha2 Ht2
  iintro ⟨Ha2, Ht2⟩
  iapply (wp_drain c 2 3 (w := 256) (off69_eq c) (off70_eq c) rfl rfl 16384 (credit_rows rfl) (by decide)) $$ [Ht2 Hy2 Hw2]
  · iframe Ht2 Hy2 Hw2
  iintro He23
  unfold moving
  iapply (wp_finish m K c (q := drainS 0 0) (n := 0) rfl rfl (by decide) (N := 6144) (credit_rows rfl)) $$ [HO He00]
  · iframe Hc HO He00
  iintro ⟨HO, He00, Hs00⟩
  iapply (wp_finish m K c (q := drainS 1 0) (n := 0) rfl rfl (by decide) (N := 6144) (credit_rows rfl)) $$ [HO He10]
  · iframe Hc HO He10
  iintro ⟨HO, He10, Hs10⟩
  iapply (wp_finish m K c (q := drainS 2 0) (n := 0) rfl rfl (by decide) (N := 4096) (credit_rows rfl)) $$ [HO He20]
  · iframe Hc HO He20
  iintro ⟨HO, He20, Hs20⟩
  iapply (wp_finish m K c (q := drainS 0 1) (n := 0) rfl rfl (by decide) (N := 6144) (credit_rows rfl)) $$ [HO He01]
  · iframe Hc HO He01
  iintro ⟨HO, He01, Hs01⟩
  iapply (wp_finish m K c (q := drainS 1 1) (n := 0) rfl rfl (by decide) (N := 6144) (credit_rows rfl)) $$ [HO He11]
  · iframe Hc HO He11
  iintro ⟨HO, He11, Hs11⟩
  iapply (wp_finish m K c (q := drainS 2 1) (n := 0) rfl rfl (by decide) (N := 4096) (credit_rows rfl)) $$ [HO He21]
  · iframe Hc HO He21
  iintro ⟨HO, He21, Hs21⟩
  iapply (wp_finish m K c (q := drainS 0 2) (n := 0) rfl rfl (by decide) (N := 12288) (credit_rows rfl)) $$ [HO He02]
  · iframe Hc HO He02
  iintro ⟨HO, He02, Hs02⟩
  iapply (wp_finish m K c (q := drainS 1 2) (n := 0) rfl rfl (by decide) (N := 12288) (credit_rows rfl)) $$ [HO He12]
  · iframe Hc HO He12
  iintro ⟨HO, He12, Hs12⟩
  iapply (wp_finish m K c (q := drainS 2 2) (n := 0) rfl rfl (by decide) (N := 8192) (credit_rows rfl)) $$ [HO He22]
  · iframe Hc HO He22
  iintro ⟨HO, He22, Hs22⟩
  iapply (wp_finish m K c (q := drainS 0 3) (n := 0) rfl rfl (by decide) (N := 24576) (credit_rows rfl)) $$ [HO He03]
  · iframe Hc HO He03
  iintro ⟨HO, He03, Hs03⟩
  iapply (wp_finish m K c (q := drainS 1 3) (n := 0) rfl rfl (by decide) (N := 24576) (credit_rows rfl)) $$ [HO He13]
  · iframe Hc HO He13
  iintro ⟨HO, He13, Hs13⟩
  iapply (wp_finish m K c (q := drainS 2 3) (n := 0) rfl rfl (by decide) (N := 16384) (credit_rows rfl)) $$ [HO He23]
  · iframe Hc HO He23
  iintro ⟨HO, He23, Hs23⟩
  rw [wp_ret]
  imodintro
  iapply hk
  unfold tri final moved
  dsimp only [part, rows, lane]
  iframe HO HR He00 Hs00 He01 Hs01 He02 Hs02 He03 Hs03 Ha0 Hk0 He10 Hs10 He11 Hs11 He12 Hs12 He13 Hs13 Ha1 Hk1 He20 Hs20 He21 Hs21 He22 Hs22 He23 Hs23 Ha2 Hk2

end Cert.Reduce
-- ==== Proof.Compose.lean ====
/-
  The phases put together: a device's whole run, from its buffers, semaphores and duties to the result.
-/
module

public import proofs.«01_k».proof.Proof.Hidden
public import proofs.«01_k».proof.Proof.Finish

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- A stream's share of a device: its buffers whole, its columns of the result, its semaphores and links. -/
def lot (k : Fin 3) : sProp (MT nD τ sig Unit (Elt F) ℕ UU ℕ) :=
  iprop((∃ G, part k c 0 1024 G) ∗ (∃ G, rows k c fullShare 0 1024 G) ∗ (∃ G, outp k c 0 1024 G)
    ∗ ((∃ G, outgoing k 0 c G) ∗ (∃ G, outgoing k 1 c G) ∗ (∃ G, outgoing k 2 c G))
    ∗ ((∃ G, landing k 0 c G) ∗ (∃ G, landing k 1 c G) ∗ (∃ G, landing k 2 c G))
    ∗ (semVal ((c : Thread nD τ), .dma (drainS k 0)) 0 ∗ semVal ((c : Thread nD τ), .dma (drainS k 1)) 0 ∗ semVal ((c : Thread nD τ), .dma (drainS k 2)) 0 ∗ semVal ((c : Thread nD τ), .dma (drainS k 3)) 0)
    ∗ (lk0 c k 0 ∗ lk0 c k 1 ∗ lk0 c k 2 ∗ lk0 c k 3 ∗ lk0 c k 4 ∗ lk0 c k 5))

/-- A stream's share, cut by the rows of the rounds. -/
def cut (k : Fin 3) : sProp (MT nD τ sig Unit (Elt F) ℕ UU ℕ) :=
  iprop((grant c k 0 ∗ grant c k 1 ∗ grant c k 2) ∗ (∃ G, rows k c fullShare (base k 3 c) 128 G) ∗ (∃ G, part k c (base k 1 c) 512 G) ∗ (∃ G, part k c (give k 0 c) 512 G)
    ∗ (out0 c k 0 (base k 3 c) 128 ∗ out0 c k 1 (give k 2 c) 128 ∗ out0 c k 2 (give k 1 c) 256 ∗ out0 c k 3 (give k 0 c) 512)
    ∗ ((∃ G, outgoing k 0 c G) ∗ (∃ G, outgoing k 1 c G) ∗ (∃ G, outgoing k 2 c G))
    ∗ (lk0 c k 0 ∗ lk0 c k 1 ∗ lk0 c k 2 ∗ lk0 c k 3 ∗ lk0 c k 4 ∗ lk0 c k 5))

/-- All 1024 rows by rounds. -/
theorem held_rounds {sp : Space} {w : ℕ} {e : EltTy} {mA : Memref sig .tc sp (Mat 1024 w) e} {p q : ℕ} {sh : PosShare TreeShare} {X : (Mat 1024 w).Idx → Elt F e} (k : Fin 3) :
    (held (c : Thread nD τ) mA (box 0 1024 p q) sh X : sProp 𝕄)
      ⊢ iprop(held (c : Thread nD τ) mA (box (base k 3 c) 128 p q) sh X ∗ held (c : Thread nD τ) mA (box (give k 2 c) 128 p q) sh X
        ∗ held (c : Thread nD τ) mA (box (give k 1 c) 256 p q) sh X ∗ held (c : Thread nD τ) mA (box (give k 0 c) 512 p q) sh X) := by
  iintro H
  ihave H := (held_halves c k 0 (N := 1024) (b := 0) (b' := base k 1 c) (g := give k 0 c) (l := 512) rfl rfl rfl rfl rfl) $$ H
  icases H with ⟨H, H0⟩
  ihave H := (held_halves c k 1 (N := 512) (b := base k 1 c) (b' := base k 2 c) (g := give k 1 c) (l := 256) rfl rfl rfl rfl rfl) $$ H
  icases H with ⟨H, H1⟩
  ihave H := (held_halves c k 2 (N := 256) (b := base k 2 c) (b' := base k 3 c) (g := give k 2 c) (l := 128) rfl rfl rfl rfl rfl) $$ H
  icases H with ⟨H, H2⟩
  iframe H H2 H1 H0

theorem held_rounds_join {sp : Space} {w : ℕ} {e : EltTy} {mA : Memref sig .tc sp (Mat 1024 w) e} {p q : ℕ} {sh : PosShare TreeShare} {X : (Mat 1024 w).Idx → Elt F e} (k : Fin 3) :
    iprop(held (c : Thread nD τ) mA (box (base k 3 c) 128 p q) sh X ∗ held (c : Thread nD τ) mA (box (give k 2 c) 128 p q) sh X
        ∗ held (c : Thread nD τ) mA (box (give k 1 c) 256 p q) sh X ∗ held (c : Thread nD τ) mA (box (give k 0 c) 512 p q) sh X)
      ⊢ (held (c : Thread nD τ) mA (box 0 1024 p q) sh X : sProp 𝕄) := by
  iintro ⟨H, H2, H1, H0⟩
  ihave H := (held_whole c k 2 (N := 256) (b := base k 2 c) (b' := base k 3 c) (g := give k 2 c) (l := 128) rfl rfl rfl rfl rfl) $$ [H H2]
  · iframe H H2
  ihave H := (held_whole c k 1 (N := 512) (b := base k 1 c) (b' := base k 2 c) (g := give k 1 c) (l := 256) rfl rfl rfl rfl rfl) $$ [H H1]
  · iframe H H1
  iapply (held_whole c k 0 (N := 1024) (b := 0) (b' := base k 1 c) (g := give k 0 c) (l := 512) rfl rfl rfl rfl rfl)
  iframe H H0

theorem lot_cut (k : Fin 3) : lot (F := F) c k ⊢ cut c k := by
  unfold lot cut grant out0 part rows outp
  dsimp only [len]
  iintro ⟨⟨%P, HP⟩, ⟨%A, HA⟩, ⟨%Z, HZ⟩, Ho, ⟨HL0, HL1, HL2⟩, ⟨Hs0, Hs1, Hs2, Hs3⟩, Hk⟩
  ihave HP := (held_halves c k 0 (N := 1024) (b := 0) (b' := base k 1 c) (g := give k 0 c) (l := 512) rfl rfl rfl rfl rfl) $$ HP
  icases HP with ⟨HP, HP0⟩
  ihave HA := (held_rounds c k) $$ HA
  icases HA with ⟨HA, HA2, HA1, HA0⟩
  ihave HZ := (held_rounds c k) $$ HZ
  icases HZ with ⟨HZ, HZ2, HZ1, HZ0⟩
  isplitl [HL0 HL1 HL2 HA0 HA1 HA2]
  · isplitl [HL0 HA0]
    · isplitl [HL0]; · iexact HL0
      iexists A; iexact HA0
    isplitl [HL1 HA1]
    · isplitl [HL1]; · iexact HL1
      iexists A; iexact HA1
    isplitl [HL2]; · iexact HL2
    iexists A; iexact HA2
  isplitl [HA]; · iexists A; iexact HA
  isplitl [HP]; · iexists P; iexact HP
  isplitl [HP0]; · iexists P; iexact HP0
  isplitl [HZ HZ0 HZ1 HZ2 Hs0 Hs1 Hs2 Hs3]
  · isplitl [HZ Hs0]
    · isplitl [HZ]; · iexists Z; iexact HZ
      iexact Hs0
    isplitl [HZ2 Hs1]
    · isplitl [HZ2]; · iexists Z; iexact HZ2
      iexact Hs1
    isplitl [HZ1 Hs2]
    · isplitl [HZ1]; · iexists Z; iexact HZ1
      iexact Hs2
    isplitl [HZ0]; · iexists Z; iexact HZ0
    iexact Hs3
  iframe Ho Hk

/-- The grants as the neighbours get them; -/
theorem give_grants : iprop(tri (fun k => iprop(grant (F := F) c k 0 ∗ grant c k 1 ∗ grant c k 2))) ⊢ iprop(barPay (nbr 0 c) 0 ∗ barPay (nbr 1 c) 1 ∗ barPay (nbr 2 c) 2) := by
  unfold tri barPay
  rw [nbr_nbr, nbr_nbr, nbr_nbr]
  iintro ⟨⟨H00, H01, H02⟩, ⟨H10, H11, H12⟩, ⟨H20, H21, H22⟩⟩
  isplitl [H00 H12 H21]
  · isplitl [H00]; · iexact H00
    isplitl [H12]; · iexact H12
    iexact H21
  isplitl [H01 H10 H22]
  · isplitl [H01]; · iexact H01
    isplitl [H10]; · iexact H10
    iexact H22
  isplitl [H02]; · iexact H02
  isplitl [H11]; · iexact H11
  iexact H20

/-- and those the neighbours give, by stream and round. -/
theorem take_grants : iprop(barPay (F := F) c 0 ∗ barPay c 1 ∗ barPay c 2)
    ⊢ iprop((tri (fun k => iprop(∃ G, landing k 0 (prt k 0 c) G)) ∗ tri (fun k => iprop(∃ G, theirs k 0 c G)))
      ∗ (tri (fun k => iprop(∃ G, landing k 1 (prt k 1 c) G)) ∗ tri (fun k => iprop(∃ G, theirs k 1 c G)))
      ∗ (tri (fun k => iprop(∃ G, landing k 2 (prt k 2 c) G)) ∗ tri (fun k => iprop(∃ G, theirs k 2 c G)))) := by
  unfold barPay tri theirs grant
  iintro ⟨⟨⟨L00, A00⟩, ⟨L12, A12⟩, ⟨L21, A21⟩⟩, ⟨⟨L01, A01⟩, ⟨L10, A10⟩, ⟨L22, A22⟩⟩, ⟨⟨L02, A02⟩, ⟨L11, A11⟩, ⟨L20, A20⟩⟩⟩
  isplitl [L00 L10 L20 A00 A10 A20]
  · isplitl [L00 L10 L20]
    · isplitl [L00]; · iexact L00
      isplitl [L10]; · iexact L10
      iexact L20
    isplitl [A00]; · iexact A00
    isplitl [A10]; · iexact A10
    iexact A20
  isplitl [L01 L11 L21 A01 A11 A21]
  · isplitl [L01 L11 L21]
    · isplitl [L01]; · iexact L01
      isplitl [L11]; · iexact L11
      iexact L21
    isplitl [A01]; · iexact A01
    isplitl [A11]; · iexact A11
    iexact A21
  isplitl [L02 L12 L22]
  · isplitl [L02]; · iexact L02
    isplitl [L12]; · iexact L12
    iexact L22
  isplitl [A02]; · iexact A02
  isplitl [A12]; · iexact A12
  iexact A22

/-- What the later rounds find as the device began. -/
def pre17 : sProp (MT nD τ sig Unit (Elt F) ℕ UU ℕ) :=
  iprop(tri (fun k => lk0 c k 3) ∗ tri (fun k => lk0 c k 4) ∗ tri (fun k => iprop(∃ G, theirs k 2 c G)) ∗ tri (fun k => iprop(∃ G, theirs k 1 c G)) ∗ tri (fun k => out0 c k 1 (give k 2 c) 128))
def pre23 : sProp (MT nD τ sig Unit (Elt F) ℕ UU ℕ) :=
  iprop(tri (fun k => lk0 c k 5) ∗ tri (fun k => iprop(∃ G, theirs k 0 c G)) ∗ tri (fun k => out0 c k 2 (give k 1 c) 256)
    ∗ tri (fun k => iprop(∃ G, part k c (give k 0 c) 512 G)) ∗ tri (fun k => out0 c k 3 (give k 0 c) 512))

/-- What the second and the third round leave apart from rows of the sums. -/
def used8 : sProp (MT nD τ sig Unit (Elt F) ℕ UU ℕ) :=
  iprop(lk3 c 2 0 ∗ sent m c 2 0 ∗ tri (fun k => got m c k 0) ∗ tri (fun k => lk3 c k 1) ∗ tri (fun k => sent m c k 1))
def used12 : sProp (MT nD τ sig Unit (Elt F) ℕ UU ℕ) :=
  iprop(tri (fun k => got m c k 1) ∗ tri (fun k => lk3 c k 2) ∗ tri (fun k => sent m c k 2) ∗ tri (fun k => got m c k 2))

/-- What a device holds when it is through. -/
def over : sProp (MT nD τ sig Unit (Elt F) ℕ UU ℕ) :=
  iprop(owesN c 0 ∗ tri (final m c) ∗ done1 m c ∗ done5 m c ∗ used8 m c ∗ used12 m c ∗ done17 c)

section Chain

variable {Q : PUnit → sProp (MT nD τ sig Unit (Elt F) ℕ UU ℕ)}

theorem from23 (hQ : over m c ⊢ Q ⟨⟩) (v6 v8 v9 v10 v11 v569 v582 v4 v572 v585 v595 v598 : BitVec 32) :
    iprop(at23 m K c ∗ moving1 m c ∗ done17 c ∗ moving0 m c ∗ used12 m c ∗ done8 m c ∗ pre23 c ∗ done5 m c ∗ done1 m c)
      ⊢ wp frame (wpE (defs₀ (F := F)) 𝒱₀ (c : Thread nD τ) none) Set.univ (rest23 c v6 v8 v9 v10 v11 v569 v582 v4 v572 v585 v595 v598) Q := by
  have h := run23 m K c (R := iprop(done1 m c ∗ done5 m c ∗ used8 m c ∗ used12 m c ∗ done17 c)) v6 v8 v9 v10 v11 v569 v582 v4 v572 v585 v595 v598 hQ
  unfold done8 pre23
  iintro ⟨Hat, Hm1, H17, Hm0, H12, ⟨Ha, Hb, Hc, Hp, Hd, He⟩, ⟨Hk, Ht, Ho2, Hp0, Ho3⟩, H5, H1⟩
  iapply h
  isplitl [Hat]; · iexact Hat
  isplitr [Ha Hb Hc Hd He H1 H5 H12 H17]
  · unfold more23
    isplitl [Hk]; · iexact Hk
    isplitl [Ht]; · iexact Ht
    isplitl [Hp]
    · unfold tri
      icases Hp with ⟨H0, H1, H2⟩
      isplitl [H0]; · iexists _; iexact H0
      isplitl [H1]; · iexists _; iexact H1
      iexists _; iexact H2
    iframe Ho2 Hp0 Ho3 Hm0 Hm1
  unfold used8
  iframe H1 H5 Ha Hb Hc Hd He H12 H17

theorem from17 (hQ : over m c ⊢ Q ⟨⟩) (v4 v6 v8 v9 v10 v330 v332 v334 v11 : BitVec 32) :
    iprop(at17 m K c ∗ moving0 m c ∗ done12 m c ∗ done8 m c ∗ pre17 c ∗ pre23 c ∗ done5 m c ∗ done1 m c)
      ⊢ wp frame (wpE (defs₀ (F := F)) 𝒱₀ (c : Thread nD τ) none) Set.univ (rest17 c v4 v6 v8 v9 v10 v330 v332 v334 v11) Q := by
  have h := run17 m K c (R := iprop(moving0 m c ∗ used12 m c ∗ done8 m c ∗ pre23 c ∗ done5 m c ∗ done1 m c)) v4 v6 v8 v9 v10 v330 v332 v334 v11 (from23 m K c hQ)
  unfold done12 pre17
  iintro ⟨Hat, Hm0, ⟨Ha, Hp, Hb, Hc, Hd⟩, H8, ⟨Hk3, Hk4, Ht2, Ht1, Ho⟩, H23, H5, H1⟩
  iapply h
  isplitl [Hat]; · iexact Hat
  isplitr [Hm0 Ha Hb Hc Hd H8 H23 H5 H1]
  · unfold more17
    iframe Hk3 Hk4 Ht2 Ht1
    isplitl [Hp]
    · unfold tri
      icases Hp with ⟨H0, H1, H2⟩
      isplitl [H0]; · iexists _; iexact H0
      isplitl [H1]; · iexists _; iexact H1
      iexists _; iexact H2
    iexact Ho
  unfold used12
  iframe Hm0 Ha Hb Hc Hd H8 H23 H5 H1

theorem from12 (hQ : over m c ⊢ Q ⟨⟩) (v4 v6 v8 v213 v215 v217 v322 v325 v326 w v9 v10 v11 : BitVec 32) :
    iprop(at12 m K c ∗ done8 m c ∗ more12 c ∗ pre17 c ∗ pre23 c ∗ done5 m c ∗ done1 m c)
      ⊢ wp frame (wpE (defs₀ (F := F)) 𝒱₀ (c : Thread nD τ) none) Set.univ (rest12 c v4 v6 v8 v213 v215 v217 v322 v325 v326 w v9 v10 v11) Q := by
  have h := run12 m K c (R := iprop(done8 m c ∗ pre17 c ∗ pre23 c ∗ done5 m c ∗ done1 m c)) v4 v6 v8 v213 v215 v217 v322 v325 v326 w v9 v10 v11 (from17 m K c hQ)
  iintro ⟨Hat, H8, H12, H17, H23, H5, H1⟩
  iapply h
  iframe Hat H8 H12 H17 H23 H5 H1

theorem from8 (hQ : over m c ⊢ Q ⟨⟩) (v4 v6 v8 v11 v108 v109 v110 v9 v10 : BitVec 32) :
    iprop(at8 m K c ∗ done5 m c ∗ more8 c ∗ more12 c ∗ pre17 c ∗ pre23 c ∗ done1 m c)
      ⊢ wp frame (wpE (defs₀ (F := F)) 𝒱₀ (c : Thread nD τ) none) Set.univ (rest8 c v4 v6 v8 v11 v108 v109 v110 v9 v10) Q := by
  have h := run8 m K c (R := iprop(more12 c ∗ pre17 c ∗ pre23 c ∗ done5 m c ∗ done1 m c)) v4 v6 v8 v11 v108 v109 v110 v9 v10 (from12 m K c hQ)
  iintro ⟨Hat, H5, H8, H12, H17, H23, H1⟩
  iapply h
  iframe Hat H5 H8 H12 H17 H23 H1

/-- What the products need besides the grants. -/
def mine : sProp (MT nD τ sig Unit (Elt F) ℕ UU ℕ) :=
  iprop(tri (fun k => iprop(∃ G, outgoing k 0 c G)) ∗ tri (fun k => iprop(∃ G, outgoing k 1 c G)) ∗ tri (fun k => iprop(∃ G, outgoing k 2 c G))
    ∗ tri (fun k => lk0 c k 0) ∗ tri (fun k => lk0 c k 1) ∗ tri (fun k => lk0 c k 2) ∗ tri (fun k => lk0 c k 3) ∗ tri (fun k => lk0 c k 4) ∗ tri (fun k => lk0 c k 5)
    ∗ tri (fun k => iprop(∃ G, part k c (base k 1 c) 512 G)) ∗ tri (fun k => iprop(∃ G, part k c (give k 0 c) 512 G)) ∗ tri (fun k => iprop(∃ G, rows k c fullShare (base k 3 c) 128 G))
    ∗ tri (fun k => out0 c k 0 (base k 3 c) 128) ∗ tri (fun k => out0 c k 1 (give k 2 c) 128) ∗ tri (fun k => out0 c k 2 (give k 1 c) 256) ∗ tri (fun k => out0 c k 3 (give k 0 c) 512))

theorem from5 (hQ : over m c ⊢ Q ⟨⟩) (v4 v9 v10 v103 v105 w v11 v107 v108 v109 v6 v8 : BitVec 32) :
    iprop(to5 m K c ∗ done1 m c ∗ mine c)
      ⊢ wp frame (wpE (defs₀ (F := F)) 𝒱₀ (c : Thread nD τ) none) Set.univ (rest5 c v4 v9 v10 v103 v105 w v11 v107 v108 v109 v6 v8) Q := by
  have h := run5 m K c (R := iprop(more8 c ∗ more12 c ∗ pre17 c ∗ pre23 c ∗ done1 m c)) v4 v9 v10 v103 v105 w v11 v107 v108 v109 v6 v8 (from8 m K c hQ)
  unfold to5 mine
  iintro ⟨⟨#Hc, HO, Hh, Hf, Hb⟩, H1, ⟨Ho0, Ho1, Ho2, Hk0, Hk1, Hk2, Hk3, Hk4, Hk5, Hp1, Hp0, Ha, Hz0, Hz1, Hz2, Hz3⟩⟩
  ihave Hb := (take_grants c) $$ Hb
  icases Hb with ⟨⟨HL0, HA0⟩, ⟨HL1, HA1⟩, ⟨HL2, HA2⟩⟩
  iapply h
  unfold at5 more8 more12 pre17 pre23
  isplitl [HO Hh Hf Ho0 Hp1 HL0 Hk0]
  · iframe Hc HO Hh Hf Ho0 Hp1 HL0 Hk0
  iframe Ho1 HL1 Hk1 Ho2 HL2 Hk2 Ha Hz0 Hk3 Hk4 HA2 HA1 Hz1 Hk5 HA0 Hz2 Hp0 Hz3 H1

/-- A device's whole run. -/
theorem from1 (hQ : over m c ⊢ Q ⟨⟩) :
    iprop(at1 m K c ∗ mine c) ⊢ wp frame (wpE (defs₀ (F := F)) 𝒱₀ (c : Thread nD τ) none) Set.univ rest1 Q :=
  run1 m K c (R := mine c) (from5 m K c hQ)

end Chain

/-- The streams' shares give the grants for the neighbours and what the device keeps. -/
theorem lots_cut : tri (lot (F := F) c) ⊢ iprop((barPay (nbr 0 c) 0 ∗ barPay (nbr 1 c) 1 ∗ barPay (nbr 2 c) 2) ∗ mine c) := by
  unfold tri
  iintro ⟨H0, H1, H2⟩
  ihave H0 := (lot_cut c 0) $$ H0
  ihave H1 := (lot_cut c 1) $$ H1
  ihave H2 := (lot_cut c 2) $$ H2
  unfold cut
  icases H0 with ⟨G0, A0, P0, R0, ⟨Z00, Z01, Z02, Z03⟩, ⟨O00, O01, O02⟩, ⟨K00, K01, K02, K03, K04, K05⟩⟩
  icases H1 with ⟨G1, A1, P1, R1, ⟨Z10, Z11, Z12, Z13⟩, ⟨O10, O11, O12⟩, ⟨K10, K11, K12, K13, K14, K15⟩⟩
  icases H2 with ⟨G2, A2, P2, R2, ⟨Z20, Z21, Z22, Z23⟩, ⟨O20, O21, O22⟩, ⟨K20, K21, K22, K23, K24, K25⟩⟩
  isplitl [G0 G1 G2]
  · iapply (give_grants c)
    unfold tri
    iframe G0 G1 G2
  unfold mine tri
  iframe O00 O10 O20 O01 O11 O21 O02 O12 O22 K00 K10 K20 K01 K11 K21 K02 K12 K22 K03 K13 K23 K04 K14 K24 K05 K15 K25 P0 P1 P2 R0 R1 R2 A0 A1 A2 Z00 Z10 Z20 Z01 Z11 Z21 Z02 Z12 Z22 Z03 Z13 Z23

end Cert.Reduce
-- ==== Proof.Ghost.lean ====
/-
  What the launch sets up between the devices: the rounds of the shared semaphores, who holds which duty, and the credit every
  device starts with.
-/
module

public import proofs.«01_k».proof.Proof.Links
public import proofs.«01_k».proof.Proof.Steps
public import proofs.«01_k».proof.Proof.Gen.KernelIdeal.Launch

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the links -/

/-- A stream and a step. -/
abbrev Link : Type := Fin 3 × Fin 6

theorem bigSep_cell (P : Cell → sProp (MT nD τ sig Unit (Elt F) ℕ UU ℕ)) :
    bigSep Finset.univ P = iprop((bigSep Finset.univ fun x : Bool × Link => P (some x)) ∗ P none) := by
  rw [bigSep_univ_equiv (Equiv.optionEquivSumPUnit.{0} (Bool × Link)).symm P, BI.bigSep_univ_sum]
  refine congrArg (BI.sep _) ?_
  rw [show (Finset.univ : Finset PUnit.{1}) = {PUnit.unit} from rfl, bigSep_singleton]
  rfl

theorem bigSep_side (P : Bool × Link → sProp (MT nD τ sig Unit (Elt F) ℕ UU ℕ)) :
    bigSep Finset.univ P = iprop((bigSep Finset.univ fun x : Link => P (false, x)) ∗ (bigSep Finset.univ fun x : Link => P (true, x))) := by
  rw [bigSep_univ_prod, bigSep_univ_eq_bigSepL [false, true] (by decide) (by decide), bigSepL_cons_cons, bigSepL_singleton]
  rfl

theorem bigSep_duty {A B : Type} [Fintype A] [Fintype B] (P : A ⊕ B → sProp (MT nD τ sig Unit (Elt F) ℕ UU ℕ)) :
    bigSep Finset.univ P = iprop((bigSep Finset.univ fun a : A => P (.inl a)) ∗ (bigSep Finset.univ fun b : B => P (.inr b))) :=
  BI.bigSep_univ_sum P

/-! ## Cells and duties -/

theorem cell_injective : Function.Injective (fun x : Dev nD × Cell => cell x.1 x.2) := by
  rintro ⟨c, x⟩ ⟨c', x'⟩ h
  have h1 : c = c' := congrArg (fun g : GSem nD τ sig => g.1.1) h
  have h2 : x = x' := csem_injective (congrArg Prod.snd h)
  rw [h1, h2]

theorem cell_eq_iff {c c' : Dev nD} {x x' : Cell} : Iff (cell c x = cell c' x') (c = c' ∧ x = x') :=
  ⟨fun h => Prod.mk.inj (cell_injective (a₁ := (c, x)) (a₂ := (c', x')) h), fun h => by rw [h.1, h.2]⟩

def allCells : Finset (GSem nD τ sig) := Finset.univ.map ⟨fun x : Dev nD × Cell => cell x.1 x.2, cell_injective⟩

/-- The duties of a device's cells: the barrier's three, and one on every other. -/
abbrev Duty : Type := Fin 3 ⊕ (Bool × Link)

def dutyAt (x : Dev nD × Duty) : GSem nD τ sig × ℕ × Fin 3 :=
  match x.2 with
  | .inl d => (cell x.1 none, 0, d)
  | .inr y => (cell x.1 (some y), 0, 0)

theorem dutyAt_injective : Function.Injective dutyAt := by
  rintro ⟨c, d | y⟩ ⟨c', d' | y'⟩ h
  · have h1 : c = c' ∧ _ := cell_eq_iff.mp (congrArg Prod.fst h)
    have h2 : d = d' := congrArg (fun z : GSem nD τ sig × ℕ × Fin 3 => z.2.2) h
    rw [h1.1, h2]
  · exact absurd (cell_eq_iff.mp (congrArg Prod.fst h)).2 (fun h => by cases h)
  · exact absurd (cell_eq_iff.mp (congrArg Prod.fst h)).2 (fun h => by cases h)
  · have h1 : c = c' ∧ _ := cell_eq_iff.mp (congrArg Prod.fst h)
    rw [h1.1, Option.some.inj h1.2]

def allDuties : Finset (GSem nD τ sig × ℕ × Fin 3) := Finset.univ.map ⟨dutyAt, dutyAt_injective⟩

/-- Whose cell a device's duty is on: the barrier of the neighbour along `d`, its own departures, its partners' arrivals. -/
def goes (x : Dev nD × Duty) : Dev nD × Duty :=
  match x.2 with
  | .inl d => (nbr d x.1, x.2)
  | .inr (false, _) => x
  | .inr (true, k, j) => (peer k j x.1, x.2)

theorem goes_goes (x : Dev nD × Duty) : goes (goes x) = x := by
  obtain ⟨c, d | ⟨b, k, j⟩⟩ := x
  · show (nbr d (nbr d c), Sum.inl d) = (c, Sum.inl d); rw [nbr_nbr]
  · cases b
    · rfl
    · show (peer k j (peer k j c), Sum.inr (true, k, j)) = (c, Sum.inr (true, k, j)); rw [peer_peer]

def goesEquiv : Dev nD × Duty ≃ Dev nD × Duty := ⟨goes, goes, goes_goes, goes_goes⟩

def tok (x : Dev nD × Duty) : sProp (MT nD τ sig Unit (Elt F) ℕ UU ℕ) := dutyTok ER (dutyAt x).1 (dutyAt x).2.1 (dutyAt x).2.2

/-- Every device's duties, dealt to those who pay them. -/
theorem deal : (bigSep Finset.univ fun c : Dev nD => bigSep Finset.univ fun d : Duty => (tok (c, d) : sProp 𝕄))
    = bigSep Finset.univ fun c : Dev nD => bigSep Finset.univ fun d : Duty => tok (goes (c, d)) := by
  rw [← bigSep_univ_prod (fun x : Dev nD × Duty => (tok x : sProp 𝕄)), bigSep_univ_equiv goesEquiv, bigSep_univ_prod]
  rfl

/-! ## The semaphores -/

/-- The semaphores of the device's own program: those of the links, of the transfers in, and of the transfers out. -/
def osem : (Bool × Link) ⊕ (Fin 6 ⊕ (Fin 3 × Fin 4)) → SemLoc sig
  | .inl x => csem (some x)
  | .inr (.inl i) => .dma (inS i)
  | .inr (.inr (k, t)) => .dma (drainS k t)

theorem ownSemFacts : Pipeline.OwnSemFacts cfg0.spec osem := by decide

/-- The semaphores no other device touches, all at zero. -/
def loose (c : Dev nD) : sProp (MT nD τ sig Unit (Elt F) ℕ UU ℕ) :=
  iprop((bigSep Finset.univ fun i : Fin 6 => semVal ((c : Thread nD τ), .dma (inS i)) 0)
    ∗ (bigSep Finset.univ fun x : Fin 3 × Fin 4 => semVal ((c : Thread nD τ), .dma (drainS x.1 x.2)) 0))

theorem ownSems0_eq (c : Dev nD) : (Pipeline.ownSems0 (Ix := Unit) (Name := ℕ) (U := UU) (Lvl := ℕ) (Val := Elt F) (τ := τ) osem c : sProp 𝕄)
    = iprop((bigSep Finset.univ fun x : Bool × Link => semVal (cell c (some x)) 0) ∗ loose c) := by
  unfold Pipeline.ownSems0 loose
  rw [BI.bigSep_univ_sum, BI.bigSep_univ_sum]
  rfl

theorem unscopedSems0_eq (c : Dev nD) : (unscopedSems0 c : sProp 𝕄) = semVal (cell c none) 0 := by
  unfold unscopedSems0; rw [bigSep_eq_bigSepL_of_eq [SemLoc.reg barS] (by decide) (by decide)]; rfl

/-! ## Funding -/

/-- What the launch deals a device; -/
def dealt (c : Dev nD) : sProp (MT nD τ sig Unit (Elt F) ℕ UU ℕ) :=
  iprop((bigSep Finset.univ fun x : Cell => roundState ER (sched m) (cell c x) 0) ∗ (bigSep Finset.univ fun x : Cell => reached ER (cell c x) 0)
    ∗ (bigSep Finset.univ fun x : Cell => atPos ER (cell c x) 0 ∅ 0) ∗ (bigSep Finset.univ fun d : Duty => tok (c, d)))

/-- what every device comes to know; -/
def known (K : Dev nD × Cell → ℕ) : sProp (MT nD τ sig Unit (Elt F) ℕ UU ℕ) :=
  iprop((bigSep Finset.univ fun x : Dev nD × Cell => cellInv ER (sched m) (K x) (cell x.1 x.2))
    ∗ (bigSep Finset.univ fun x : Dev nD × Cell => reached ER (cell x.1 x.2) 0))

instance known_persistent (K : Dev nD × Cell → ℕ) : BI.Persistent (known m K) := by unfold known; infer_instance

/-- and what it holds of it: its positions, its duties, and the semaphores of its own. -/
def keeps (c : Dev nD) : sProp (MT nD τ sig Unit (Elt F) ℕ UU ℕ) :=
  iprop((bigSep Finset.univ fun x : Cell => atPos ER (cell c x) 0 ∅ 0) ∗ (bigSep Finset.univ fun d : Duty => tok (goes (c, d))) ∗ loose c)

def begun (c : Dev nD) : sProp (MT nD τ sig Unit (Elt F) ℕ UU ℕ) := iprop(∃ K, known m K ∗ keeps c)

theorem fund_all : BI.own (ER (initOf allCells allDuties)) ⊢ (|==> bigSep Finset.univ (dealt m) : sProp 𝕄) := by
  have hX (P : GSem nD τ sig → sProp 𝕄) : bigSep allCells P = bigSep Finset.univ fun c : Dev nD => bigSep Finset.univ fun x : Cell => P (cell c x) := by
    unfold allCells; rw [bigSep_map, bigSep_univ_prod]; rfl
  have hT : bigSep allDuties (fun x => (dutyTok ER x.1 x.2.1 x.2.2 : sProp 𝕄)) = bigSep Finset.univ fun c : Dev nD => bigSep Finset.univ fun d : Duty => tok (c, d) := by
    unfold allDuties; rw [bigSep_map, bigSep_univ_prod]; rfl
  iintro HX
  imod (Rounds.fund ER (sched m) allCells allDuties) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  iframe Hst Hr Hat Htok

theorem alloc_one (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : Cell => iprop(∃ κ : ℕ, cellInv ER (sched m) κ (cell c x)))
          ∗ (bigSep Finset.univ fun x : Cell => reached ER (cell c x) 0)
          ∗ (bigSep Finset.univ fun x : Cell => atPos ER (cell c x) 0 ∅ 0) ∗ (bigSep Finset.univ fun d : Duty => tok (c, d)) ∗ loose c) := by
  have h : iprop((bigSep Finset.univ fun x : Cell => semVal (cell c x) 0) ∗ bigSep Finset.univ fun x : Cell => roundState ER (sched m) (cell c x) 0)
      ⊢ (|={Set.univ}=> bigSep Finset.univ fun x : Cell => iprop(∃ κ : ℕ, cellInv ER (sched m) κ (cell c x)) : sProp 𝕄) := by
    rw [← bigSep_sep']
    exact (bigSep_mono fun x _ => (Rounds.body_intro ER (sched m) (cell c x)).trans inv_alloc).trans (bigSep_fupd _ _)
  rw [ownSems0_eq, unscopedSems0_eq]
  unfold dealt
  iintro ⟨⟨Hx, Hl⟩, Hb, Hst, Hr, Hat, Htok⟩
  ihave Hv := (Entails.of_eq (bigSep_cell (F := F) fun x => semVal (cell c x) 0).symm) $$ [Hx Hb]
  · isplitl [Hx]; · iexact Hx
    iexact Hb
  imod h $$ [Hv Hst] with Hinv
  · isplitl [Hv]; · iexact Hv
    iexact Hst
  imodintro
  iframe Hinv Hr Hat Htok Hl

theorem share_out :
    (bigSep Finset.univ fun c : Dev nD => iprop((bigSep Finset.univ fun x : Cell => iprop(∃ κ : ℕ, cellInv ER (sched m) κ (cell c x)))
          ∗ (bigSep Finset.univ fun x : Cell => reached ER (cell c x) 0)
          ∗ (bigSep Finset.univ fun x : Cell => atPos ER (cell c x) 0 ∅ 0) ∗ (bigSep Finset.univ fun d : Duty => tok (c, d)) ∗ loose c) : sProp 𝕄)
      ⊢ bigSep Finset.univ (begun m) := by
  rw [bigSep_sep', bigSep_sep', bigSep_sep', bigSep_sep', deal,
    ← bigSep_univ_prod (fun x : Dev nD × Cell => iprop(∃ κ : ℕ, cellInv ER (sched m) κ (cell x.1 x.2))),
    ← bigSep_univ_prod (fun x : Dev nD × Cell => (reached ER (cell x.1 x.2) 0 : sProp 𝕄))]
  iintro ⟨HI, #HR, Hat, Htok, Hl⟩
  ihave HK := (BI.bigSep_exists_pi Finset.univ (fun (x : Dev nD × Cell) (κ : ℕ) => (cellInv ER (sched m) κ (cell x.1 x.2) : sProp 𝕄))) $$ HI
  icases HK with ⟨%K, #HI⟩
  have h : ∀ c : Dev nD, c ∈ Finset.univ → iprop(known m K ∗ keeps c) ⊢ begun m c := fun c _ => by
    unfold begun; iintro H; iexists K; iexact H
  iapply (BI.bigSep_with_persistent (R := known m K) (Φ := keeps) h)
  isplitr
  · unfold known; isplitr; · iexact HI
    iexact HR
  · unfold keeps; rw [bigSep_sep', bigSep_sep']
    iframe Hat Htok Hl

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (begun m) :=
  ((bigSep_mono fun c _ => alloc_one m c).trans (bigSep_fupd _ _)).trans (BI.fupd_mono (share_out m))

/-- The element the launch starts from. -/
def u₀ : UU := (initOf (Pipeline.cells cfgs cellOf_inj) (Pipeline.launchToks cfgs cellOf_inj), (initOf allCells allDuties, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The launch credit -/

/-- To which device payment `i` goes, on which of its cells, and how much. -/
def payTo (i : ℕ) (d : Dev nD) : Dev nD :=
  if i < 18 then peer (Fin.ofNat 3 ((17 - i) % 3)) (Fin.ofNat 6 ((17 - i) / 3)) d else nbr (Fin.ofNat 3 (20 - i)) d
def payCell (i : ℕ) : Cell := if i < 18 then some (true, Fin.ofNat 3 ((17 - i) % 3), Fin.ofNat 6 ((17 - i) / 3)) else none
def payAmt (i : ℕ) : ℕ := if i < 18 then amt (Fin.ofNat 3 ((17 - i) % 3)) (Fin.ofNat 6 ((17 - i) / 3)) else 1

theorem item_eq (c : Dev nD) (i : ℕ) : item c i = (cell (payTo i c) (payCell i), payAmt i) := by
  unfold item payTo payCell payAmt; split <;> rfl

theorem payTo_payTo (i : ℕ) (d : Dev nD) : payTo i (payTo i d) = d := by
  unfold payTo; split
  · exact peer_peer _ _ _
  · exact nbr_nbr _ _

theorem owed_apply (d : Dev nD) (g : GSem nD τ sig) (n : ℕ) :
    owed d n g () = ∑ i ∈ Finset.range n, if g = cell (payTo i d) (payCell i) then payAmt i else 0 := by
  induction n with
  | zero => rfl
  | succ n ih =>
    unfold owed
    rw [Pi.add_apply, Finsupp.add_apply, ih, Finset.sum_range_succ, tallyAt_apply, item_eq]
    simp only [and_true]

/-- What arrives at a cell altogether. -/
def due (x : Cell) : ℕ := match x with | none => 3 | some (true, k, j) => amt k j | some (false, _, _) => 0

theorem due_eq (x : Cell) : (∑ i ∈ Finset.range 21, if x = payCell i then payAmt i else 0) = due x := by revert x; decide

theorem owed_sum (c : Dev nD) (x : Cell) : (∑ d : Dev nD, owed d 21 (cell c x) ()) = due x := by
  rw [← due_eq, Finset.sum_congr rfl fun d _ => owed_apply d (cell c x) 21, Finset.sum_comm]
  refine Finset.sum_congr rfl fun i _ => ?_
  have h (d : Dev nD) : (if cell c x = cell (payTo i d) (payCell i) then payAmt i else 0) = if d = payTo i c then (if x = payCell i then payAmt i else 0) else 0 := by
    by_cases hd : d = payTo i c
    · subst hd
      rw [if_pos rfl, payTo_payTo]
      by_cases hx : x = payCell i
      · rw [if_pos hx, if_pos (cell_eq_iff.mpr ⟨rfl, hx⟩)]
      · rw [if_neg hx, if_neg fun h => hx (cell_eq_iff.mp h).2]
    · rw [if_neg hd, if_neg fun h => hd (by rw [(cell_eq_iff.mp h).1, payTo_payTo])]
  rw [Finset.sum_congr rfl fun d _ => h d, Finset.sum_ite_eq' Finset.univ (payTo i c), if_pos (Finset.mem_univ _)]

theorem launch_at (c : Dev nD) (x : Cell) :
    tallyOn (cell c x) (launchCredit (Pipeline.owing fun d => owed d 21) 0 (cell c x)) = (tallyAt (cell c x) () (due x) : CellTallies nD τ sig Unit) := by
  unfold tallyAt; refine congrArg _ (Finsupp.ext fun u => ?_); cases u
  rw [Pipeline.launchCredit_owing, Finsupp.single_eq_same, owed_sum]

/-- Every device starts with the credit of its barrier and of its arrivals. -/
theorem creds (c : Dev nD) :
    (Pipeline.launchCred (fun d => owed d 21) c : sProp 𝕄)
      ⊢ iprop(cred (tallyAt (cell c none) () 3) ∗ bigSep Finset.univ fun x : Link => cred (tallyAt (cell c (some (true, x))) () (amt x.1 x.2))) := by
  have h : (Pipeline.launchCred (fun d => owed d 21) c : sProp 𝕄) ⊢ bigSep Finset.univ fun x : Cell => cred (tallyAt (cell c x) () (due x)) := by
    unfold Pipeline.launchCred
    refine (bigSep_subset (t := Finset.univ.map ⟨csem, csem_injective⟩) (Finset.subset_univ _)).trans ?_
    rw [bigSep_map]
    exact Entails.of_eq (bigSep_congr fun x _ => congrArg cred (launch_at c x))
  refine h.trans ?_
  rw [bigSep_cell, bigSep_side]
  iintro ⟨⟨-, H⟩, Hb⟩
  isplitl [Hb]; · iexact Hb
  iexact H

/-- The links as a device begins, out of its positions, duties and credit. -/
theorem links_begin (c : Dev nD) :
    iprop((bigSep Finset.univ fun x : Cell => atPos ER (cell c x) 0 ∅ 0) ∗ (bigSep Finset.univ fun d : Duty => tok (goes (c, d)))
        ∗ (bigSep Finset.univ fun x : Link => cred (tallyAt (cell c (some (true, x))) () (amt x.1 x.2))))
      ⊢ (iprop((bigSep Finset.univ fun x : Link => lk0 c x.1 x.2) ∗ (bigSep Finset.univ fun d : Fin 3 => barTok c d) ∗ atPos ER (cell c none) 0 ∅ 0) : sProp 𝕄) := by
  unfold lk0
  rw [bigSep_cell, bigSep_side, bigSep_duty (fun d : Duty => (tok (goes (c, d)) : sProp 𝕄)), bigSep_side, bigSep_sep', bigSep_sep', bigSep_sep', bigSep_sep']
  iintro ⟨⟨⟨HpS, HpR⟩, Hp⟩, Ht, Hc⟩
  icases Ht with ⟨Hb, Ht⟩
  icases Ht with ⟨HtS, HtR⟩
  isplitr [Hb Hp]
  · isplitl [HtS]; · iexact HtS
    isplitl [HtR]; · iexact HtR
    isplitl [HpS]; · iexact HpS
    isplitl [HpR]; · iexact HpR
    iexact Hc
  isplitl [Hb]; · iexact Hb
  iexact Hp

end Cert.Reduce
-- ==== Proof.Ends.lean ====
/-
  A device's ends: its buffers as the launch hands them over and as they are handed back, and the result it leaves.
-/
module

public import proofs.«01_k».proof.Proof.Compose
public import proofs.«01_k».proof.Proof.Ghost

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## Whole buffers -/

/-- A buffer whole, its contents unknown. -/
def raw {sp : Space} {s : Shape} {e : EltTy} (mA : Memref sig .tc sp s e) : sProp (MT nD τ sig Unit (Elt F) ℕ UU ℕ) :=
  iprop(∃ f : Buf (Elt F) (mA.view.loc (c : Thread nD τ)), (mA.view.loc (c : Thread nD τ)) ↦{fullShare} f)

theorem take_raw {sp : Space} {R C : ℕ} {e : EltTy} {mA : Memref sig .tc sp (Mat R C) e} (hw : mA.view.set = Finset.univ) (hR : 0 < R) (hC : 0 < C) :
    raw (F := F) c mA ⊢ iprop(∃ G, held (c : Thread nD τ) mA Finset.univ fullShare (fn G)) := by
  unfold raw
  iintro ⟨%f, H⟩
  iexists (nat hR hC (mA.view.read (Elt F) f))
  rw [fn_nat]
  iapply (held_intro f)
  rw [show mA.view.setOn Finset.univ = Finset.univ from hw]
  iexact H

theorem give_raw {sp : Space} {s : Shape} {e : EltTy} {mA : Memref sig .tc sp s e} (hw : mA.view.set = Finset.univ) {X : s.Idx → Elt F e} :
    (held (c : Thread nD τ) mA Finset.univ fullShare X : sProp 𝕄) ⊢ raw c mA := by
  unfold raw held
  rw [show mA.view.setOn Finset.univ = Finset.univ from hw]
  iintro ⟨%f, -, H⟩
  iexists f
  iexact H

/-- The buffers of a stream. -/
def stream (k : Fin 3) : sProp (MT nD τ sig Unit (Elt F) ℕ UU ℕ) :=
  iprop(raw c (lane k).p ∗ raw c (lane k).ag ∗ (raw c (lane k).s0 ∗ raw c (lane k).s1 ∗ raw c (lane k).s2) ∗ (raw c (lane k).r0 ∗ raw c (lane k).r1 ∗ raw c (lane k).r2))

/-- The buffers of the kernel: those of the hidden layer and those of the streams. -/
def bufs : sProp (MT nD τ sig Unit (Elt F) ℕ UU ℕ) :=
  iprop((raw c xBuf ∗ raw c x16Buf ∗ raw c w1Buf ∗ raw c w2Buf ∗ raw c hBuf) ∗ tri (stream c))

/-- The same, in the order they are declared in. -/
theorem scoped_list : (Pipeline.scopedRest (Ix := Unit) (Name := ℕ) (U := UU) (Lvl := ℕ) (Val := Elt F) cfg0.spec c : sProp 𝕄)
    = iprop(raw c xBuf ∗ raw c x16Buf ∗ raw c w1Buf ∗ raw c w2Buf ∗ raw c hBuf ∗ raw c (lane 0).p ∗ raw c (lane 1).p ∗ raw c (lane 2).p
        ∗ raw c (lane 0).ag ∗ raw c (lane 1).ag ∗ raw c (lane 2).ag ∗ raw c (lane 0).s0 ∗ raw c (lane 0).s1 ∗ raw c (lane 0).s2
        ∗ raw c (lane 1).s0 ∗ raw c (lane 1).s1 ∗ raw c (lane 1).s2 ∗ raw c (lane 2).s0 ∗ raw c (lane 2).s1 ∗ raw c (lane 2).s2
        ∗ raw c (lane 0).r0 ∗ raw c (lane 0).r1 ∗ raw c (lane 0).r2 ∗ raw c (lane 1).r0 ∗ raw c (lane 1).r1 ∗ raw c (lane 1).r2
        ∗ raw c (lane 2).r0 ∗ raw c (lane 2).r1 ∗ raw c (lane 2).r2) := scopedRest0_eq c

theorem scoped_bufs : (Pipeline.scopedRest (Ix := Unit) (Name := ℕ) (U := UU) (Lvl := ℕ) (Val := Elt F) cfg0.spec c : sProp 𝕄) ⊢ bufs c := by
  rw [scoped_list]
  unfold bufs tri stream
  iintro ⟨Hx, Hy, Hu, Hv, Hh, P0, P1, P2, A0, A1, A2, S00, S01, S02, S10, S11, S12, S20, S21, S22, R00, R01, R02, R10, R11, R12, R20, R21, R22⟩
  iframe Hx Hy Hu Hv Hh P0 A0 S00 S01 S02 R00 R01 R02 P1 A1 S10 S11 S12 R10 R11 R12 P2 A2 S20 S21 S22 R20 R21 R22

theorem bufs_scoped : bufs c ⊢ (Pipeline.scopedRest (Ix := Unit) (Name := ℕ) (U := UU) (Lvl := ℕ) (Val := Elt F) cfg0.spec c : sProp 𝕄) := by
  rw [scoped_list]
  unfold bufs tri stream
  iintro ⟨⟨Hx, Hy, Hu, Hv, Hh⟩, ⟨P0, A0, ⟨S00, S01, S02⟩, ⟨R00, R01, R02⟩⟩, ⟨P1, A1, ⟨S10, S11, S12⟩, ⟨R10, R11, R12⟩⟩, ⟨P2, A2, ⟨S20, S21, S22⟩, ⟨R20, R21, R22⟩⟩⟩
  iframe Hx Hy Hu Hv Hh P0 P1 P2 A0 A1 A2 S00 S01 S02 S10 S11 S12 S20 S21 S22 R00 R01 R02 R10 R11 R12 R20 R21 R22

/-! ## A stream, coming in and going out -/

theorem lane_pos (k : Fin 3) : 0 < (lane k).w := by revert k; decide

/-- Each buffer of a stream is all of a memory. -/
structure Whole (l : Lane) : Prop where
  p : l.p.view.set = Finset.univ
  ag : l.ag.view.set = Finset.univ
  s0 : l.s0.view.set = Finset.univ
  s1 : l.s1.view.set = Finset.univ
  s2 : l.s2.view.set = Finset.univ
  r0 : l.r0.view.set = Finset.univ
  r1 : l.r1.view.set = Finset.univ
  r2 : l.r2.view.set = Finset.univ

theorem lane_whole (k : Fin 3) : Whole (lane k) := by
  match k with
  | 0 => exact ⟨View.set_whole _, View.set_whole _, View.set_whole _, View.set_whole _, View.set_whole _, View.set_whole _, View.set_whole _, View.set_whole _⟩
  | 1 => exact ⟨View.set_whole _, View.set_whole _, View.set_whole _, View.set_whole _, View.set_whole _, View.set_whole _, View.set_whole _, View.set_whole _⟩
  | 2 => exact ⟨View.set_whole _, View.set_whole _, View.set_whole _, View.set_whole _, View.set_whole _, View.set_whole _, View.set_whole _, View.set_whole _⟩

theorem lot_intro (k : Fin 3) :
    iprop(stream c k ∗ (∃ G, outp k c 0 1024 G) ∗ (semVal ((c : Thread nD τ), .dma (drainS k 0)) 0 ∗ semVal ((c : Thread nD τ), .dma (drainS k 1)) 0 ∗ semVal ((c : Thread nD τ), .dma (drainS k 2)) 0 ∗ semVal ((c : Thread nD τ), .dma (drainS k 3)) 0)
        ∗ (lk0 c k 0 ∗ lk0 c k 1 ∗ lk0 c k 2 ∗ lk0 c k 3 ∗ lk0 c k 4 ∗ lk0 c k 5)) ⊢ lot (F := F) c k := by
  have hw := lane_whole k
  have h0 := lane_pos k
  unfold stream lot part rows
  rw [box_univ]
  iintro ⟨⟨HP, HA, ⟨S0, S1, S2⟩, ⟨R0, R1, R2⟩⟩, HZ, Hs, Hk⟩
  ihave HP := (take_raw c hw.p (by decide) h0) $$ HP
  ihave HA := (take_raw c hw.ag (by decide) h0) $$ HA
  ihave S0 := (take_raw c hw.s0 (by decide) h0) $$ S0
  ihave S1 := (take_raw c hw.s1 (by decide) h0) $$ S1
  ihave S2 := (take_raw c hw.s2 (by decide) h0) $$ S2
  ihave R0 := (take_raw c hw.r0 (by decide) h0) $$ R0
  ihave R1 := (take_raw c hw.r1 (by decide) h0) $$ R1
  ihave R2 := (take_raw c hw.r2 (by decide) h0) $$ R2
  unfold outgoing landing
  dsimp only
  iframe HP HA HZ S0 S1 S2 R0 R1 R2 Hs Hk

/-- The result in stream `k`'s columns on device `c`: the rows it summed as summed, the others as gathered. -/
def mix (k : Fin 3) : ℕ → ℕ → F .f32 := fun a b =>
  if base k 3 c ≤ a ∧ a < base k 3 c + 128 then total m k c a b else spread m k a b

theorem mix_kept {k : Fin 3} {a : ℕ} (h : base k 3 c ≤ a ∧ a < base k 3 c + 128) (b : ℕ) : total m k c a b = mix m c k a b := by
  unfold mix; rw [if_pos h]

theorem mix_given {k : Fin 3} (r : Fin 3) {a n : ℕ} (hn : n = len r) (h : give k r c ≤ a ∧ a < give k r c + n) (b : ℕ) : spread m k a b = mix m c k a b := by
  subst hn
  unfold mix; rw [if_neg]
  have h1 : ∀ (k r : Fin 3) (c : Dev nD), base k 3 c + 128 ≤ give k r c ∨ give k r c + len r ≤ base k 3 c := by decide
  have := h1 k r c; omega

/-- All of a stream at the end. -/
theorem final_out (k : Fin 3) :
    final m c k ⊢ iprop(outp k c 0 1024 (mix m c k) ∗ raw c (lane k).p ∗ raw c (lane k).ag
      ∗ (semVal ((c : Thread nD τ), .dma (drainS k 0)) 0 ∗ semVal ((c : Thread nD τ), .dma (drainS k 1)) 0 ∗ semVal ((c : Thread nD τ), .dma (drainS k 2)) 0 ∗ semVal ((c : Thread nD τ), .dma (drainS k 3)) 0)
      ∗ lk3 c k 5) := by
  have hw := lane_whole k
  have hZ {sp : Space} {w : ℕ} {mA : Memref sig .tc sp (Mat 1024 w) .f32} {p q s : ℕ} :
      iprop(held (c : Thread nD τ) mA (box (base k 3 c) 128 p q) fullShare (fn fun a b => total m k c a (b - s)) ∗ held (c : Thread nD τ) mA (box (give k 2 c) 128 p q) fullShare (fn fun a b => spread m k a (b - s))
          ∗ held (c : Thread nD τ) mA (box (give k 1 c) 256 p q) fullShare (fn fun a b => spread m k a (b - s)) ∗ held (c : Thread nD τ) mA (box (give k 0 c) 512 p q) fullShare (fn fun a b => spread m k a (b - s)))
        ⊢ (held (c : Thread nD τ) mA (box 0 1024 p q) fullShare (fn fun a b => mix m c k a (b - s)) : sProp 𝕄) := by
    iintro ⟨H3, H2, H1, H0⟩
    iapply (held_rounds_join c k)
    isplitl [H3]; · iapply (held_congr fun i hi => mix_kept m c (mem_box.mp hi).1 _); iexact H3
    isplitl [H2]; · iapply (held_congr fun i hi => mix_given m c 2 (n := 128) rfl (mem_box.mp hi).1 _); iexact H2
    isplitl [H1]; · iapply (held_congr fun i hi => mix_given m c 1 (n := 256) rfl (mem_box.mp hi).1 _); iexact H1
    iapply (held_congr fun i hi => mix_given m c 0 (n := 512) rfl (mem_box.mp hi).1 _); iexact H0
  unfold final moved outp part rows
  iintro ⟨⟨⟨Z0, P0⟩, D0⟩, ⟨⟨Z1, P1⟩, D1⟩, ⟨⟨Z2, P2⟩, D2⟩, ⟨⟨Z3, P3⟩, D3⟩, HA, Hk⟩
  isplitl [Z0 Z1 Z2 Z3]
  · iapply hZ
    iframe Z0 Z1 Z2 Z3
  isplitl [P0 P1 P2 P3]
  · iapply (give_raw c hw.p (X := fn fun a b => mix m c k a (b - 0)))
    rw [← box_univ]
    iapply hZ
    isplitl [P0]; · iexact P0
    isplitl [P1]; · iexact P1
    isplitl [P2]; · iexact P2
    iexact P3
  isplitl [HA]
  · iapply (give_raw c hw.ag (X := fn (gath m k)))
    rw [← box_univ]
    iexact HA
  iframe D0 D1 D2 D3 Hk

theorem out_raw (k r : Fin 3) {G : ℕ → ℕ → Elt F .bf16} : outgoing k r c G ⊢ (match r with | 0 => raw c (lane k).s0 | 1 => raw c (lane k).s1 | 2 => raw c (lane k).s2) := by
  have hw := lane_whole k
  match r with
  | 0 => exact give_raw c hw.s0
  | 1 => exact give_raw c hw.s1
  | 2 => exact give_raw c hw.s2

theorem land_raw (k r : Fin 3) {G : ℕ → ℕ → Elt F .bf16} : landing k r c G ⊢ (match r with | 0 => raw c (lane k).r0 | 1 => raw c (lane k).r1 | 2 => raw c (lane k).r2) := by
  have hw := lane_whole k
  match r with
  | 0 => exact give_raw c hw.r0
  | 1 => exact give_raw c hw.r1
  | 2 => exact give_raw c hw.r2

/-- A stream's buffers handed back. -/
theorem stream_back (k : Fin 3) :
    iprop((raw c (lane k).p ∗ raw c (lane k).ag) ∗ (sent m c k 0 ∗ sent m c k 1 ∗ sent m c k 2) ∗ (got m c k 0 ∗ got m c k 1 ∗ got m c k 2)) ⊢ stream c k := by
  unfold stream sent got
  iintro ⟨⟨HP, HA⟩, ⟨S0, S1, S2⟩, ⟨R0, R1, R2⟩⟩
  ihave S0 := (out_raw c k 0) $$ S0
  ihave S1 := (out_raw c k 1) $$ S1
  ihave S2 := (out_raw c k 2) $$ S2
  ihave R0 := (land_raw c k 0) $$ R0
  ihave R1 := (land_raw c k 1) $$ R1
  ihave R2 := (land_raw c k 2) $$ R2
  iframe HP HA S0 S1 S2 R0 R1 R2

/-! ## The result -/

/-- What device `c` leaves as the result. -/
def outAt : ℕ → ℕ → F .f32 := fun a b =>
  if b < 384 then mix m c 0 a (b - 0) else if b < 768 then mix m c 1 a (b - 384) else mix m c 2 a (b - 768)

theorem out_take : raw (F := F) c outM ⊢ tri (fun k => iprop(∃ G, outp k c 0 1024 G)) := by
  iintro H
  ihave H := (take_raw c (View.set_whole _) (by decide) (by decide)) $$ H
  icases H with ⟨%Z, H⟩
  ihave H := (Entails.of_eq (congrArg (fun S => (held (c : Thread nD τ) outM S fullShare (fn Z) : sProp 𝕄)) box_univ.symm)) $$ H
  ihave H := (held_cols c (q₁ := 384) 640 (p' := 384) rfl rfl) $$ H
  icases H with ⟨H0, H⟩
  ihave H := (held_cols c (q₁ := 384) 256 (p' := 768) rfl rfl) $$ H
  icases H with ⟨H1, H2⟩
  have h (k : Fin 3) : (held (c : Thread nD τ) outM (box 0 1024 (col k) (wid k)) fullShare (fn Z) : sProp 𝕄) ⊢ iprop(∃ G, outp k c 0 1024 G) := by
    unfold outp
    iintro H
    iexists (fun a b => Z a (b + col k))
    iapply (held_congr (X := fn Z) fun i hi => by rw [fn_apply, fn_apply]; show Z _ _ = Z _ ((i 1 : ℕ) - col k + col k); rw [Nat.sub_add_cancel (mem_box.mp hi).2.1])
    iexact H
  unfold tri
  isplitl [H0]; · iapply (h 0); iexact H0
  isplitl [H1]; · iapply (h 1); iexact H1
  iapply (h 2); iexact H2

theorem out_give : tri (fun k => outp k c 0 1024 (mix m c k))
    ⊢ ((((c : Thread nD τ).loc main_v1) ↦{fullShare} (fn (outAt m c) : Buf (Elt F) ((c : Thread nD τ).loc main_v1))) : sProp 𝕄) := by
  have h (k : Fin 3) : outp k c 0 1024 (mix m c k) ⊢ (held (c : Thread nD τ) outM (box 0 1024 (col k) (wid k)) fullShare (fn (outAt m c)) : sProp 𝕄) := by
    unfold outp
    refine held_congr fun i hi => ?_
    have hb := (mem_box.mp hi).2
    rw [fn_apply, fn_apply]; unfold outAt
    match k with
    | 0 => rw [if_pos (show (i 1 : ℕ) < 384 from by unfold col wid at hb; dsimp only at hb; omega)]; rfl
    | 1 => rw [if_neg (show ¬ (i 1 : ℕ) < 384 from by unfold col wid at hb; dsimp only at hb; omega), if_pos (show (i 1 : ℕ) < 768 from by unfold col wid at hb; dsimp only at hb; omega)]; rfl
    | 2 => rw [if_neg (show ¬ (i 1 : ℕ) < 384 from by unfold col wid at hb; dsimp only at hb; omega), if_neg (show ¬ (i 1 : ℕ) < 768 from by unfold col wid at hb; dsimp only at hb; omega)]; rfl
  have hall : (held (c : Thread nD τ) outM Finset.univ fullShare (fn (outAt m c)) : sProp 𝕄)
      ⊢ ((((c : Thread nD τ).loc main_v1) ↦{fullShare} (fn (outAt m c) : Buf (Elt F) ((c : Thread nD τ).loc main_v1))) : sProp 𝕄) := by
    have hs : (outM.view.setOn Finset.univ : Finset _) = Finset.univ := View.set_whole _
    unfold held
    rw [hs]
    iintro ⟨%f, %hf, H⟩
    have hf' : f = fn (outAt m c) := funext fun i => hf i (Finset.mem_univ i)
    subst hf'
    iexact H
  unfold tri
  iintro ⟨H0, H1, H2⟩
  ihave H0 := (h 0) $$ H0
  ihave H1 := (h 1) $$ H1
  ihave H2 := (h 2) $$ H2
  iapply hall
  rw [← box_univ]
  iapply (held_cols_join c (q₁ := 384) (q₂ := 640) (p' := 384) rfl rfl)
  isplitl [H0]; · iexact H0
  iapply (held_cols_join c (q₁ := 384) (q₂ := 256) (p' := 768) rfl rfl)
  isplitl [H1]; · iexact H1
  iexact H2

/-! ## The arguments -/

theorem arg_take {R C : ℕ} {mA : Memref sig .tc .hbm (Mat R C) .f32} (hw : mA.view.set = Finset.univ) {X : (Mat R C).Idx → F .f32}
    (f : Buf (Elt F) (mA.view.loc (c : Thread nD τ))) (hf : mA.view.read (Elt F) f = X) :
    ((mA.view.loc (c : Thread nD τ)) ↦{fullShare} f : sProp 𝕄) ⊢ held (c : Thread nD τ) mA Finset.univ fullShare X := by
  subst hf
  have h := held_intro (U := UU) (c := (c : Thread nD τ)) (m := mA) (S := Finset.univ) (q := fullShare) f
  rw [show mA.view.setOn Finset.univ = Finset.univ from hw] at h
  exact h

end Cert.Reduce
-- ==== Proof.Run.lean ====
/-
  The kernel's run on all eight devices: it comes to an end, its arguments and semaphores are as they were, and the result is
  the one `outAt` states.
-/
module

public import proofs.«01_k».proof.Proof.Ends
public import Idealize.ShloMosaic.Lib.Pipeline.CollectiveSegs

@[expose] public section

set_option maxRecDepth 10000

noncomputable section

namespace Cert.Reduce

open Cert.KernelIdeal Cert.KernelIdeal.Gen
open Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Families of semaphores -/

theorem bigSep_three (P : Fin 3 → sProp (MT nD τ sig Unit (Elt F) ℕ UU ℕ)) : bigSep Finset.univ P = tri P :=
  bigSep_univ_eq_bigSepL [0, 1, 2] (by decide) (by decide) P

theorem bigSep_four (P : Fin 4 → sProp (MT nD τ sig Unit (Elt F) ℕ UU ℕ)) : bigSep Finset.univ P = iprop(P 0 ∗ P 1 ∗ P 2 ∗ P 3) :=
  bigSep_univ_eq_bigSepL [0, 1, 2, 3] (by decide) (by decide) P

theorem bigSep_six (P : Fin 6 → sProp (MT nD τ sig Unit (Elt F) ℕ UU ℕ)) : bigSep Finset.univ P = iprop(P 0 ∗ P 1 ∗ P 2 ∗ P 3 ∗ P 4 ∗ P 5) :=
  bigSep_univ_eq_bigSepL [0, 1, 2, 3, 4, 5] (by decide) (by decide) P

theorem bigSep_links (P : Fin 3 → Fin 6 → sProp (MT nD τ sig Unit (Elt F) ℕ UU ℕ)) :
    (bigSep Finset.univ fun x : Link => P x.1 x.2) = tri (fun k => iprop(P k 0 ∗ P k 1 ∗ P k 2 ∗ P k 3 ∗ P k 4 ∗ P k 5)) := by
  rw [bigSep_univ_prod, bigSep_three]
  exact congrArg tri (funext fun k => bigSep_six (P k))

theorem bigSep_drains (P : Fin 3 → Fin 4 → sProp (MT nD τ sig Unit (Elt F) ℕ UU ℕ)) :
    (bigSep Finset.univ fun x : Fin 3 × Fin 4 => P x.1 x.2) = tri (fun k => iprop(P k 0 ∗ P k 1 ∗ P k 2 ∗ P k 3)) := by
  rw [bigSep_univ_prod, bigSep_three]
  exact congrArg tri (funext fun k => bigSep_four (P k))

theorem loose_eq : (loose c : sProp 𝕄) = iprop((semVal ((c : Thread nD τ), .dma (inS 0)) 0 ∗ semVal ((c : Thread nD τ), .dma (inS 1)) 0 ∗ semVal ((c : Thread nD τ), .dma (inS 2)) 0
      ∗ semVal ((c : Thread nD τ), .dma (inS 3)) 0 ∗ semVal ((c : Thread nD τ), .dma (inS 4)) 0 ∗ semVal ((c : Thread nD τ), .dma (inS 5)) 0)
    ∗ tri (fun k => iprop(semVal ((c : Thread nD τ), .dma (drainS k 0)) 0 ∗ semVal ((c : Thread nD τ), .dma (drainS k 1)) 0 ∗ semVal ((c : Thread nD τ), .dma (drainS k 2)) 0 ∗ semVal ((c : Thread nD τ), .dma (drainS k 3)) 0))) := by
  unfold loose
  rw [bigSep_six, bigSep_drains (fun k t => semVal ((c : Thread nD τ), .dma (drainS k t)) 0)]

/-- The semaphores of the links, back at zero. -/
theorem links_end : tri (fun k => iprop(lk3 (F := F) c k 0 ∗ lk3 c k 1 ∗ lk3 c k 2 ∗ lk3 c k 3 ∗ lk3 c k 4 ∗ lk3 c k 5))
    ⊢ (bigSep Finset.univ fun x : Bool × Link => semVal (cell c (some x)) 0 : sProp 𝕄) := by
  rw [← bigSep_links (fun k j => lk3 c k j), bigSep_side]
  unfold lk3
  rw [bigSep_sep']

/-! ## Before and after -/

/-- The arguments as at the start, and the result at `X`. -/
def hbm (X : (Mat 1024 1024).Idx → F .f32) : sProp (MT nD τ sig Unit (Elt F) ℕ UU ℕ) :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_v1) ↦{fullShare} (X : Buf (Elt F) ((c : Thread nD τ).loc main_v1))))

/-- What a device starts with besides its buffers, -/
def start : sProp (MT nD τ sig Unit (Elt F) ℕ UU ℕ) :=
  iprop(begun m c ∗ (cred (tallyAt (cell c none) () 3) ∗ bigSep Finset.univ fun x : Link => cred (tallyAt (cell c (some (true, x))) () (amt x.1 x.2))) ∗ levAts L lv
    ∗ hbm m c (m ((c : Thread nD τ).loc main_v1)))

/-- and what it ends with. -/
def finish : sProp (MT nD τ sig Unit (Elt F) ℕ UU ℕ) := iprop(unscopedSems0 c ∗ hbm m c (fn (outAt m c)))

def Φ₀ : sProp (MT nD τ sig Unit (Elt F) ℕ UU ℕ) :=
  iprop(start m c ∗ Pipeline.scopedRest (Ix := Unit) (Name := ℕ) (U := UU) (Lvl := ℕ) (Val := Elt F) cfg0.spec c)
def Φ₁ : sProp (MT nD τ sig Unit (Elt F) ℕ UU ℕ) :=
  iprop(finish m c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) cfg0.spec c)

/-- A whole argument held is the argument's memory. -/
theorem arg_give {R C : ℕ} {mA : Memref sig .tc .hbm (Mat R C) .f32} (hw : mA.view.set = Finset.univ) {X : (Mat R C).Idx → F .f32}
    (f : Buf (Elt F) (mA.view.loc (c : Thread nD τ))) (hf : ∀ g : Buf (Elt F) (mA.view.loc (c : Thread nD τ)), (∀ i, mA.view.read (Elt F) g i = X i) → g = f) :
    (held (c : Thread nD τ) mA Finset.univ fullShare X : sProp 𝕄) ⊢ ((mA.view.loc (c : Thread nD τ)) ↦{fullShare} f) := by
  unfold held
  rw [show mA.view.setOn Finset.univ = Finset.univ from hw]
  iintro ⟨%g, %hg, H⟩
  rw [← hf g fun i => hg i (Finset.mem_univ i)]
  iexact H

theorem arg0_eq : ((((c : Thread nD τ).loc main_arg0) ↦{fullShare} m ((c : Thread nD τ).loc main_arg0) : sProp 𝕄) ⊢ arg0H m c) ∧ (arg0H m c ⊢ (((c : Thread nD τ).loc main_arg0) ↦{fullShare} m ((c : Thread nD τ).loc main_arg0))) :=
  ⟨arg_take c (mA := (Memref.whole main_arg0 : Memref sig .tc .hbm (Mat 1024 1024) .f32)) (View.set_whole _) (m _) (fn_nat _ _ _).symm,
    arg_give c (mA := (Memref.whole main_arg0 : Memref sig .tc .hbm (Mat 1024 1024) .f32)) (View.set_whole _) (m _) fun g hg => (funext hg : (g : (Mat 1024 1024).Idx → F .f32) = _).trans (fn_nat _ _ _)⟩

theorem arg1_eq : ((((c : Thread nD τ).loc main_arg1) ↦{fullShare} m ((c : Thread nD τ).loc main_arg1) : sProp 𝕄) ⊢ arg1H m c) ∧ (arg1H m c ⊢ (((c : Thread nD τ).loc main_arg1) ↦{fullShare} m ((c : Thread nD τ).loc main_arg1))) :=
  ⟨arg_take c (mA := (Memref.whole main_arg1 : Memref sig .tc .hbm (Mat 1024 2048) .f32)) (View.set_whole _) (m _) (fn_nat _ _ _).symm,
    arg_give c (mA := (Memref.whole main_arg1 : Memref sig .tc .hbm (Mat 1024 2048) .f32)) (View.set_whole _) (m _) fun g hg => (funext hg : (g : (Mat 1024 2048).Idx → F .f32) = _).trans (fn_nat _ _ _)⟩

theorem arg2_eq : ((((c : Thread nD τ).loc main_arg2) ↦{fullShare} m ((c : Thread nD τ).loc main_arg2) : sProp 𝕄) ⊢ arg2H m c) ∧ (arg2H m c ⊢ (((c : Thread nD τ).loc main_arg2) ↦{fullShare} m ((c : Thread nD τ).loc main_arg2))) :=
  ⟨arg_take c (mA := (Memref.whole main_arg2 : Memref sig .tc .hbm (Mat 2048 1024) .f32)) (View.set_whole _) (m _) (fn_nat _ _ _).symm,
    arg_give c (mA := (Memref.whole main_arg2 : Memref sig .tc .hbm (Mat 2048 1024) .f32)) (View.set_whole _) (m _) fun g hg => (funext hg : (g : (Mat 2048 1024).Idx → F .f32) = _).trans (fn_nat _ _ _)⟩

theorem args_take : hbm m c (m ((c : Thread nD τ).loc main_v1)) ⊢ iprop(arg0H m c ∗ arg1H m c ∗ arg2H m c ∗ raw c outM) := by
  unfold hbm raw
  iintro ⟨H0, H1, H2, H3⟩
  ihave H0 := (arg0_eq m c).1 $$ H0
  ihave H1 := (arg1_eq m c).1 $$ H1
  ihave H2 := (arg2_eq m c).1 $$ H2
  iframe H0 H1 H2
  iexists _; iexact H3

theorem args_give : iprop(arg0H m c ∗ arg1H m c ∗ arg2H m c ∗ tri (fun k => outp k c 0 1024 (mix m c k))) ⊢ hbm m c (fn (outAt m c)) := by
  unfold hbm
  iintro ⟨H0, H1, H2, H3⟩
  ihave H0 := (arg0_eq m c).2 $$ H0
  ihave H1 := (arg1_eq m c).2 $$ H1
  ihave H2 := (arg2_eq m c).2 $$ H2
  iframe H0 H1 H2
  iapply (out_give m c); iexact H3

/-- What the launch hands a device is what its run begins from. -/
theorem enter : iprop(Φ₀ m c ∗ owesN c 21) ⊢ iprop(∃ K, at1 m K c ∗ mine c) := by
  unfold Φ₀ start begun keeps
  rw [loose_eq]
  iintro ⟨⟨⟨⟨%K, #Hk, Hat, Htok, ⟨Hi0, Hi1, Hi2, Hi3, Hi4, Hi5⟩, Hd⟩, ⟨Hcb, Hcr⟩, #Hlev, Hm⟩, Hs⟩, HO⟩
  iexists K
  ihave Hl := (links_begin c) $$ [Hat Htok Hcr]
  · iframe Hat Htok Hcr
  icases Hl with ⟨Hl, Hb, Hp⟩
  ihave Hl := (Entails.of_eq (bigSep_links (fun k j => lk0 (F := F) c k j))) $$ Hl
  ihave Hb := (Entails.of_eq (bigSep_three (fun d => barTok (F := F) c d))) $$ Hb
  ihave Hm := (args_take m c) $$ Hm
  icases Hm with ⟨H0, H1, H2, H3⟩
  ihave H3 := (out_take c) $$ H3
  ihave Hs := (scoped_bufs c) $$ Hs
  unfold bufs tri
  icases Hs with ⟨⟨Bx, By, Bu, Bv, Bh⟩, ⟨S0, S1, S2⟩⟩
  icases H3 with ⟨Z0, Z1, Z2⟩
  icases Hd with ⟨D0, D1, D2⟩
  icases Hl with ⟨L0, L1, L2⟩
  icases Hb with ⟨T0, T1, T2⟩
  ihave Q0 := (lot_intro c 0) $$ [S0 Z0 D0 L0]
  · iframe S0 Z0 D0 L0
  ihave Q1 := (lot_intro c 1) $$ [S1 Z1 D1 L1]
  · iframe S1 Z1 D1 L1
  ihave Q2 := (lot_intro c 2) $$ [S2 Z2 D2 L2]
  · iframe S2 Z2 D2 L2
  ihave HQ := (lots_cut c) $$ [Q0 Q1 Q2]
  · unfold tri; iframe Q0 Q1 Q2
  icases HQ with ⟨⟨G0, G1, G2⟩, HM⟩
  ihave Bx := (take_raw c (View.set_whole _) (by decide) (by decide)) $$ Bx
  ihave By := (take_raw c (View.set_whole _) (by decide) (by decide)) $$ By
  ihave Bu := (take_raw c (View.set_whole _) (by decide) (by decide)) $$ Bu
  ihave Bv := (take_raw c (View.set_whole _) (by decide) (by decide)) $$ Bv
  ihave Bh := (take_raw c (View.set_whole _) (by decide) (by decide)) $$ Bh
  isplitr [HM]
  · unfold at1 ctx known bufH
    icases Hk with ⟨#HI, #HR⟩
    isplitr
    · isplitr; · iexact HI
      isplitr; · iexact HR
      iexact Hlev
    iframe HO H0 H1 H2 Bx By Bu Bv Bh Hi0 Hi1 Hi2 Hi3 Hi4 Hi5 T0 G0 T1 G1 T2 G2 Hcb Hp
  iexact HM

/-- What its run leaves is what it hands back. -/
theorem leave : over m c ⊢ iprop(Φ₁ m c ∗ owesN c 0) := by
  unfold over done1 done5 used8 used12 done17 tri
  iintro ⟨HO, ⟨F0, F1, F2⟩, ⟨H0, H1, Bx, By, Bu, I0, I1, I2, I3, I5, Hbar⟩, ⟨Bh, Bv, H2, I4, K00, K10, S00, S10⟩,
    ⟨K20, S20, ⟨R00, R10, R20⟩, ⟨K01, K11, K21⟩, ⟨S01, S11, S21⟩⟩, ⟨⟨R01, R11, R21⟩, ⟨K02, K12, K22⟩, ⟨S02, S12, S22⟩, ⟨R02, R12, R22⟩⟩, ⟨⟨K03, K13, K23⟩, ⟨K04, K14, K24⟩⟩⟩
  ihave F0 := (final_out m c 0) $$ F0
  ihave F1 := (final_out m c 1) $$ F1
  ihave F2 := (final_out m c 2) $$ F2
  icases F0 with ⟨Z0, P0, A0, D0, K05⟩
  icases F1 with ⟨Z1, P1, A1, D1, K15⟩
  icases F2 with ⟨Z2, P2, A2, D2, K25⟩
  unfold Φ₁ finish
  rw [ownSems0_eq, unscopedSems0_eq, loose_eq]
  isplitr [HO]
  · isplitl [Hbar H0 H1 H2 Z0 Z1 Z2]
    · isplitl [Hbar]; · iexact Hbar
      iapply (args_give m c)
      unfold tri
      iframe H0 H1 H2 Z0 Z1 Z2
    isplitl [K00 K01 K02 K03 K04 K05 K10 K11 K12 K13 K14 K15 K20 K21 K22 K23 K24 K25 I0 I1 I2 I3 I4 I5 D0 D1 D2]
    · isplitl [K00 K01 K02 K03 K04 K05 K10 K11 K12 K13 K14 K15 K20 K21 K22 K23 K24 K25]
      · iapply (links_end c)
        unfold tri
        iframe K00 K01 K02 K03 K04 K05 K10 K11 K12 K13 K14 K15 K20 K21 K22 K23 K24 K25
      unfold tri
      iframe I0 I1 I2 I3 I4 I5 D0 D1 D2
    iapply (bufs_scoped c)
    unfold bufs tri bufH w2H hidH
    isplitl [Bx By Bu Bv Bh]
    · isplitl [Bx]; · iapply (give_raw c (mA := xBuf) (View.set_whole _) (X := fn (xIn m c))); iexact Bx
      isplitl [By]; · iapply (give_raw c (mA := x16Buf) (View.set_whole _) (X := fn (xNarrow m c))); iexact By
      isplitl [Bu]; · iapply (give_raw c (mA := w1Buf) (View.set_whole _) (X := fn (w1In m c))); iexact Bu
      isplitl [Bv]; · iapply (give_raw c (mA := w2Buf) (View.set_whole _) (X := fn (w2In m c))); iexact Bv
      iapply (give_raw c (mA := hBuf) (View.set_whole _) (X := fn (hid m c))); iexact Bh
    isplitl [P0 A0 S00 S01 S02 R00 R01 R02]
    · iapply (stream_back m c 0); iframe P0 A0 S00 S01 S02 R00 R01 R02
    isplitl [P1 A1 S10 S11 S12 R10 R11 R12]
    · iapply (stream_back m c 1); iframe P1 A1 S10 S11 S12 R10 R11 R12
    iapply (stream_back m c 2); iframe P2 A2 S20 S21 S22 R20 R21 R22
  iexact HO

/-! ## The launch -/

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed c 21
    | ⟨_ + 1, _⟩ => 0

theorem body_obligation : Pipeline.BodyObligation (dats m 0 c) (defs₀ (F := F)) 𝒱₀ () Set.univ := fun t => by
  rw [fin_N0 t, Finset.univ_eq_empty, bigSep_empty, bigSep_empty]
  show iprop(Φ₀ m c ∗ (dats m 0 c).owesAt () t0_0.castSucc ∗ emp) ⊢ wp frame (wpE (defs₀ (F := F)) 𝒱₀ (c : Thread nD τ) none) Set.univ (bodyAt0 t0_0)
    (fun _ => iprop(Φ₁ m c ∗ (dats m 0 c).owesAt () t0_0.succ ∗ emp))
  rw [body_eq]
  unfold Pipeline.Dat.owesAt Pipeline.owesWithin
  iintro ⟨H, ⟨%W, -, HO⟩, -⟩
  ihave H := (enter m c) $$ [H HO]
  · isplitl [H]; · iexact H
    unfold owesN; iexists W; iexact HO
  icases H with ⟨%K, H⟩
  iapply (from1 m K c ?_) $$ H
  iintro H
  ihave H := (leave m c) $$ H
  icases H with ⟨H, HO⟩
  isplitl [H]; · iexact H
  isplitl [HO]
  · unfold owesN
    icases HO with ⟨%W', HO⟩
    iexists W'
    isplitr
    · ipureintro; exact fun _ _ => Or.inl trivial
    iexact HO
  iempintro

theorem waits : (levAts L lv : sProp 𝕄) ⊢ Pipeline.cellsWaits cfgs (dats m) () 0 c :=
  Pipeline.cellsWaits_intro cfgs (dats m) () 0 c fun w s t => w.elim0

/-- The final memory of a device. -/
def Final (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_v1) = fn (outAt m c)

theorem read_one {ℓ : Loc nD τ sig} {f : Buf (Elt F) ℓ} {s : Phys nD τ sig (Elt F)} :
    iprop((ℓ ↦{fullShare} f) ∗ SI s) ⊢ (iprop(⌜s.mem.mem ℓ = f⌝ ∗ SI s) : sProp 𝕄) := by
  iintro ⟨H, HSI⟩
  icombine HSI H gives %h
  isplitr
  · ipureintro; exact Buf.eq_of_forall_mem_univ h
  iexact HSI

theorem read_final (s : Phys nD τ sig (Elt F)) : iprop(hbm m c (fn (outAt m c)) ∗ SI s) ⊢ (iprop(⌜Final m c s.mem⌝ ∗ SI s) : sProp 𝕄) := by
  unfold hbm
  iintro ⟨⟨H0, H1, H2, H3⟩, HSI⟩
  ihave H := read_one $$ [H0 HSI]
  · iframe H0 HSI
  icases H with ⟨%h0, HSI⟩
  ihave H := read_one $$ [H1 HSI]
  · iframe H1 HSI
  icases H with ⟨%h1, HSI⟩
  ihave H := read_one $$ [H2 HSI]
  · iframe H2 HSI
  icases H with ⟨%h2, HSI⟩
  ihave H := read_one $$ [H3 HSI]
  · iframe H3 HSI
  icases H with ⟨%h3, HSI⟩
  isplitr
  · ipureintro; exact ⟨h0, h1, h2, h3⟩
  iexact HSI

set_option maxRecDepth 100000 in
/-- On the mesh of eight devices, for any float values, from any memory with every semaphore at zero: every weakly fair run of the
    kernel comes to an end, and then on every device the arguments are unchanged, the result is `outAt`, and every semaphore is at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun d => owed d 21) (howed₀ := fun _ => rfl) (howedN := fun _ => rfl)
    (L := L) (lv := lv) (hL := L_of_ne) (hwaits := waits m)
    (G := dealt m) (G' := begun m) (u₀ := u₀)
    (hu₀ := by
      unfold u₀
      iintro Hu
      ihave H := (own_split _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := finish m) (Z := fun _ => iprop(emp))
    (hX := fun c => by
      rw [Pipeline.unscopedRestP_none, unscopedRest0_eq]
      iintro ⟨Hm, Hlev, Hcr, -, HG⟩
      ihave Hc := (creds (F := F) c) $$ Hcr
      imodintro
      unfold start hbm
      isplitl
      · iframe HG Hc Hlev Hm
      · iempintro)
    (hin := fun c => by
      rw [show (dats m 0 c).Φ 0 = Φ₀ m c from rfl]
      unfold Φ₀
      iintro ⟨Hs, -, Hr⟩
      isplitl [Hs] <;> iassumption)
    (hout := fun c => .rfl)
    (QY := fun c s => Final m c s ∧ ∀ sm : SemLoc sig, sm.isScoped .tc = false → s.sem ((c.tc : Thread nD τ), sm) = 0)
    (hY := fun c s' => by
      unfold finish
      iintro ⟨⟨Hu, Hm⟩, -, HSI⟩
      ihave H := (read_final m c s') $$ [Hm HSI]
      · iframe Hm HSI
      icases H with ⟨%hm, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hm, hs⟩
      iexact HSI)
    (hQ := fun _ h hs => ⟨fun c => (h c).2.2.1, sem_eq_zero hs fun c => (h c).2.2.2⟩)

end Cert.Reduce
-- ==== Proof.Values.lean ====
/-
  The values at exact arithmetic: the hidden layer, the products with the second weight, and the sums over the devices, each
  read by row and column.
-/
module

public import proofs.«01_k».proof.Proof.Run
public import Idealize.ShloMosaic.Lib.MatmulPlain
public import Idealize.ShloMosaic.Lib.StackMember
public import Idealize.ShloMosaic.PureOps.Ideal.Laws

@[expose] public section

set_option maxRecDepth 10000

noncomputable section

namespace Cert.Reduce

open Cert.KernelIdeal Cert.KernelIdeal.Gen
open Cert.Held

open Idealize.ShloMosaic
open Idealize.ShloMosaic.TcCoe
open Idealize.ShloMosaic.ValueIdx

variable (m : (ℓ : Loc nD τ sig) → Buf (Elt Ideal) ℓ)

/-- A matrix read by row and column is the matrix at the index of the two. -/
theorem nat_at {R C : ℕ} {α : Type} (hR : 0 < R) (hC : 0 < C) (x : (Mat R C).Idx → α) (a b : ℕ) (ha : a < R) (hb : b < C) :
    nat hR hC x a b = x (ix2 ⟨a, ha⟩ ⟨b, hb⟩) := by
  unfold nat
  refine congrArg x (funext fun j => ?_)
  match j with
  | ⟨0, _⟩ => exact Fin.ext (Nat.mod_eq_of_lt ha)
  | ⟨1, _⟩ => exact Fin.ext (Nat.mod_eq_of_lt hb)

/-- A product into zeros, at an index: the sum of the products along the contracted axis. -/
theorem matmul_at {M K N : ℕ} (A : FVec Ideal (Mat M K) .bf16) (B : FVec Ideal (Mat K N) .bf16) (r : Fin M) (l : Fin N) :
    FloatOps.matmul (DotDims.plain M K N) none A B (constant (Mat M N) .f32 0x00000000#32) (ix2 r l) = ∑ t : Fin K, A (ix2 r t) * B (ix2 t l) := by
  rw [Ideal.matmul_plain_apply]
  show Ideal.ofBits .f32 0x00000000#32 + _ = _
  rw [Ideal.ofBits_zero_f32, zero_add]

theorem pay6_at (A : (Mat 512 2048).Idx → EReal) (B : (Mat 2048 384).Idx → EReal) (r : Fin 512) (l : Fin 384) :
    (k0_pay6 (F := Ideal) A B (ix2 r l) : EReal) = ∑ t : Fin 2048, A (ix2 r t) * B (ix2 t l) := by
  unfold k0_pay6; rw [shapeCast_self]; exact matmul_at A B r l

theorem pay8_at (A : (Mat 512 2048).Idx → EReal) (B : (Mat 2048 256).Idx → EReal) (r : Fin 512) (l : Fin 256) :
    (k0_pay8 (F := Ideal) A B (ix2 r l) : EReal) = ∑ t : Fin 2048, A (ix2 r t) * B (ix2 t l) := by
  unfold k0_pay8; rw [shapeCast_self]; exact matmul_at A B r l

theorem pay9_at (A : (Mat 512 2048).Idx → EReal) (B : (Mat 2048 384).Idx → EReal) (r : Fin 512) (l : Fin 384) :
    (k0_pay9 (F := Ideal) A B (ix2 r l) : EReal) = ∑ t : Fin 2048, A (ix2 r t) * B (ix2 t l) := by
  unfold k0_pay9; rw [shapeCast_self]; exact matmul_at A B r l

theorem pay12_at (A : (Mat 512 2048).Idx → EReal) (B : (Mat 2048 256).Idx → EReal) (r : Fin 512) (l : Fin 256) :
    (k0_pay12 (F := Ideal) A B (ix2 r l) : EReal) = ∑ t : Fin 2048, A (ix2 r t) * B (ix2 t l) := by
  unfold k0_pay12; rw [shapeCast_self]; exact matmul_at A B r l

theorem pay2_at (A : (Mat 1024 1024).Idx → EReal) (B : (Mat 1024 512).Idx → EReal) (r : Fin 1024) (l : Fin 512) :
    (k0_pay2 (F := Ideal) A B (ix2 r l) : EReal) = max (∑ s : Fin 1024, A (ix2 r s) * B (ix2 s l)) 0 := by
  unfold k0_pay2; rw [shapeCast_self]
  rw [← matmul_at A B r l, ← Ideal.ofBits_zero_f32]; rfl

/-- `x` narrowed is `x`. -/
theorem xNarrow_at (c : Dev nD) : (xNarrow m c : ℕ → ℕ → EReal) = xIn m c := by
  unfold xNarrow k0_pay1; extract_lets v42 v45; unfold v45; rw [shapeCast_self]; unfold v42; rw [win_zero]
  unfold xIn; rw [fn_nat]; rfl

/-- The hidden layer at row `a` and device `c`'s column `b`. -/
theorem hid_at (c : Dev nD) (a b : ℕ) (ha : a < 1024) :
    (hid m c a b : EReal) = max (∑ s : Fin 1024, (xIn m c a s * w1In m c s b : EReal)) 0 := by
  have hb : b % 512 < 512 := Nat.mod_lt _ (by decide)
  unfold hid hidChunk
  rw [nat_at _ _ _ _ _ ha hb]
  refine (pay2_at _ _ _ _).trans ?_
  refine congrArg (max · (0 : EReal)) (Finset.sum_congr rfl fun s _ => ?_)
  rw [win_zero, xNarrow_at]
  show (xIn m c a s * w1In m c (0 + s) (512 * (b / 512) + b % 512) : EReal) = _
  rw [Nat.zero_add, Nat.div_add_mod]

/-- Device `c`'s share of the result at row `a`, column `b`. -/
def share (c : Dev nD) (a b : ℕ) : EReal := ∑ t : Fin 2048, (hid m c a t * w2In m c t b : EReal)

/-- A block of a product is a block of the shares. -/
theorem nat_share {N : ℕ} (hN : 0 < N) (c : Dev nD) (o p a b : ℕ) (ho : o + a < 1024) (ha : a < 512) (hb : b < N)
    {x : (Mat 512 N).Idx → EReal}
    (hx : ∀ (r : Fin 512) (l : Fin N), x (ix2 r l) = ∑ t : Fin 2048, (hid m c (o + r) (0 + t) * w2In m c (0 + t) (p + l) : EReal)) :
    nat (R := 512) (C := N) (by decide) hN x a b = share m c (o + a) (p + b) := by
  rw [nat_at _ _ _ _ _ ha hb, hx]
  unfold share
  exact Finset.sum_congr rfl fun t _ => by rw [Nat.zero_add]

theorem prod16_at (k : Fin 3) (c : Dev nD) (o a b : ℕ) (ho : o + a < 1024) (ha : a < 512) (hb : b < wid k) :
    (prod16 m k c o a b : EReal) = share m c (o + a) (col k + b) := by
  match k, hb with
  | 0, hb => exact nat_share m (by decide) c o 0 a b ho ha hb (pay6_at (fn (win o 0 (hid m c))) (fn (win 0 0 (w2In m c))))
  | 1, hb => exact nat_share m (by decide) c o 384 a b ho ha hb (pay6_at (fn (win o 0 (hid m c))) (fn (win 0 384 (w2In m c))))
  | 2, hb => exact nat_share m (by decide) c o 768 a b ho ha hb (pay8_at (fn (win o 0 (hid m c))) (fn (win 0 768 (w2In m c))))

theorem prod32_at (k : Fin 3) (c : Dev nD) (o a b : ℕ) (ho : o + a < 1024) (ha : a < 512) (hb : b < wid k) :
    (prod32 m k c o a b : EReal) = share m c (o + a) (col k + b) := by
  match k, hb with
  | 0, hb => exact nat_share m (by decide) c o 0 a b ho ha hb (pay9_at (fn (win o 0 (hid m c))) (fn (win 0 0 (w2In m c))))
  | 1, hb => exact nat_share m (by decide) c o 384 a b ho ha hb (pay9_at (fn (win o 0 (hid m c))) (fn (win 0 384 (w2In m c))))
  | 2, hb => exact nat_share m (by decide) c o 768 a b ho ha hb (pay12_at (fn (win o 0 (hid m c))) (fn (win 0 768 (w2In m c))))

/-! ## The sums over the devices -/

theorem narrow_ideal (x : EReal) : (narrow (F := Ideal) x : EReal) = x := rfl
theorem widen_ideal (x : EReal) : (widen (F := Ideal) x : EReal) = x := rfl

/-- After the first round: two devices' shares, -/
theorem sum1_at (k : Fin 3) (c : Dev nD) (a b : ℕ) (hl : base k 1 c ≤ a) (hh : a < base k 1 c + 512) (ha : a < 1024) (hb : b < wid k) :
    (sum1 m k c a b : EReal) = share m c a (col k + b) + share m (prt k 0 c) a (col k + b) := by
  have hg : give k 0 (prt k 0 c) = base k 1 c := give_prt k 0 c
  have e : base k 1 c + (a - base k 1 c) = a := by omega
  have h1 := prod32_at m k c (base k 1 c) (a - base k 1 c) b (by omega) (by omega) hb
  have h2 := prod16_at m k (prt k 0 c) (base k 1 c) (a - base k 1 c) b (by omega) (by omega) hb
  rw [e] at h1 h2
  show (kept0 m k c a b + snd0 m k (prt k 0 c) a b : EReal) = _
  unfold kept0 snd0
  rw [hg, h1, h2]

/-- The rows a device sums after a round are those its partner in a later round sums. -/
theorem base_partner (k : Fin 3) (c : Dev nD) :
    base k 1 (prt k 1 c) = base k 1 c ∧ base k 2 (prt k 2 c) = base k 2 c ∧ base k 1 (prt k 2 c) = base k 1 c ∧ base k 1 (prt k 1 (prt k 2 c)) = base k 1 c
      ∧ base k 1 c ≤ base k 3 c ∧ base k 3 c + 128 ≤ base k 1 c + 512 ∧ base k 3 c + 128 ≤ 1024 := by
  revert k c; decide

/-- The eight devices reached from one through the three rounds are all of them, each once. -/
theorem eight (k : Fin 3) (c : Dev nD) (f : Dev nD → EReal) :
    f c + f (prt k 0 c) + (f (prt k 1 c) + f (prt k 0 (prt k 1 c)))
      + (f (prt k 2 c) + f (prt k 0 (prt k 2 c)) + (f (prt k 1 (prt k 2 c)) + f (prt k 0 (prt k 1 (prt k 2 c))))) = ∑ d : Dev nD, f d := by
  have h : ∀ (k : Fin 3) (c : Dev nD), ([c, prt k 0 c, prt k 1 c, prt k 0 (prt k 1 c), prt k 2 c, prt k 0 (prt k 2 c), prt k 1 (prt k 2 c), prt k 0 (prt k 1 (prt k 2 c))] : List (Dev nD)).Nodup
      ∧ (Finset.univ : Finset (Dev nD)) = [c, prt k 0 c, prt k 1 c, prt k 0 (prt k 1 c), prt k 2 c, prt k 0 (prt k 2 c), prt k 1 (prt k 2 c), prt k 0 (prt k 1 (prt k 2 c))].toFinset := by decide
  rw [(h k c).2, List.sum_toFinset f (h k c).1]
  simp only [List.map_cons, List.map_nil, List.sum_cons, List.sum_nil, add_zero]
  ac_rfl

/-- after the third: every device's share. -/
theorem total_at (k : Fin 3) (c : Dev nD) (a b : ℕ) (hl : base k 3 c ≤ a) (hh : a < base k 3 c + 128) (hb : b < wid k) :
    (total m k c a b : EReal) = ∑ d : Dev nD, share m d a (col k + b) := by
  obtain ⟨h1, h2, h3, h4, h5, h6, h7⟩ := base_partner k c
  rw [← eight k c fun d => share m d a (col k + b)]
  show (sum1 m k c a b + sum1 m k (prt k 1 c) a b + (sum1 m k (prt k 2 c) a b + sum1 m k (prt k 1 (prt k 2 c)) a b) : EReal) = _
  rw [sum1_at m k c a b (by omega) (by omega) (by omega) hb, sum1_at m k (prt k 1 c) a b (by omega) (by omega) (by omega) hb,
    sum1_at m k (prt k 2 c) a b (by omega) (by omega) (by omega) hb, sum1_at m k (prt k 1 (prt k 2 c)) a b (by omega) (by omega) (by omega) hb]

/-- Each row is among those its owner sums. -/
theorem owner_rows (k : Fin 3) (a : ℕ) (ha : a < 1024) : base k 3 (owner k a) ≤ a ∧ a < base k 3 (owner k a) + 128 := by
  have h : ∀ (k : Fin 3) (q : Fin 8), base k 3 (owner k (128 * q)) = 128 * q := by decide
  have e : owner k a = owner k (128 * (a / 128)) := by
    unfold owner
    rw [show a / 512 % 2 = 128 * (a / 128) / 512 % 2 by omega, show a / 256 % 2 = 128 * (a / 128) / 256 % 2 by omega, show a / 128 % 2 = 128 * (a / 128) / 128 % 2 by omega]
  have hq : base k 3 (owner k (128 * (a / 128))) = 128 * (a / 128) := h k ⟨a / 128, by omega⟩
  rw [e, hq]; omega

theorem mix_at (k : Fin 3) (c : Dev nD) (a b : ℕ) (ha : a < 1024) (hb : b < wid k) :
    (mix m c k a b : EReal) = ∑ d : Dev nD, share m d a (col k + b) := by
  unfold mix
  split_ifs with h
  · exact total_at m k c a b h.1 h.2 hb
  · exact total_at m k (owner k a) a b (owner_rows k a ha).1 (owner_rows k a ha).2 hb

/-- Every device's result is the sum of the eight shares. -/
theorem outAt_at (c : Dev nD) (a b : ℕ) (ha : a < 1024) (hb : b < 1024) : (outAt m c a b : EReal) = ∑ d : Dev nD, share m d a b := by
  unfold outAt
  split_ifs with h h'
  · refine (mix_at m 0 c a _ ha ?_).trans ?_
    · show b - 0 < 384; omega
    · show ∑ d : Dev nD, share m d a (0 + (b - 0)) = _; rw [Nat.sub_zero, Nat.zero_add]
  · refine (mix_at m 1 c a _ ha ?_).trans ?_
    · show b - 384 < 384; omega
    · show ∑ d : Dev nD, share m d a (384 + (b - 384)) = _; rw [Nat.add_sub_cancel' (by omega)]
  · refine (mix_at m 2 c a _ ha ?_).trans ?_
    · show b - 768 < 256; omega
    · show ∑ d : Dev nD, share m d a (768 + (b - 768)) = _; rw [Nat.add_sub_cancel' (by omega)]

end Cert.Reduce
-- ==== Proof.Matches.lean ====
/-
  The reference at exact arithmetic, read by row and column, is the sum of the eight devices' shares.
-/
module

public import proofs.«01_k».proof.Proof.Values
public import proofs.«01_k».proof.Proof.Gen.ReferenceIdeal.Run
public import Idealize.ShloMosaic.Lib.Layout
public import Mathlib.Logic.Equiv.Fin.Basic

@[expose] public section

set_option maxRecDepth 10000

noncomputable section

namespace Cert.Reduce

open Cert.Held

open Idealize.ShloMosaic
open Idealize.ShloMosaic.TcCoe
open Idealize.ShloMosaic.ValueIdx

section
open Cert.ReferenceIdeal Cert.ReferenceIdeal.Gen

variable (x : (Mat 1024 1024).Idx → EReal) (W1 : (Mat 1024 16384).Idx → EReal) (W2 : (Mat 16384 1024).Idx → EReal)

/-- The reference's result from its arguments. -/
def refOut : (Mat 1024 1024).Idx → EReal :=
  Host.dotGeneral (F := Ideal) (φ₁ := .f32) (φ₂ := .f32) dot_S1024x16384_S16384x1024_S1024x1024_1_0_0_1_n_n none
    (maximumf (F := Ideal) (φ := .f32) (Host.dotGeneral (F := Ideal) (φ₁ := .f32) (φ₂ := .f32) dot_S1024x1024_S1024x16384_S1024x16384_1_0_0_1_n_n none x W1)
      (broadcastInDim S1024x16384 ![] bcast_S_S1024x16384 (constant S_ .f32 0x00000000#32))) W2

/-- At an index: the sum over all 16384 hidden columns. -/
theorem refOut_at (r l : Fin 1024) :
    refOut x W1 W2 (ix2 r l) = ∑ q : Fin 16384, max (∑ s : Fin 1024, x (ix2 r s) * W1 (ix2 s q)) 0 * W2 (ix2 q l) := by
  refine (StackMember.dotGeneral_plain_apply (φ₁ := .f32) (φ₂ := .f32) none _ _ r l).trans ?_
  refine Finset.sum_congr rfl fun q _ => ?_
  refine congrArg (· * W2 (ix2 q l)) ?_
  rw [← StackMember.dotGeneral_plain_apply (φ₁ := .f32) (φ₂ := .f32) none x W1 r q, ← Ideal.ofBits_zero_f32]
  rfl

end

/-- A sum over 16384 columns, device by device. -/
theorem sum_devices (f : Fin 16384 → EReal) :
    ∑ q : Fin 16384, f q = ∑ d : Fin 8, ∑ t : Fin 2048, f ⟨d.val * 2048 + t.val, by omega⟩ := by
  rw [← Fintype.sum_prod_type', ← Equiv.sum_comp (finProdFinEquiv (m := 8) (n := 2048))]
  refine Finset.sum_congr rfl fun p _ => congrArg f (Fin.ext ?_)
  show p.2.val + 2048 * p.1.val = p.1.val * 2048 + p.2.val
  omega

section
open Cert.KernelIdeal Cert.KernelIdeal.Gen

variable (m : (ℓ : Loc nD τ sig) → Buf (Elt Ideal) ℓ)
variable (x : (Mat 1024 1024).Idx → EReal) (W1 : (Mat 1024 16384).Idx → EReal) (W2 : (Mat 16384 1024).Idx → EReal)

/-- What the devices are given: the whole of `x`, their columns of the first weight and their rows of the second. -/
def Given : Prop := ∀ c : Dev nD,
  m ((c : Thread nD τ).loc main_arg0) = x
  ∧ m ((c : Thread nD τ).loc main_arg1) = Layout.block ⟨2, ![1024, 2048]⟩ ⟨2, ![1024, 16384]⟩ 1 8 c W1
  ∧ m ((c : Thread nD τ).loc main_arg2) = Layout.block ⟨2, ![2048, 1024]⟩ ⟨2, ![16384, 1024]⟩ 0 8 c W2

variable {m x W1 W2}

/-- A device's share in terms of the whole arrays. -/
theorem share_given (h : Given m x W1 W2) (c : Dev nD) (r l : Fin 1024) :
    share m c r l = ∑ t : Fin 2048, max (∑ s : Fin 1024, x (ix2 r s) * W1 (ix2 s ⟨c.val * 2048 + t.val, by have := c.isLt; have : nD = 8 := rfl; omega⟩)) 0
      * W2 (ix2 ⟨c.val * 2048 + t.val, by have := c.isLt; have : nD = 8 := rfl; omega⟩ l) := by
  obtain ⟨h0, h1, h2⟩ := h c
  unfold share
  refine Finset.sum_congr rfl fun t _ => ?_
  rw [hid_at m c r t r.isLt]
  have e2 : (w2In m c t l : EReal) = W2 (ix2 ⟨c.val * 2048 + t.val, by have := c.isLt; have : nD = 8 := rfl; omega⟩ l) := by
    unfold w2In
    rw [nat_at _ _ _ _ _ t.isLt l.isLt, h2, Layout.block_apply]
    refine congrArg W2 (funext fun j => ?_)
    match j with
    | ⟨0, _⟩ => rfl
    | ⟨1, _⟩ => rfl
  rw [e2]
  refine congrArg (fun z : EReal => max z 0 * _) (Finset.sum_congr rfl fun s _ => ?_)
  have e0 : (xIn m c r s : EReal) = x (ix2 r s) := by
    unfold xIn
    rw [nat_at _ _ _ _ _ r.isLt s.isLt, h0]
  have e1 : (w1In m c s t : EReal) = W1 (ix2 s ⟨c.val * 2048 + t.val, by have := c.isLt; have : nD = 8 := rfl; omega⟩) := by
    unfold w1In
    rw [nat_at _ _ _ _ _ s.isLt t.isLt, h1, Layout.block_apply]
    refine congrArg W1 (funext fun j => ?_)
    match j with
    | ⟨0, _⟩ => rfl
    | ⟨1, _⟩ => rfl
  rw [e0, e1]

/-- Every device's result is the reference's. -/
theorem out_ref (h : Given m x W1 W2) (c : Dev nD) : (fn (outAt m c) : (Mat 1024 1024).Idx → EReal) = refOut x W1 W2 := by
  funext i
  have h0 : (i 0).val < 1024 := (i 0).isLt
  have h1 : (i 1).val < 1024 := (i 1).isLt
  have hi : i = ix2 (⟨(i 0).val, h0⟩ : Fin 1024) (⟨(i 1).val, h1⟩ : Fin 1024) := by
    funext j
    match j with
    | ⟨0, _⟩ => rfl
    | ⟨1, _⟩ => rfl
  refine Eq.trans ?_ (congrArg (refOut x W1 W2) hi).symm
  rw [refOut_at, sum_devices]
  refine (outAt_at m c _ _ h0 h1).trans ?_
  exact Finset.sum_congr rfl fun d _ => share_given h d ⟨(i 0).val, h0⟩ ⟨(i 1).val, h1⟩

end

end Cert.Reduce
-- ==== Proof.lean ====
/-
  The five claims: the frames of the kernel at bit patterns and at exact arithmetic and of the reference, the idealization's
  preservation, and the equality of the kernel's result on every device with the reference's at exact arithmetic.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Matches
public import Idealize.ShloMosaic.Adequacy
public import Idealize.ShloMosaic.Init

@[expose] public section

noncomputable section

namespace Cert.Proof

open Idealize.ShloMosaic Idealize.SL.Sem Cert.Kernel

/-- The kernel's run over any float values leaves the arguments and the semaphores as they were: the frame at bit patterns, -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Cert.Reduce.run_main (F := Bits) m ρ)

/-- and at exact arithmetic. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Cert.Reduce.run_main (F := Ideal) m ρ)

/-- The reference's frame. -/
theorem frame_reference : Cert.quiescent_ReferenceIdeal := fun m ρ _ =>
  (θ_run Cert.ReferenceIdeal.defs _ _).mono
    (fun r h => ⟨fun c => ⟨(h c).2.1, (h c).2.2.1, (h c).2.2.2⟩, sem_eq_zero_of_no_sems (by decide) r.2⟩) (Cert.ReferenceIdeal.Value.run (F := Ideal) m ρ)

/-- At exact arithmetic every device ends with the reference's result. -/
theorem algebraic : Cert.algebraic_KernelIdeal_ReferenceIdeal := fun m ρ m' ρ' _ h =>
  ⟨_, (θ_run Cert.KernelIdeal.defs _ _).mono
      (fun _ g c => ⟨(g.1 c).2.2.2.trans (Cert.Reduce.out_ref h c), (g.1 c).1, (g.1 c).2.1, (g.1 c).2.2.1⟩) (Cert.Reduce.run_main (F := Ideal) m ρ),
    (θ_run Cert.ReferenceIdeal.defs _ _).mono (fun _ g => g 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts, frame_kernel, frame_ideal, frame_reference, trivial, algebraic⟩

end Cert.Proof

end
